-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "low" .f32 0xFF61B1E6#32 ⊥
  ∧ IdealRules.named_const.Statement Cert.KernelIdeal.κ "far" .f32 0x7F61B1E6#32 ⊤

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S128x6 : Shape := ⟨2, ![128, 6]⟩
abbrev S128 : Shape := ⟨1, ![128]⟩
abbrev S128x256 : Shape := ⟨2, ![128, 256]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S128x6 : S_.BroadcastsInDim S128x6 (![] : Fin 0 → Fin S128x6.rank)
  reducesTo_S128x6_S_d0_1 : S128x6.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_v47 : IVec S_ 1) (main_v49 : IVec S128 1) (main_c_19 : IVec S_ 1) : IVec S_ 1 :=
  let main_v50 : IVec S_ 1 := (fun x v => Host.reduce IntOp.andi x v reducesTo_S128_S_d0 h_S_) main_v49 main_c_19
  let main_v51 : IVec S_ 1 := andi main_v47 main_v50
  main_v51

def fn_part2 {F : FTy → Type} [FloatOps F] (main_arg6 : FVec F S128 .f32) (main_arg7 : FVec F S128 .f32) (main_arg8 : FVec F S128x256 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_cst_16 : FVec F S_ .f32 := constant S_ .f32 0x00000000#32
  let main_v44 : FVec F S128 .f32 := broadcastInDim S128 ![] bcast_S_S128 main_cst_16
  let main_v45 : IVec S128 1 := cmpf .oge main_arg6 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v43 main_v46
  let main_cst_18 : FVec F S_ .f32 := constant S_ .f32 0x00000000#32
  let main_v48 : FVec F S128 .f32 := broadcastInDim S128 ![] bcast_S_S128 main_cst_18
  let main_v49 : IVec S128 1 := cmpf .oge main_arg9 main_v48
  let main_c_19 : IVec S_ 1 := constantI S_ 1 1#1
  fn_part3 (F := F) main_v47 main_v49 main_c_19

def fn_part1 {F : FTy → Type} [FloatOps F] (main_arg4 : FVec F S128 .f32) (main_arg5 : FVec F S128x256 .f32) (main_arg6 : FVec F S128 .f32) (main_arg7 : FVec F S128 .f32) (main_arg8 : FVec F S128x256 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg6 main_arg7 main_arg8 main_arg9 main_v33

def fn {F : FTy → Type} [FloatOps F] (main_arg0 : FVec F S8x2048x3 .f32) (main_arg1 : FVec F S8x2048x3 .f32) (main_arg2 : FVec F S128x6 .f32) (main_arg3 : FVec F S128 .f32) (main_arg4 : FVec F S128 .f32) (main_arg5 : FVec F S128x256 .f32) (main_arg6 : FVec F S128 .f32) (main_arg7 : FVec F S128 .f32) (main_arg8 : FVec F S128x256 .f32) (main_arg9 : FVec F S128 .f32) (main_arg10 : FVec F S128 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S128x6 .f32 := Host.absf main_arg2
  let main_cst_2 : FVec F S_ .f32 := constant S_ .f32 0x7F800000#32
  let main_v10 : FVec F S128x6 .f32 := broadcastInDim S128x6 ![] bcast_S_S128x6 main_cst_2
  let main_v11 : IVec S128x6 1 := cmpf .olt main_v9 main_v10
  let main_c_3 : IVec S_ 1 := constantI S_ 1 1#1
  let main_v12 : IVec S_ 1 := (fun x v => Host.reduce IntOp.andi x v reducesTo_S128x6_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S8x2048x3 : Shape := ⟨3, ![8, 2048, 3]⟩
abbrev S128x6 : Shape := ⟨2, ![128, 6]⟩
abbrev S128 : Shape := ⟨1, ![128]⟩
abbrev S128x256 : Shape := ⟨2, ![128, 256]⟩
abbrev S6x128 : Shape := ⟨2, ![6, 128]⟩
abbrev S8x1x3 : Shape := ⟨3, ![8, 1, 3]⟩
abbrev S8x2048x128 : Shape := ⟨3, ![8, 2048, 128]⟩
abbrev S8x1x128 : Shape := ⟨3, ![8, 1, 128]⟩
abbrev S1x2048x3 : Shape := ⟨3, ![1, 2048, 3]⟩
abbrev S1x1x3 : Shape := ⟨3, ![1, 1, 3]⟩
abbrev S1x2048x128 : Shape := ⟨3, ![1, 2048, 128]⟩
abbrev S1x1x128 : Shape := ⟨3, ![1, 1, 128]⟩
abbrev S2048x3 : Shape := ⟨2, ![2048, 3]⟩
abbrev S3 : Shape := ⟨1, ![3]⟩
abbrev S1x3 : Shape := ⟨2, ![1, 3]⟩
abbrev S2048x6 : Shape := ⟨2, ![2048, 6]⟩
abbrev S2048x128 : Shape := ⟨2, ![2048, 128]⟩
abbrev S1x128 : Shape := ⟨2, ![1, 128]⟩
abbrev S8x3 : Shape := ⟨2, ![8, 3]⟩
abbrev S8x128 : Shape := ⟨2, ![8, 128]⟩
abbrev S_ : Shape := ⟨0, ![]⟩
abbrev S4x128 : Shape := ⟨2, ![4, 128]⟩
abbrev S8x3x2048 : Shape := ⟨3, ![8, 3, 2048]⟩
abbrev S512x8 : Shape := ⟨2, ![512, 8]⟩
abbrev S8x1x2048 : Shape := ⟨3, ![8, 1, 2048]⟩
abbrev S8x2048 : Shape := ⟨2, ![8, 2048]⟩
abbrev S8x1 : Shape := ⟨2, ![8, 1]⟩
abbrev S1x8 : Shape := ⟨2, ![1, 8]⟩
abbrev S8 : Shape := ⟨1, ![8]⟩
abbrev S8x512 : Shape := ⟨2, ![8, 512]⟩
abbrev S8x512x1 : Shape := ⟨3, ![8, 512, 1]⟩
abbrev S128x128 : Shape := ⟨2, ![128, 128]⟩
abbrev S8x512x128 : Shape := ⟨3, ![8, 512, 128]⟩
abbrev S8x512x3 : Shape := ⟨3, ![8, 512, 3]⟩
abbrev S1x3x2048 : Shape := ⟨3, ![1, 3, 2048]⟩
abbrev S1x512x1 : Shape := ⟨3, ![1, 512, 1]⟩
abbrev S1x512x128 : Shape := ⟨3, ![1, 512, 128]⟩
abbrev S1x512x3 : Shape := ⟨3, ![1, 512, 3]⟩
abbrev S1x1x2048 : Shape := ⟨3, ![1, 1, 2048]⟩
abbrev S1x2048 : Shape := ⟨2, ![1, 2048]⟩
abbrev S512x1 : Shape := ⟨2, ![512, 1]⟩
abbrev S512x2048 : Shape := ⟨2, ![512, 2048]⟩
abbrev S512 : Shape := ⟨1, ![512]⟩
abbrev S512x128 : Shape := ⟨2, ![512, 128]⟩
abbrev S512x3 : Shape := ⟨2, ![512, 3]⟩
abbrev S3x2048 : Shape := ⟨2, ![3, 2048]⟩
abbrev S8x3x512 : Shape := ⟨3, ![8, 3, 512]⟩
abbrev S128x8 : Shape := ⟨2, ![128, 8]⟩
abbrev S8x1x512 : Shape := ⟨3, ![8, 1, 512]⟩
abbrev S8x128x1 : Shape := ⟨3, ![8, 128, 1]⟩
abbrev S8x128x128 : Shape := ⟨3, ![8, 128, 128]⟩
abbrev S8x128x3 : Shape := ⟨3, ![8, 128, 3]⟩
abbrev S1x3x512 : Shape := ⟨3, ![1, 3, 512]⟩
abbrev S1x128x1 : Shape := ⟨3, ![1, 128, 1]⟩
abbrev S1x128x128 : Shape := ⟨3, ![1, 128, 128]⟩
abbrev S1x128x3 : Shape := ⟨3, ![1, 128, 3]⟩
abbrev S1x1x512 : Shape := ⟨3, ![1, 1, 512]⟩
abbrev S1x512 : Shape := ⟨2, ![1, 512]⟩
abbrev S128x1 : Shape := ⟨2, ![128, 1]⟩
abbrev S128x512 : Shape := ⟨2, ![128, 512]⟩
abbrev S128x3 : Shape := ⟨2, ![128, 3]⟩
abbrev S3x512 : Shape := ⟨2, ![3, 512]⟩

abbrev nBuf : Space → Nat
  | .hbm => 116
  | .vmem => 58
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S128x6, .f32⟩
  | .hbm, ⟨3, _⟩ => ⟨S128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S6x128, .f32⟩
  | .hbm, ⟨12, _⟩ => ⟨S8x1x3, .f32⟩
  | .hbm, ⟨13, _⟩ => ⟨S8x2048x3, .f32⟩
  | .hbm, ⟨14, _⟩ => ⟨S8x2048x128, .f32⟩
  | .hbm, ⟨15, _⟩ => ⟨S8x1x128, .f32⟩
  | .hbm, ⟨16, _⟩ => ⟨S8x1x128, .f32⟩
  | .hbm, ⟨17, _⟩ => ⟨S8x3, .f32⟩
  | .hbm, ⟨18, _⟩ => ⟨S8x128, .f32⟩
  | .hbm, ⟨19, _⟩ => ⟨S_, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S8x128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S4x128, .f32⟩
  | .hbm, ⟨41, _⟩ => ⟨S8x3x2048, .f32⟩
  | .hbm, ⟨42, _⟩ => ⟨S512x8, .i32⟩
  | .hbm, ⟨43, _⟩ => ⟨S8x512, .i32⟩
  | .hbm, ⟨44, _⟩ => ⟨S8x512x1, .i32⟩
  | .hbm, ⟨45, _⟩ => ⟨S128x128, .f32⟩
  | .hbm, ⟨46, _⟩ => ⟨S128x128, .f32⟩
  | .hbm, ⟨47, _⟩ => ⟨S128x128, .f32⟩
  | .hbm, ⟨48, _⟩ => ⟨S128x128, .f32⟩
  | .hbm, ⟨49, _⟩ => ⟨S128x128, .f32⟩
  | .hbm, ⟨50, _⟩ => ⟨S128x128, .f32⟩
  | .hbm, ⟨51, _⟩ => ⟨S8x512x128, .f32⟩
  | .hbm, ⟨52, _⟩ => ⟨S8x512x3, .f32⟩
  | .hbm, ⟨53, _⟩ => ⟨S8x1x128, .f32⟩
  | .hbm, ⟨54, _⟩ => ⟨S8x1x128, .f32⟩
  | .hbm, ⟨55, _⟩ => ⟨S8x128, .f32⟩
  | .hbm, ⟨56, _⟩ => ⟨S_, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S8x128, .f32⟩
  | .hbm, ⟨62, _⟩ => ⟨S_, .f32⟩
  | .hbm, ⟨63, _⟩ => ⟨S128, .f32⟩
  | .hbm, ⟨64, _⟩ => ⟨S_, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S4x128, .f32⟩
  | .hbm, ⟨78, _⟩ => ⟨S8x3x512, .f32⟩
  | .hbm, ⟨79, _⟩ => ⟨S128x8, .i32⟩
  | .hbm, ⟨80, _⟩ => ⟨S8x128, .i32⟩
  | .hbm, ⟨81, _⟩ => ⟨S8x128x1, .i32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S128x128, .f32⟩
  | .hbm, ⟨87, _⟩ => ⟨S128x128, .f32⟩
  | .hbm, ⟨88, _⟩ => ⟨S8x128x128, .f32⟩
  | .hbm, ⟨89, _⟩ => ⟨S8x128x3, .f32⟩
  | .hbm, ⟨90, _⟩ => ⟨S8x1x128, .f32⟩
  | .hbm, ⟨91, _⟩ => ⟨S8x1x128, .f32⟩
  | .hbm, ⟨92, _⟩ => ⟨S8x128, .f32⟩
  | .hbm, ⟨93, _⟩ => ⟨S_, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S8x128, .f32⟩
  | .hbm, ⟨99, _⟩ => ⟨S_, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S128, .f32⟩
  | .hbm, ⟨106, _⟩ => ⟨S_, .f32⟩
  | .hbm, ⟨107, _⟩ => ⟨S128, .f32⟩
  | .hbm, ⟨108, _⟩ => ⟨S128, .f32⟩
  | .hbm, ⟨109, _⟩ => ⟨S128, .f32⟩
  | .hbm, ⟨110, _⟩ => ⟨S1x128, .f32⟩
  | .hbm, ⟨111, _⟩ => ⟨S1x128, .f32⟩
  | .hbm, ⟨112, _⟩ => ⟨S1x128, .f32⟩
  | .hbm, ⟨113, _⟩ => ⟨S1x128, .f32⟩
  | .hbm, ⟨114, _⟩ => ⟨S4x128, .f32⟩
  | .hbm, ⟨115, _⟩ => ⟨S8x128x128, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x3, .f32⟩
  | .local _ .vmem, ⟨3, _⟩ => ⟨S1x2048x3, .f32⟩
  | .local _ .vmem, ⟨4, _⟩ => ⟨S6x128, .f32⟩
  | .local _ .vmem, ⟨5, _⟩ => ⟨S1x1x3, .f32⟩
  | .local _ .vmem, ⟨6, _⟩ => ⟨S1x1x3, .f32⟩
  | .local _ .vmem, ⟨7, _⟩ => ⟨S1x2048x3, .f32⟩
  | .local _ .vmem, ⟨8, _⟩ => ⟨S1x2048x3, .f32⟩
  | .local _ .vmem, ⟨9, _⟩ => ⟨S1x2048x128, .f32⟩
  | .local _ .vmem, ⟨10, _⟩ => ⟨S1x2048x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S8x3x2048, .f32⟩
  | .local _ .vmem, ⟨16, _⟩ => ⟨S512x8, .i32⟩
  | .local _ .vmem, ⟨17, _⟩ => ⟨S1x2048x128, .f32⟩
  | .local _ .vmem, ⟨18, _⟩ => ⟨S1x2048x128, .f32⟩
  | .local _ .vmem, ⟨19, _⟩ => ⟨S4x128, .f32⟩
  | .local _ .vmem, ⟨20, _⟩ => ⟨S1x3x2048, .f32⟩
  | .local _ .vmem, ⟨21, _⟩ => ⟨S1x3x2048, .f32⟩
  | .local _ .vmem, ⟨22, _⟩ => ⟨S1x512x1, .i32⟩
  | .local _ .vmem, ⟨23, _⟩ => ⟨S1x512x1, .i32⟩
  | .local _ .vmem, ⟨24, _⟩ => ⟨S128x128, .f32⟩
  | .local _ .vmem, ⟨25, _⟩ => ⟨S128x128, .f32⟩
  | .local _ .vmem, ⟨26, _⟩ => ⟨S1x512x128, .f32⟩
  | .local _ .vmem, ⟨27, _⟩ => ⟨S1x512x128, .f32⟩
  | .local _ .vmem, ⟨28, _⟩ => ⟨S1x512x3, .f32⟩
  | .local _ .vmem, ⟨29, _⟩ => ⟨S1x512x3, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S8x3x512, .f32⟩
  | .local _ .vmem, ⟨35, _⟩ => ⟨S128x8, .i32⟩
  | .local _ .vmem, ⟨36, _⟩ => ⟨S1x512x128, .f32⟩
  | .local _ .vmem, ⟨37, _⟩ => ⟨S1x512x128, .f32⟩
  | .local _ .vmem, ⟨38, _⟩ => ⟨S4x128, .f32⟩
  | .local _ .vmem, ⟨39, _⟩ => ⟨S1x3x512, .f32⟩
  | .local _ .vmem, ⟨40, _⟩ => ⟨S1x3x512, .f32⟩
  | .local _ .vmem, ⟨41, _⟩ => ⟨S1x128x1, .i32⟩
  | .local _ .vmem, ⟨42, _⟩ => ⟨S1x128x1, .i32⟩
  | .local _ .vmem, ⟨43, _⟩ => ⟨S128x128, .f32⟩
  | .local _ .vmem, ⟨44, _⟩ => ⟨S128x128, .f32⟩
  | .local _ .vmem, ⟨45, _⟩ => ⟨S1x128x128, .f32⟩
  | .local _ .vmem, ⟨46, _⟩ => ⟨S1x128x128, .f32⟩
  | .local _ .vmem, ⟨47, _⟩ => ⟨S1x128x3, .f32⟩
  | .local _ .vmem, ⟨48, _⟩ => ⟨S1x128x3, .f32⟩
  | .local _ .vmem, ⟨49, _⟩ => ⟨S1x1x128, .f32⟩
  | .local _ .vmem, ⟨50, _⟩ => ⟨S1x1x128, .f32⟩
  | .local _ .vmem, ⟨51, _⟩ => ⟨S1x1x128, .f32⟩
  | .local _ .vmem, ⟨52, _⟩ => ⟨S1x1x128, .f32⟩
  | .local _ .vmem, ⟨53, _⟩ => ⟨S1x128x128, .f32⟩
  | .local _ .vmem, ⟨54, _⟩ => ⟨S1x128x128, .f32⟩
  | .local _ .vmem, ⟨55, _⟩ => ⟨S4x128, .f32⟩
  | .local _ .vmem, ⟨56, _⟩ => ⟨S1x128x128, .f32⟩
  | .local _ .vmem, ⟨57, _⟩ => ⟨S1x128x128, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v1_2 : Ref sig .tc := ⟨.hbm, 14, rfl⟩
abbrev main_v1_3 : Ref sig .tc := ⟨.hbm, 15, rfl⟩
abbrev main_v1_4 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_cst_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31_0 : Ref sig .tc := ⟨.hbm, 51, rfl⟩
abbrev main_v31_1 : Ref sig .tc := ⟨.hbm, 52, rfl⟩
abbrev main_v31_2 : Ref sig .tc := ⟨.hbm, 53, rfl⟩
abbrev main_v31_3 : Ref sig .tc := ⟨.hbm, 54, rfl⟩
abbrev main_v32 : Ref sig .tc := ⟨.hbm, 55, rfl⟩
abbrev main_cst_4 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60_0 : Ref sig .tc := ⟨.hbm, 88, rfl⟩
abbrev main_v60_1 : Ref sig .tc := ⟨.hbm, 89, rfl⟩
abbrev main_v60_2 : Ref sig .tc := ⟨.hbm, 90, rfl⟩
abbrev main_v60_3 : Ref sig .tc := ⟨.hbm, 91, rfl⟩
abbrev main_v61 : Ref sig .tc := ⟨.hbm, 92, rfl⟩
abbrev main_cst_9 : Ref sig .tc := ⟨.hbm, 93, rfl⟩
abbrev main_v62 : Ref sig .tc := ⟨.hbm, 94, rfl⟩
abbrev main_cst_10 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg1_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_stg9_0 : Ref sig .tc := ⟨.vmem, 32, rfl⟩
abbrev cc2_stg9_1 : Ref sig .tc := ⟨.vmem, 33, rfl⟩
abbrev cc3_stg0_0 : Ref sig .tc := ⟨.vmem, 34, rfl⟩
abbrev cc3_stg1_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg6_1 : Ref sig .tc := ⟨.vmem, 46, rfl⟩
abbrev cc4_stg7_0 : Ref sig .tc := ⟨.vmem, 47, rfl⟩
abbrev cc4_stg7_1 : Ref sig .tc := ⟨.vmem, 48, rfl⟩
abbrev cc4_stg8_0 : Ref sig .tc := ⟨.vmem, 49, rfl⟩
abbrev cc4_stg8_1 : Ref sig .tc := ⟨.vmem, 50, rfl⟩
abbrev cc4_stg9_0 : Ref sig .tc := ⟨.vmem, 51, rfl⟩
abbrev cc4_stg9_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg2_0 : Ref sig .tc := ⟨.vmem, 56, rfl⟩
abbrev cc5_stg2_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem1_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc2_sem8_0 : DmaSem sig := 30
abbrev cc2_sem8_1 : DmaSem sig := 31
abbrev cc2_sem9_0 : DmaSem sig := 32
abbrev cc2_sem9_1 : DmaSem sig := 33
abbrev cc3_sem0_0 : DmaSem sig := 34
abbrev cc3_sem1_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem5_0 : DmaSem sig := 44
abbrev cc4_sem6_0 : DmaSem sig := 45
abbrev cc4_sem6_1 : DmaSem sig := 46
abbrev cc4_sem7_0 : DmaSem sig := 47
abbrev cc4_sem7_1 : DmaSem sig := 48
abbrev cc4_sem8_0 : DmaSem sig := 49
abbrev cc4_sem8_1 : DmaSem sig := 50
abbrev cc4_sem9_0 : DmaSem sig := 51
abbrev cc4_sem9_1 : DmaSem sig := 52
abbrev cc5_sem0_0 : DmaSem sig := 53
abbrev cc5_sem0_1 : DmaSem sig := 54
abbrev cc5_sem1_0 : DmaSem sig := 55
abbrev cc5_sem2_0 : DmaSem sig := 56
abbrev cc5_sem2_1 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := .none

@[reducible] def k1_t1_loop : Scf.Loop 32 :=
  let c0_i32_6 : BitVec 32 := 0#32
  let c512_i32 : BitVec 32 := 512#32
  let v9 : BitVec 32 := Scalar.addi c0_i32_6 c512_i32
  let c1_i32 : BitVec 32 := 1#32
  ⟨c0_i32_6, v9, c1_i32⟩
def k1_off1 (k1_t1 : Fin k1_t1_loop.trips) : Fin 2 → Nat :=
  let c0_i32_6 : BitVec 32 := 0#32
  let c1_i32 : BitVec 32 := 1#32
  let arg2 : BitVec 32 := Scf.iv c0_i32_6 c1_i32 k1_t1
  let v14 : Index := Scalar.indexCast arg2
  let c0_8 : Index := 0#32
  ![v14.toNat, 0]
abbrev stage1_0 : Fin 1 → Memref sig .tc .vmem S8x3x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x8 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![8], ![false]⟩

@[reducible] def k2_t1_loop : Scf.Loop 32 :=
  let c0_i32 : BitVec 32 := 0#32
  let c32_i32 : BitVec 32 := 32#32
  let v80 : BitVec 32 := Scalar.addi c0_i32 c32_i32
  let c1_i32 : BitVec 32 := 1#32
  ⟨c0_i32, v80, c1_i32⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x3x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x512x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x512x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := .none

@[reducible] def k3_t1_loop : Scf.Loop 32 :=
  let c0_i32_6 : BitVec 32 := 0#32
  let c128_i32 : BitVec 32 := 128#32
  let v9 : BitVec 32 := Scalar.addi c0_i32_6 c128_i32
  let c1_i32 : BitVec 32 := 1#32
  ⟨c0_i32_6, v9, c1_i32⟩
def k3_off1 (k3_t1 : Fin k3_t1_loop.trips) : Fin 2 → Nat :=
  let c0_i32_6 : BitVec 32 := 0#32
  let c1_i32 : BitVec 32 := 1#32
  let arg2 : BitVec 32 := Scf.iv c0_i32_6 c1_i32 k3_t1
  let v14 : Index := Scalar.indexCast arg2
  let c0_8 : Index := 0#32
  ![v14.toNat, 0]
abbrev stage3_0 : Fin 1 → Memref sig .tc .vmem S8x3x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x8 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev grid4 : Pipeline.Grid := ⟨1, ![8], ![false]⟩

@[reducible] def k4_t1_loop : Scf.Loop 32 :=
  let c0_i32 : BitVec 32 := 0#32
  let c16_i32 : BitVec 32 := 16#32
  let v80 : BitVec 32 := Scalar.addi c0_i32 c16_i32
  let c1_i32 : BitVec 32 := 1#32
  ⟨c0_i32, v80, c1_i32⟩
def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x512x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x3x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x128x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S1x128x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S1x128x3 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1x1x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 2 → Memref sig .tc .vmem S1x1x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x128x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S4x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x128x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== KernelIdeal.lean ====
variable {F : FTy → Type} [FloatOps F] [Named F]
def κ : String → Option EReal := fun
  | "far" => some ⊤
  | "low" => some ⊥
  | _ => none
-- ==== ReferenceIdeal.lean ====
abbrev S8x2048x3 : Shape := ⟨3, ![8, 2048, 3]⟩
abbrev S128x6 : Shape := ⟨2, ![128, 6]⟩
abbrev S128 : Shape := ⟨1, ![128]⟩
abbrev S128x256 : Shape := ⟨2, ![128, 256]⟩
abbrev S_ : Shape := ⟨0, ![]⟩
abbrev S8x3 : Shape := ⟨2, ![8, 3]⟩
abbrev S8x1x3 : Shape := ⟨3, ![8, 1, 3]⟩
abbrev S8x2048x6 : Shape := ⟨3, ![8, 2048, 6]⟩
abbrev S8x2048x128 : Shape := ⟨3, ![8, 2048, 128]⟩
abbrev S1x1x128 : Shape := ⟨3, ![1, 1, 128]⟩
abbrev S8x2048 : Shape := ⟨2, ![8, 2048]⟩
abbrev S8 : Shape := ⟨1, ![8]⟩
abbrev S512x8 : Shape := ⟨2, ![512, 8]⟩
abbrev S8x1 : Shape := ⟨2, ![8, 1]⟩
abbrev S8x1x1 : Shape := ⟨3, ![8, 1, 1]⟩
abbrev S1x8 : Shape := ⟨2, ![1, 8]⟩
abbrev S8x512 : Shape := ⟨2, ![8, 512]⟩
abbrev S8x512x1 : Shape := ⟨3, ![8, 512, 1]⟩
abbrev S8x512x3 : Shape := ⟨3, ![8, 512, 3]⟩
abbrev S8x512x128 : Shape := ⟨3, ![8, 512, 128]⟩
abbrev S8x1x2048 : Shape := ⟨3, ![8, 1, 2048]⟩
abbrev S8x512x2048 : Shape := ⟨3, ![8, 512, 2048]⟩
abbrev S8x512x32 : Shape := ⟨3, ![8, 512, 32]⟩
abbrev S8x512x32x1 : Shape := ⟨4, ![8, 512, 32, 1]⟩
abbrev S8x512x32x128 : Shape := ⟨4, ![8, 512, 32, 128]⟩
abbrev S8x512x1x128 : Shape := ⟨4, ![8, 512, 1, 128]⟩
abbrev S8x512x32x256 : Shape := ⟨4, ![8, 512, 32, 256]⟩
abbrev S1x1x1x128 : Shape := ⟨4, ![1, 1, 1, 128]⟩
abbrev S128x8 : Shape := ⟨2, ![128, 8]⟩
abbrev S8x128 : Shape := ⟨2, ![8, 128]⟩
abbrev S8x128x1 : Shape := ⟨3, ![8, 128, 1]⟩
abbrev S8x128x3 : Shape := ⟨3, ![8, 128, 3]⟩
abbrev S8x128x128 : Shape := ⟨3, ![8, 128, 128]⟩
abbrev S8x1x512 : Shape := ⟨3, ![8, 1, 512]⟩
abbrev S8x128x512 : Shape := ⟨3, ![8, 128, 512]⟩
abbrev S8x128x16 : Shape := ⟨3, ![8, 128, 16]⟩
abbrev S8x128x16x1 : Shape := ⟨4, ![8, 128, 16, 1]⟩
abbrev S8x128x16x128 : Shape := ⟨4, ![8, 128, 16, 128]⟩
abbrev S8x128x1x128 : Shape := ⟨4, ![8, 128, 1, 128]⟩
abbrev S8x128x16x256 : Shape := ⟨4, ![8, 128, 16, 256]⟩

abbrev nBuf : Space → Nat
  | .hbm => 314
  | .vmem => 0
  | .smem => 0
  | _ => 0

abbrev hbmTy0_0 (i : Nat) : BufTy := match i % 128 with
  | 0 => ⟨S8x2048x3, .f32⟩
  | 1 => ⟨S8x2048x3, .f32⟩
  | 2 => ⟨S128x6, .f32⟩
  | 3 => ⟨S128, .f32⟩
  | 4 => ⟨S128, .f32⟩
  | 5 => ⟨S128x256, .f32⟩
  | 6 => ⟨S128, .f32⟩
  | 7 => ⟨S128, .f32⟩
  | 8 => ⟨S128x256, .f32⟩
  | 9 => ⟨S128, .f32⟩
  | 10 => ⟨S128, .f32⟩
  | 11 => ⟨S_, .f32⟩
  | 12 => ⟨S8x3, .f32⟩
  | 13 => ⟨S_, .f32⟩
  | 14 => ⟨S8x3, .f32⟩
  | 15 => ⟨S8x3, .f32⟩
  | 16 => ⟨S8x1x3, .f32⟩
  | 17 => ⟨S8x2048x3, .f32⟩
  | 18 => ⟨S8x2048x3, .f32⟩
  | 19 => ⟨S8x2048x6, .f32⟩
  | 20 => ⟨S8x2048x128, .f32⟩
  | 21 => ⟨S_, .f32⟩
  | 22 => ⟨S128, .f32⟩
  | 23 => ⟨S_, .f32⟩
  | 24 => ⟨S128, .f32⟩
  | 25 => ⟨S128, .f32⟩
  | 26 => ⟨S1x1x128, .f32⟩
  | 27 => ⟨S8x2048x128, .f32⟩
  | 28 => ⟨S8x2048x128, .f32⟩
  | 29 => ⟨S8x2048x128, .f32⟩
  | 30 => ⟨S_, .f32⟩
  | 31 => ⟨S128, .f32⟩
  | 32 => ⟨S_, .f32⟩
  | 33 => ⟨S128, .f32⟩
  | 34 => ⟨S128, .f32⟩
  | 35 => ⟨S1x1x128, .f32⟩
  | 36 => ⟨S8x2048x128, .f32⟩
  | 37 => ⟨S8x2048x128, .f32⟩
  | 38 => ⟨S_, .f32⟩
  | 39 => ⟨S128, .f32⟩
  | 40 => ⟨S128, .f32⟩
  | 41 => ⟨S128, .f32⟩
  | 42 => ⟨S1x1x128, .f32⟩
  | 43 => ⟨S8x2048x128, .f32⟩
  | 44 => ⟨S8x2048x128, .f32⟩
  | 45 => ⟨S1x1x128, .f32⟩
  | 46 => ⟨S8x2048x128, .f32⟩
  | 47 => ⟨S8x2048x128, .f32⟩
  | 48 => ⟨S1x1x128, .f32⟩
  | 49 => ⟨S8x2048x128, .f32⟩
  | 50 => ⟨S8x2048x128, .f32⟩
  | 51 => ⟨S_, .f32⟩
  | 52 => ⟨S8x2048x128, .f32⟩
  | 53 => ⟨S8x2048x128, .f32⟩
  | 54 => ⟨S_, .f32⟩
  | 55 => ⟨S8x2048, .f32⟩
  | 56 => ⟨S_, .i32⟩
  | 57 => ⟨S8, .i32⟩
  | 58 => ⟨S_, .i32⟩
  | 59 => ⟨S512x8, .i32⟩
  | 60 => ⟨S_, .i32⟩
  | 61 => ⟨S8x2048x3, .f32⟩
  | 62 => ⟨S_, .i32⟩
  | 63 => ⟨S8x2048, .f32⟩
  | 64 => ⟨S8, .i32⟩
  | 65 => ⟨S512x8, .i32⟩
  | 66 => ⟨S_, .i32⟩
  | 67 => ⟨S_, .i1⟩
  | 68 => ⟨S8x1, .i32⟩
  | 69 => ⟨S_, .i32⟩
  | 70 => ⟨S8x1, .i32⟩
  | 71 => ⟨S8x1, .i1⟩
  | 72 => ⟨S_, .i32⟩
  | 73 => ⟨S8x1, .i32⟩
  | 74 => ⟨S8x1, .i32⟩
  | 75 => ⟨S8x1, .i32⟩
  | 76 => ⟨S8x1x1, .i32⟩
  | 77 => ⟨S8x1x3, .f32⟩
  | 78 => ⟨S8x2048x3, .f32⟩
  | 79 => ⟨S8x2048x3, .f32⟩
  | 80 => ⟨S8x2048x3, .f32⟩
  | 81 => ⟨S_, .f32⟩
  | 82 => ⟨S8x2048, .f32⟩
  | 83 => ⟨S8x2048, .f32⟩
  | 84 => ⟨S8x2048, .i32⟩
  | 85 => ⟨S_, .f32⟩
  | 86 => ⟨S_, .i32⟩
  | 87 => ⟨S8, .f32⟩
  | 88 => ⟨S8, .i32⟩
  | 89 => ⟨S1x8, .i32⟩
  | 90 => ⟨S_, .i32⟩
  | 91 => ⟨S512x8, .i32⟩
  | 92 => ⟨S_, .i32⟩
  | 93 => ⟨S_, .i32⟩
  | 94 => ⟨S8x512, .i32⟩
  | 95 => ⟨S_, .i32⟩
  | 96 => ⟨S8x512, .i32⟩
  | 97 => ⟨S8x512, .i1⟩
  | 98 => ⟨S_, .i32⟩
  | 99 => ⟨S8x512, .i32⟩
  | 100 => ⟨S8x512, .i32⟩
  | 101 => ⟨S8x512, .i32⟩
  | 102 => ⟨S8x512x1, .i32⟩
  | 103 => ⟨S8x512x3, .f32⟩
  | 104 => ⟨S_, .i32⟩
  | 105 => ⟨S8x512, .i32⟩
  | 106 => ⟨S8x512, .i1⟩
  | 107 => ⟨S_, .i32⟩
  | 108 => ⟨S8x512, .i32⟩
  | 109 => ⟨S8x512, .i32⟩
  | 110 => ⟨S8x512, .i32⟩
  | 111 => ⟨S8x512x1, .i32⟩
  | 112 => ⟨S8x512x128, .f32⟩
  | 113 => ⟨S8x512x3, .f32⟩
  | 114 => ⟨S_, .f32⟩
  | 115 => ⟨S8x512, .f32⟩
  | 116 => ⟨S8x512x1, .f32⟩
  | 117 => ⟨S8x2048x3, .f32⟩
  | 118 => ⟨S_, .f32⟩
  | 119 => ⟨S8x2048, .f32⟩
  | 120 => ⟨S8x1x2048, .f32⟩
  | 121 => ⟨S8x512x2048, .f32⟩
  | 122 => ⟨S8x512x2048, .f32⟩
  | 123 => ⟨S8x512x2048, .f32⟩
  | 124 => ⟨S8x512x2048, .f32⟩
  | 125 => ⟨S_, .f32⟩
  | 126 => ⟨S8x512x2048, .f32⟩
  | 127 => ⟨S8x512x2048, .f32⟩
  | _ => ⟨S8x2048x3, .f32⟩

abbrev hbmTy0_1 (i : Nat) : BufTy := match i % 128 with
  | 0 => ⟨S8x512x2048, .f32⟩
  | 1 => ⟨S8x512x2048, .i32⟩
  | 2 => ⟨S8x512x2048, .f32⟩
  | 3 => ⟨S8x512x2048, .i32⟩
  | 4 => ⟨S8x512x32, .i32⟩
  | 5 => ⟨S_, .i32⟩
  | 6 => ⟨S8x512x32, .i32⟩
  | 7 => ⟨S8x512x32, .i1⟩
  | 8 => ⟨S_, .i32⟩
  | 9 => ⟨S8x512x32, .i32⟩
  | 10 => ⟨S8x512x32, .i32⟩
  | 11 => ⟨S8x512x32, .i32⟩
  | 12 => ⟨S8x512x32x1, .i32⟩
  | 13 => ⟨S8x512x32x128, .f32⟩
  | 14 => ⟨S8x512x1x128, .f32⟩
  | 15 => ⟨S8x512x32x128, .f32⟩
  | 16 => ⟨S8x512x32x128, .f32⟩
  | 17 => ⟨S8x512x1x128, .f32⟩
  | 18 => ⟨S8x512x32x128, .f32⟩
  | 19 => ⟨S8x512x32x256, .f32⟩
  | 20 => ⟨S8x512x32x128, .f32⟩
  | 21 => ⟨S_, .f32⟩
  | 22 => ⟨S128, .f32⟩
  | 23 => ⟨S_, .f32⟩
  | 24 => ⟨S128, .f32⟩
  | 25 => ⟨S128, .f32⟩
  | 26 => ⟨S1x1x1x128, .f32⟩
  | 27 => ⟨S8x512x32x128, .f32⟩
  | 28 => ⟨S8x512x32x128, .f32⟩
  | 29 => ⟨S8x512x32x128, .f32⟩
  | 30 => ⟨S_, .f32⟩
  | 31 => ⟨S128, .f32⟩
  | 32 => ⟨S_, .f32⟩
  | 33 => ⟨S128, .f32⟩
  | 34 => ⟨S128, .f32⟩
  | 35 => ⟨S1x1x1x128, .f32⟩
  | 36 => ⟨S8x512x32x128, .f32⟩
  | 37 => ⟨S8x512x32x128, .f32⟩
  | 38 => ⟨S_, .f32⟩
  | 39 => ⟨S128, .f32⟩
  | 40 => ⟨S128, .f32⟩
  | 41 => ⟨S128, .f32⟩
  | 42 => ⟨S1x1x1x128, .f32⟩
  | 43 => ⟨S8x512x32x128, .f32⟩
  | 44 => ⟨S8x512x32x128, .f32⟩
  | 45 => ⟨S1x1x1x128, .f32⟩
  | 46 => ⟨S8x512x32x128, .f32⟩
  | 47 => ⟨S8x512x32x128, .f32⟩
  | 48 => ⟨S1x1x1x128, .f32⟩
  | 49 => ⟨S8x512x32x128, .f32⟩
  | 50 => ⟨S8x512x32x128, .f32⟩
  | 51 => ⟨S_, .f32⟩
  | 52 => ⟨S8x512x32x128, .f32⟩
  | 53 => ⟨S8x512x32x128, .f32⟩
  | 54 => ⟨S_, .f32⟩
  | 55 => ⟨S8x512x128, .f32⟩
  | 56 => ⟨S_, .f32⟩
  | 57 => ⟨S8x512, .f32⟩
  | 58 => ⟨S_, .i32⟩
  | 59 => ⟨S8, .i32⟩
  | 60 => ⟨S_, .i32⟩
  | 61 => ⟨S128x8, .i32⟩
  | 62 => ⟨S_, .i32⟩
  | 63 => ⟨S8x512x3, .f32⟩
  | 64 => ⟨S_, .i32⟩
  | 65 => ⟨S8x512, .f32⟩
  | 66 => ⟨S8, .i32⟩
  | 67 => ⟨S128x8, .i32⟩
  | 68 => ⟨S_, .i32⟩
  | 69 => ⟨S_, .i1⟩
  | 70 => ⟨S8x1, .i32⟩
  | 71 => ⟨S_, .i32⟩
  | 72 => ⟨S8x1, .i32⟩
  | 73 => ⟨S8x1, .i1⟩
  | 74 => ⟨S_, .i32⟩
  | 75 => ⟨S8x1, .i32⟩
  | 76 => ⟨S8x1, .i32⟩
  | 77 => ⟨S8x1, .i32⟩
  | 78 => ⟨S8x1x1, .i32⟩
  | 79 => ⟨S8x1x3, .f32⟩
  | 80 => ⟨S8x512x3, .f32⟩
  | 81 => ⟨S8x512x3, .f32⟩
  | 82 => ⟨S8x512x3, .f32⟩
  | 83 => ⟨S_, .f32⟩
  | 84 => ⟨S8x512, .f32⟩
  | 85 => ⟨S8x512, .f32⟩
  | 86 => ⟨S8x512, .i32⟩
  | 87 => ⟨S_, .f32⟩
  | 88 => ⟨S_, .i32⟩
  | 89 => ⟨S8, .f32⟩
  | 90 => ⟨S8, .i32⟩
  | 91 => ⟨S1x8, .i32⟩
  | 92 => ⟨S_, .i32⟩
  | 93 => ⟨S128x8, .i32⟩
  | 94 => ⟨S_, .i32⟩
  | 95 => ⟨S_, .i32⟩
  | 96 => ⟨S8x128, .i32⟩
  | 97 => ⟨S_, .i32⟩
  | 98 => ⟨S8x128, .i32⟩
  | 99 => ⟨S8x128, .i1⟩
  | 100 => ⟨S_, .i32⟩
  | 101 => ⟨S8x128, .i32⟩
  | 102 => ⟨S8x128, .i32⟩
  | 103 => ⟨S8x128, .i32⟩
  | 104 => ⟨S8x128x1, .i32⟩
  | 105 => ⟨S8x128x3, .f32⟩
  | 106 => ⟨S_, .i32⟩
  | 107 => ⟨S8x128, .i32⟩
  | 108 => ⟨S8x128, .i1⟩
  | 109 => ⟨S_, .i32⟩
  | 110 => ⟨S8x128, .i32⟩
  | 111 => ⟨S8x128, .i32⟩
  | 112 => ⟨S8x128, .i32⟩
  | 113 => ⟨S8x128x1, .i32⟩
  | 114 => ⟨S8x128x128, .f32⟩
  | 115 => ⟨S8x128x3, .f32⟩
  | 116 => ⟨S_, .f32⟩
  | 117 => ⟨S8x128, .f32⟩
  | 118 => ⟨S8x128x1, .f32⟩
  | 119 => ⟨S8x512x3, .f32⟩
  | 120 => ⟨S_, .f32⟩
  | 121 => ⟨S8x512, .f32⟩
  | 122 => ⟨S8x1x512, .f32⟩
  | 123 => ⟨S8x128x512, .f32⟩
  | 124 => ⟨S8x128x512, .f32⟩
  | 125 => ⟨S8x128x512, .f32⟩
  | 126 => ⟨S8x128x512, .f32⟩
  | 127 => ⟨S_, .f32⟩
  | _ => ⟨S8x2048x3, .f32⟩

abbrev hbmTy0_2 (i : Nat) : BufTy := match i % 128 with
  | 0 => ⟨S8x128x512, .f32⟩
  | 1 => ⟨S8x128x512, .f32⟩
  | 2 => ⟨S8x128x512, .f32⟩
  | 3 => ⟨S8x128x512, .i32⟩
  | 4 => ⟨S8x128x512, .f32⟩
  | 5 => ⟨S8x128x512, .i32⟩
  | 6 => ⟨S8x128x16, .i32⟩
  | 7 => ⟨S_, .i32⟩
  | 8 => ⟨S8x128x16, .i32⟩
  | 9 => ⟨S8x128x16, .i1⟩
  | 10 => ⟨S_, .i32⟩
  | 11 => ⟨S8x128x16, .i32⟩
  | 12 => ⟨S8x128x16, .i32⟩
  | 13 => ⟨S8x128x16, .i32⟩
  | 14 => ⟨S8x128x16x1, .i32⟩
  | 15 => ⟨S8x128x16x128, .f32⟩
  | 16 => ⟨S8x128x1x128, .f32⟩
  | 17 => ⟨S8x128x16x128, .f32⟩
  | 18 => ⟨S8x128x16x128, .f32⟩
  | 19 => ⟨S8x128x1x128, .f32⟩
  | 20 => ⟨S8x128x16x128, .f32⟩
  | 21 => ⟨S8x128x16x256, .f32⟩
  | 22 => ⟨S8x128x16x128, .f32⟩
  | 23 => ⟨S_, .f32⟩
  | 24 => ⟨S128, .f32⟩
  | 25 => ⟨S_, .f32⟩
  | 26 => ⟨S128, .f32⟩
  | 27 => ⟨S128, .f32⟩
  | 28 => ⟨S1x1x1x128, .f32⟩
  | 29 => ⟨S8x128x16x128, .f32⟩
  | 30 => ⟨S8x128x16x128, .f32⟩
  | 31 => ⟨S8x128x16x128, .f32⟩
  | 32 => ⟨S_, .f32⟩
  | 33 => ⟨S128, .f32⟩
  | 34 => ⟨S_, .f32⟩
  | 35 => ⟨S128, .f32⟩
  | 36 => ⟨S128, .f32⟩
  | 37 => ⟨S1x1x1x128, .f32⟩
  | 38 => ⟨S8x128x16x128, .f32⟩
  | 39 => ⟨S8x128x16x128, .f32⟩
  | 40 => ⟨S_, .f32⟩
  | 41 => ⟨S128, .f32⟩
  | 42 => ⟨S128, .f32⟩
  | 43 => ⟨S128, .f32⟩
  | 44 => ⟨S1x1x1x128, .f32⟩
  | 45 => ⟨S8x128x16x128, .f32⟩
  | 46 => ⟨S8x128x16x128, .f32⟩
  | 47 => ⟨S1x1x1x128, .f32⟩
  | 48 => ⟨S8x128x16x128, .f32⟩
  | 49 => ⟨S8x128x16x128, .f32⟩
  | 50 => ⟨S1x1x1x128, .f32⟩
  | 51 => ⟨S8x128x16x128, .f32⟩
  | 52 => ⟨S8x128x16x128, .f32⟩
  | 53 => ⟨S_, .f32⟩
  | 54 => ⟨S8x128x16x128, .f32⟩
  | 55 => ⟨S8x128x16x128, .f32⟩
  | 56 => ⟨S_, .f32⟩
  | 57 => ⟨S8x128x128, .f32⟩
  | _ => ⟨S8x2048x3, .f32⟩

abbrev hbmTy (i : Nat) : BufTy := match i / 128 with
  | 0 => hbmTy0_0 i
  | 1 => hbmTy0_1 i
  | 2 => hbmTy0_2 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_c : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_c_9 : Ref sig .tc := ⟨.hbm, 60, rfl⟩
abbrev main_v38_0 : Ref sig .tc := ⟨.hbm, 61, rfl⟩
abbrev main_v38_1 : Ref sig .tc := ⟨.hbm, 62, rfl⟩
abbrev main_v38_2 : Ref sig .tc := ⟨.hbm, 63, rfl⟩
abbrev main_v38_3 : Ref sig .tc := ⟨.hbm, 64, rfl⟩
abbrev main_v38_4 : Ref sig .tc := ⟨.hbm, 65, rfl⟩
abbrev main_while0c_c_50 : Ref sig .tc := ⟨.hbm, 66, rfl⟩
abbrev main_while0c_v187 : Ref sig .tc := ⟨.hbm, 67, rfl⟩
abbrev main_while0b_v187 : Ref sig .tc := ⟨.hbm, 68, rfl⟩
abbrev main_while0b_c_50 : Ref sig .tc := ⟨.hbm, 69, rfl⟩
abbrev main_while0b_v188 : Ref sig .tc := ⟨.hbm, 70, rfl⟩
abbrev main_while0b_v189 : Ref sig .tc := ⟨.hbm, 71, rfl⟩
abbrev main_while0b_c_51 : Ref sig .tc := ⟨.hbm, 72, rfl⟩
abbrev main_while0b_v190 : Ref sig .tc := ⟨.hbm, 73, rfl⟩
abbrev main_while0b_v191 : Ref sig .tc := ⟨.hbm, 74, rfl⟩
abbrev main_while0b_v192 : Ref sig .tc := ⟨.hbm, 75, rfl⟩
abbrev main_while0b_v193 : Ref sig .tc := ⟨.hbm, 76, rfl⟩
abbrev main_while0b_v194 : Ref sig .tc := ⟨.hbm, 77, rfl⟩
abbrev main_while0b_v195 : Ref sig .tc := ⟨.hbm, 78, rfl⟩
abbrev main_while0b_v196 : Ref sig .tc := ⟨.hbm, 79, rfl⟩
abbrev main_while0b_v197 : Ref sig .tc := ⟨.hbm, 80, rfl⟩
abbrev main_while0b_cst_52 : Ref sig .tc := ⟨.hbm, 81, rfl⟩
abbrev main_while0b_v198 : Ref sig .tc := ⟨.hbm, 82, rfl⟩
abbrev main_while0b_v199 : Ref sig .tc := ⟨.hbm, 83, rfl⟩
abbrev main_while0b_call0_v0 : Ref sig .tc := ⟨.hbm, 84, rfl⟩
abbrev main_while0b_call0_cst : Ref sig .tc := ⟨.hbm, 85, rfl⟩
abbrev main_while0b_call0_c : Ref sig .tc := ⟨.hbm, 86, rfl⟩
abbrev main_while0b_call0_v1_0 : Ref sig .tc := ⟨.hbm, 87, rfl⟩
abbrev main_while0b_v200 : Ref sig .tc := ⟨.hbm, 88, rfl⟩
abbrev main_while0b_call1_v0 : Ref sig .tc := ⟨.hbm, 89, rfl⟩
abbrev main_while0b_call1_c : Ref sig .tc := ⟨.hbm, 90, rfl⟩
abbrev main_while0b_v201 : Ref sig .tc := ⟨.hbm, 91, rfl⟩
abbrev main_while0b_c_53 : Ref sig .tc := ⟨.hbm, 92, rfl⟩
abbrev main_while0b_v202 : Ref sig .tc := ⟨.hbm, 93, rfl⟩
abbrev main_v39 : Ref sig .tc := ⟨.hbm, 94, rfl⟩
abbrev main_c_10 : Ref sig .tc := ⟨.hbm, 95, rfl⟩
abbrev main_v40 : Ref sig .tc := ⟨.hbm, 96, rfl⟩
abbrev main_v41 : Ref sig .tc := ⟨.hbm, 97, rfl⟩
abbrev main_c_11 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_c_12 : Ref sig .tc := ⟨.hbm, 104, rfl⟩
abbrev main_v47 : Ref sig .tc := ⟨.hbm, 105, rfl⟩
abbrev main_v48 : Ref sig .tc := ⟨.hbm, 106, rfl⟩
abbrev main_c_13 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_cst_14 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_cst_15 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_cst_16 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_call2_v0 : Ref sig .tc := ⟨.hbm, 129, rfl⟩
abbrev main_call2_v1_0 : Ref sig .tc := ⟨.hbm, 130, rfl⟩
abbrev main_v67 : Ref sig .tc := ⟨.hbm, 131, rfl⟩
abbrev main_v68 : Ref sig .tc := ⟨.hbm, 132, rfl⟩
abbrev main_c_17 : Ref sig .tc := ⟨.hbm, 133, rfl⟩
abbrev main_v69 : Ref sig .tc := ⟨.hbm, 134, rfl⟩
abbrev main_v70 : Ref sig .tc := ⟨.hbm, 135, rfl⟩
abbrev main_c_18 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_cst_19 : Ref sig .tc := ⟨.hbm, 149, rfl⟩
abbrev main_v83 : Ref sig .tc := ⟨.hbm, 150, rfl⟩
abbrev main_cst_20 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_cst_21 : Ref sig .tc := ⟨.hbm, 158, rfl⟩
abbrev main_v90 : Ref sig .tc := ⟨.hbm, 159, rfl⟩
abbrev main_cst_22 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_23 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_cst_24 : Ref sig .tc := ⟨.hbm, 179, rfl⟩
abbrev main_v108 : Ref sig .tc := ⟨.hbm, 180, rfl⟩
abbrev main_v109 : Ref sig .tc := ⟨.hbm, 181, rfl⟩
abbrev main_cst_25 : Ref sig .tc := ⟨.hbm, 182, rfl⟩
abbrev main_v110 : Ref sig .tc := ⟨.hbm, 183, rfl⟩
abbrev main_cst_26 : Ref sig .tc := ⟨.hbm, 184, rfl⟩
abbrev main_v111 : Ref sig .tc := ⟨.hbm, 185, rfl⟩
abbrev main_c_27 : Ref sig .tc := ⟨.hbm, 186, rfl⟩
abbrev main_v112 : Ref sig .tc := ⟨.hbm, 187, rfl⟩
abbrev main_c_28 : Ref sig .tc := ⟨.hbm, 188, rfl⟩
abbrev main_v113 : Ref sig .tc := ⟨.hbm, 189, rfl⟩
abbrev main_c_29 : Ref sig .tc := ⟨.hbm, 190, rfl⟩
abbrev main_v114_0 : Ref sig .tc := ⟨.hbm, 191, rfl⟩
abbrev main_v114_1 : Ref sig .tc := ⟨.hbm, 192, rfl⟩
abbrev main_v114_2 : Ref sig .tc := ⟨.hbm, 193, rfl⟩
abbrev main_v114_3 : Ref sig .tc := ⟨.hbm, 194, rfl⟩
abbrev main_v114_4 : Ref sig .tc := ⟨.hbm, 195, rfl⟩
abbrev main_while1c_c_50 : Ref sig .tc := ⟨.hbm, 196, rfl⟩
abbrev main_while1c_v187 : Ref sig .tc := ⟨.hbm, 197, rfl⟩
abbrev main_while1b_v187 : Ref sig .tc := ⟨.hbm, 198, rfl⟩
abbrev main_while1b_c_50 : Ref sig .tc := ⟨.hbm, 199, rfl⟩
abbrev main_while1b_v188 : Ref sig .tc := ⟨.hbm, 200, rfl⟩
abbrev main_while1b_v189 : Ref sig .tc := ⟨.hbm, 201, rfl⟩
abbrev main_while1b_c_51 : Ref sig .tc := ⟨.hbm, 202, rfl⟩
abbrev main_while1b_v190 : Ref sig .tc := ⟨.hbm, 203, rfl⟩
abbrev main_while1b_v191 : Ref sig .tc := ⟨.hbm, 204, rfl⟩
abbrev main_while1b_v192 : Ref sig .tc := ⟨.hbm, 205, rfl⟩
abbrev main_while1b_v193 : Ref sig .tc := ⟨.hbm, 206, rfl⟩
abbrev main_while1b_v194 : Ref sig .tc := ⟨.hbm, 207, rfl⟩
abbrev main_while1b_v195 : Ref sig .tc := ⟨.hbm, 208, rfl⟩
abbrev main_while1b_v196 : Ref sig .tc := ⟨.hbm, 209, rfl⟩
abbrev main_while1b_v197 : Ref sig .tc := ⟨.hbm, 210, rfl⟩
abbrev main_while1b_cst_52 : Ref sig .tc := ⟨.hbm, 211, rfl⟩
abbrev main_while1b_v198 : Ref sig .tc := ⟨.hbm, 212, rfl⟩
abbrev main_while1b_v199 : Ref sig .tc := ⟨.hbm, 213, rfl⟩
abbrev main_while1b_call3_v0 : Ref sig .tc := ⟨.hbm, 214, rfl⟩
abbrev main_while1b_call3_cst : Ref sig .tc := ⟨.hbm, 215, rfl⟩
abbrev main_while1b_call3_c : Ref sig .tc := ⟨.hbm, 216, rfl⟩
abbrev main_while1b_call3_v1_0 : Ref sig .tc := ⟨.hbm, 217, rfl⟩
abbrev main_while1b_v200 : Ref sig .tc := ⟨.hbm, 218, rfl⟩
abbrev main_while1b_call4_v0 : Ref sig .tc := ⟨.hbm, 219, rfl⟩
abbrev main_while1b_call4_c : Ref sig .tc := ⟨.hbm, 220, rfl⟩
abbrev main_while1b_v201 : Ref sig .tc := ⟨.hbm, 221, rfl⟩
abbrev main_while1b_c_53 : Ref sig .tc := ⟨.hbm, 222, rfl⟩
abbrev main_while1b_v202 : Ref sig .tc := ⟨.hbm, 223, rfl⟩
abbrev main_v115 : Ref sig .tc := ⟨.hbm, 224, rfl⟩
abbrev main_c_30 : Ref sig .tc := ⟨.hbm, 225, rfl⟩
abbrev main_v116 : Ref sig .tc := ⟨.hbm, 226, rfl⟩
abbrev main_v117 : Ref sig .tc := ⟨.hbm, 227, rfl⟩
abbrev main_c_31 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_c_32 : Ref sig .tc := ⟨.hbm, 234, rfl⟩
abbrev main_v123 : Ref sig .tc := ⟨.hbm, 235, rfl⟩
abbrev main_v124 : Ref sig .tc := ⟨.hbm, 236, rfl⟩
abbrev main_c_33 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_cst_34 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_cst_35 : Ref sig .tc := ⟨.hbm, 248, rfl⟩
abbrev main_v134 : Ref sig .tc := ⟨.hbm, 249, rfl⟩
abbrev main_v135 : Ref sig .tc := ⟨.hbm, 250, rfl⟩
abbrev main_v136 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_cst_36 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_call5_v0 : Ref sig .tc := ⟨.hbm, 259, rfl⟩
abbrev main_call5_v1_0 : Ref sig .tc := ⟨.hbm, 260, rfl⟩
abbrev main_v143 : Ref sig .tc := ⟨.hbm, 261, rfl⟩
abbrev main_v144 : Ref sig .tc := ⟨.hbm, 262, rfl⟩
abbrev main_c_37 : Ref sig .tc := ⟨.hbm, 263, rfl⟩
abbrev main_v145 : Ref sig .tc := ⟨.hbm, 264, rfl⟩
abbrev main_v146 : Ref sig .tc := ⟨.hbm, 265, rfl⟩
abbrev main_c_38 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_v157 : Ref sig .tc := ⟨.hbm, 277, rfl⟩
abbrev main_v158 : Ref sig .tc := ⟨.hbm, 278, rfl⟩
abbrev main_cst_39 : Ref sig .tc := ⟨.hbm, 279, rfl⟩
abbrev main_v159 : Ref sig .tc := ⟨.hbm, 280, rfl⟩
abbrev main_cst_40 : Ref sig .tc := ⟨.hbm, 281, rfl⟩
abbrev main_v160 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_cst_41 : Ref sig .tc := ⟨.hbm, 288, rfl⟩
abbrev main_v166 : Ref sig .tc := ⟨.hbm, 289, rfl⟩
abbrev main_cst_42 : Ref sig .tc := ⟨.hbm, 290, rfl⟩
abbrev main_v167 : Ref sig .tc := ⟨.hbm, 291, rfl⟩
abbrev main_v168 : Ref sig .tc := ⟨.hbm, 292, rfl⟩
abbrev main_v169 : Ref sig .tc := ⟨.hbm, 293, rfl⟩
abbrev main_v170 : Ref sig .tc := ⟨.hbm, 294, rfl⟩
abbrev main_v171 : Ref sig .tc := ⟨.hbm, 295, rfl⟩
abbrev main_cst_43 : Ref sig .tc := ⟨.hbm, 296, rfl⟩
abbrev main_v172 : Ref sig .tc := ⟨.hbm, 297, rfl⟩
abbrev main_v173 : Ref sig .tc := ⟨.hbm, 298, rfl⟩
abbrev main_v174 : Ref sig .tc := ⟨.hbm, 299, rfl⟩
abbrev main_v175 : Ref sig .tc := ⟨.hbm, 300, rfl⟩
abbrev main_v176 : Ref sig .tc := ⟨.hbm, 301, rfl⟩
abbrev main_v177 : Ref sig .tc := ⟨.hbm, 302, rfl⟩
abbrev main_v178 : Ref sig .tc := ⟨.hbm, 303, rfl⟩
abbrev main_v179 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_v183 : Ref sig .tc := ⟨.hbm, 308, rfl⟩
abbrev main_cst_44 : Ref sig .tc := ⟨.hbm, 309, rfl⟩
abbrev main_v184 : Ref sig .tc := ⟨.hbm, 310, rfl⟩
abbrev main_v185 : Ref sig .tc := ⟨.hbm, 311, rfl⟩
abbrev main_cst_45 : Ref sig .tc := ⟨.hbm, 312, rfl⟩
abbrev main_v186 : Ref sig .tc := ⟨.hbm, 313, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 128#32, 1#32⟩
-- ==== Proof.RefOps.lean ====
/-
  The reference's host operations as lists, stretch by stretch: before its first loop, between its two loops, after the
  second, and each loop's condition and body. Every list is the printed program's own operations in order; a call's
  operations stand where the call stands.
-/
module

public import proofs.«01_k».proof.Proof.Gen.ReferenceIdeal
public import Idealize.ShloMosaic.Lib.StableHlo.RunLoop

@[expose] public section

set_option maxRecDepth 16384

noncomputable section

namespace Cert.Proof.Ref

open Cert.ReferenceIdeal Cert.ReferenceIdeal.Gen
open Idealize.ShloMosaic

variable {F : FTy → Type} [FloatOps F]

/-- The points centred. -/
abbrev pre0 : List (HloOp τ sig (Elt F)) :=
  [ StableHlo.nullary main_cst (constant S_ .f32 0x00000000#32),
    StableHlo.binary main_arg0 main_cst main_v0 ((fun x v => Host.reduceAdd x v reducesTo_S8x2048x3_S8x3_d1 h_S_) : (⟨S8x2048x3, .f32⟩ : BufTy).Contents (Elt F) → (⟨S_, .f32⟩ : BufTy).Contents (Elt F) → (⟨S8x3, .f32⟩ : BufTy).Contents (Elt F)),
    StableHlo.nullary main_cst_0 (constant S_ .f32 0x45000000#32),
    StableHlo.unary main_cst_0 main_v1 (broadcastInDim S8x3 ![] bcast_S_S8x3 : (⟨S_, .f32⟩ : BufTy).Contents (Elt F) → (⟨S8x3, .f32⟩ : BufTy).Contents (Elt F)),
    StableHlo.binary main_v0 main_v1 main_v2 (Host.divf : (⟨S8x3, .f32⟩ : BufTy).Contents (Elt F) → (⟨S8x3, .f32⟩ : BufTy).Contents (Elt F) → (⟨S8x3, .f32⟩ : BufTy).Contents (Elt F)),
    StableHlo.unary main_v2 main_v3 (broadcastInDim S8x1x3 ![0, 2] bcast_S8x3_S8x1x3_0_2 : (⟨S8x3, .f32⟩ : BufTy).Contents (Elt F) → (⟨S8x1x3, .f32⟩ : BufTy).Contents (Elt F)),
    StableHlo.unary main_v3 main_v4 (broadcastInDim S8x2048x3 ![0, 1, 2] bcast_S8x1x3_S8x2048x3_0_1_2 : (⟨S8x1x3, .f32⟩ : BufTy).Contents (Elt F) → (⟨S8x2048x3, .f32⟩ : BufTy).Contents (Elt F)),
    StableHlo.binary main_arg0 main_v4 main_v5 (subf : (⟨S8x2048x3, .f32⟩ : BufTy).Contents (Elt F) → (⟨S8x2048x3, .f32⟩ : BufTy).Contents (Elt F) → (⟨S8x2048x3, .f32⟩ : BufTy).Contents (Elt F)) ]

/-- The first linear map. -/
abbrev pre1 : List (HloOp τ sig (Elt F)) :=
  [ StableHlo.binary main_v5 main_arg1 main_v6 ((fun a b => concatenate S8x2048x6 2 [⟨S8x2048x3, a⟩, ⟨S8x2048x3, b⟩] concatenates_S8x2048x3_S8x2048x3_S8x2048x6_d2) : (⟨S8x2048x3, .f32⟩ : BufTy).Contents (Elt F) → (⟨S8x2048x3, .f32⟩ : BufTy).Contents (Elt F) → (⟨S8x2048x6, .f32⟩ : BufTy).Contents (Elt F)),
    StableHlo.binary main_v6 main_arg2 main_v7 ((fun l r => Host.dotGeneral dot_S8x2048x6_S128x6_S8x2048x128_2_1_01_0_n_n none l r) : (⟨S8x2048x6, .f32⟩ : BufTy).Contents (Elt F) → (⟨S128x6, .f32⟩ : BufTy).Contents (Elt F) → (⟨S8x2048x128, .f32⟩ : BufTy).Contents (Elt F)) ]

/-- Its normalisation and relu. -/
abbrev pre2 : List (HloOp τ sig (Elt F)) :=
  [ StableHlo.nullary main_cst_1 (constant S_ .f32 0x00000000#32),
    StableHlo.binary main_v7 main_cst_1 main_v8 ((fun x v => Host.reduceAdd x v reducesTo_S8x2048x128_S128_d0_1 h_S_) : (⟨S8x2048x128, .f32⟩ : BufTy).Contents (Elt F) → (⟨S_, .f32⟩ : BufTy).Contents (Elt F) → (⟨S128, .f32⟩ : BufTy).Contents (Elt F)),
    StableHlo.nullary main_cst_2 (constant S_ .f32 0x46800000#32),
    StableHlo.unary main_cst_2 main_v9 (broadcastInDim S128 ![] bcast_S_S128 : (⟨S_, .f32⟩ : BufTy).Contents (Elt F) → (⟨S128, .f32⟩ : BufTy).Contents (Elt F)),
    StableHlo.binary main_v8 main_v9 main_v10 (Host.divf : (⟨S128, .f32⟩ : BufTy).Contents (Elt F) → (⟨S128, .f32⟩ : BufTy).Contents (Elt F) → (⟨S128, .f32⟩ : BufTy).Contents (Elt F)),
    StableHlo.unary main_v10 main_v11 (broadcastInDim S1x1x128 ![2] bcast_S128_S1x1x128_2 : (⟨S128, .f32⟩ : BufTy).Contents (Elt F) → (⟨S1x1x128, .f32⟩ : BufTy).Contents (Elt F)),
    StableHlo.unary main_v11 main_v12 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v7 main_v12 main_v13 (subf : (⟨S8x2048x128, .f32⟩ : BufTy).Contents (Elt F) → (⟨S8x2048x128, .f32⟩ : BufTy).Contents (Elt F) → (⟨S8x2048x128, .f32⟩ : BufTy).Contents (Elt F)),
    StableHlo.binary main_v13 main_v13 main_v14 (mulf : (⟨S8x2048x128, .f32⟩ : BufTy).Contents (Elt F) → (⟨S8x2048x128, .f32⟩ : BufTy).Contents (Elt F) → (⟨S8x2048x128, .f32⟩ : BufTy).Contents (Elt F)),
    StableHlo.nullary main_cst_3 (constant S_ .f32 0x00000000#32),
    StableHlo.binary main_v14 main_cst_3 main_v15 ((fun x v => Host.reduceAdd x v reducesTo_S8x2048x128_S128_d0_1 h_S_) : (⟨S8x2048x128, .f32⟩ : BufTy).Contents (Elt F) → (⟨S_, .f32⟩ : BufTy).Contents (Elt F) → (⟨S128, .f32⟩ : BufTy).Contents (Elt F)),
    StableHlo.nullary main_cst_4 (constant S_ .f32 0x46800000#32),
    StableHlo.unary main_cst_4 main_v16 (broadcastInDim S128 ![] bcast_S_S128 : (⟨S_, .f32⟩ : BufTy).Contents (Elt F) → (⟨S128, .f32⟩ : BufTy).Contents (Elt F)),
    StableHlo.binary main_v15 main_v16 main_v17 (Host.divf : (⟨S128, .f32⟩ : BufTy).Contents (Elt F) → (⟨S128, .f32⟩ : BufTy).Contents (Elt F) → (⟨S128, .f32⟩ : BufTy).Contents (Elt F)),
    StableHlo.unary main_v10 main_v18 (broadcastInDim S1x1x128 ![2] bcast_S128_S1x1x128_2 : (⟨S128, .f32⟩ : BufTy).Contents (Elt F) → (⟨S1x1x128, .f32⟩ : BufTy).Contents (Elt F)),
    StableHlo.unary main_v18 main_v19 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v7 main_v19 main_v20 (subf : (⟨S8x2048x128, .f32⟩ : BufTy).Contents (Elt F) → (⟨S8x2048x128, .f32⟩ : BufTy).Contents (Elt F) → (⟨S8x2048x128, .f32⟩ : BufTy).Contents (Elt F)),
    StableHlo.nullary main_cst_5 (constant S_ .f32 0x3727C5AC#32),
    StableHlo.unary main_cst_5 main_v21 (broadcastInDim S128 ![] bcast_S_S128 : (⟨S_, .f32⟩ : BufTy).Contents (Elt F) → (⟨S128, .f32⟩ : BufTy).Contents (Elt F)),
    StableHlo.binary main_v17 main_v21 main_v22 (addf : (⟨S128, .f32⟩ : BufTy).Contents (Elt F) → (⟨S128, .f32⟩ : BufTy).Contents (Elt F) → (⟨S128, .f32⟩ : BufTy).Contents (Elt F)),
    StableHlo.unary main_v22 main_v23 (Host.sqrt : (⟨S128, .f32⟩ : BufTy).Contents (Elt F) → (⟨S128, .f32⟩ : BufTy).Contents (Elt F)),
    StableHlo.unary main_v23 main_v24 (broadcastInDim S1x1x128 ![2] bcast_S128_S1x1x128_2 : (⟨S128, .f32⟩ : BufTy).Contents (Elt F) → (⟨S1x1x128, .f32⟩ : BufTy).Contents (Elt F)),
    StableHlo.unary main_v24 main_v25 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v20 main_v25 main_v26 (Host.divf : (⟨S8x2048x128, .f32⟩ : BufTy).Contents (Elt F) → (⟨S8x2048x128, .f32⟩ : BufTy).Contents (Elt F) → (⟨S8x2048x128, .f32⟩ : BufTy).Contents (Elt F)),
    StableHlo.unary main_arg3 main_v27 (broadcastInDim S1x1x128 ![2] bcast_S128_S1x1x128_2 : (⟨S128, .f32⟩ : BufTy).Contents (Elt F) → (⟨S1x1x128, .f32⟩ : BufTy).Contents (Elt F)),
    StableHlo.unary main_v27 main_v28 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v28 main_v26 main_v29 (mulf : (⟨S8x2048x128, .f32⟩ : BufTy).Contents (Elt F) → (⟨S8x2048x128, .f32⟩ : BufTy).Contents (Elt F) → (⟨S8x2048x128, .f32⟩ : BufTy).Contents (Elt F)),
    StableHlo.unary main_arg4 main_v30 (broadcastInDim S1x1x128 ![2] bcast_S128_S1x1x128_2 : (⟨S128, .f32⟩ : BufTy).Contents (Elt F) → (⟨S1x1x128, .f32⟩ : BufTy).Contents (Elt F)),
    StableHlo.unary main_v30 main_v31 (broadcastInDim S8x2048x128 ![0, 1, 2] bcast_S1x1x128_S8x2048x128_0_1_2 : (⟨S1x1x128, .f32⟩ : BufTy).Contents (Elt F) → (⟨S8x2048x128, .f32⟩ : BufTy).Contents (Elt F)),
    StableHlo.binary main_v29 main_v31 main_v32 (addf : (⟨S8x2048x128, .f32⟩ : BufTy).Contents (Elt F) → (⟨S8x2048x128, .f32⟩ : BufTy).Contents (Elt F) → (⟨S8x2048x128, .f32⟩ : BufTy).Contents (Elt F)),
    StableHlo.nullary main_cst_6 (constant S_ .f32 0x00000000#32),
    StableHlo.unary main_cst_6 main_v33 (broadcastInDim S8x2048x128 ![] bcast_S_S8x2048x128 : (⟨S_, .f32⟩ : BufTy).Contents (Elt F) → (⟨S8x2048x128, .f32⟩ : BufTy).Contents (Elt F)),
    StableHlo.binary main_v32 main_v33 main_v34 (maximumf : (⟨S8x2048x128, .f32⟩ : BufTy).Contents (Elt F) → (⟨S8x2048x128, .f32⟩ : BufTy).Contents (Elt F) → (⟨S8x2048x128, .f32⟩ : BufTy).Contents (Elt F)) ]

/-- The first loop's initial values. -/
abbrev pre3 : List (HloOp τ sig (Elt F)) :=
  [ StableHlo.nullary main_cst_7 (constant S_ .f32 0x501502F9#32),
    StableHlo.unary main_cst_7 main_v35 (broadcastInDim S8x2048 ![] bcast_S_S8x2048 : (⟨S_, .f32⟩ : BufTy).Contents (Elt F) → (⟨S8x2048, .f32⟩ : BufTy).Contents (Elt F)),
    StableHlo.nullary main_c (constantI S_ 32 0#32),
    StableHlo.unary main_c main_v36 (broadcastInDim S8 ![] bcast_S_S8 : (⟨S_, .i32⟩ : BufTy).Contents (Elt F) → (⟨S8, .i32⟩ : BufTy).Contents (Elt F)),
    StableHlo.nullary main_c_8 (constantI S_ 32 0#32),
    StableHlo.unary main_c_8 main_v37 (broadcastInDim S512x8 ![] bcast_S_S512x8 : (⟨S_, .i32⟩ : BufTy).Contents (Elt F) → (⟨S512x8, .i32⟩ : BufTy).Contents (Elt F)),
    StableHlo.nullary main_c_9 (constantI S_ 32 0#32),
    StableHlo.unary main_v5 main_v38_0 id,
    StableHlo.unary main_c_9 main_v38_1 id,
    StableHlo.unary main_v35 main_v38_2 id,
    StableHlo.unary main_v36 main_v38_3 id,
    StableHlo.unary main_v37 main_v38_4 id ]

/-- The chosen points' coordinates, first level. -/
abbrev mid0 : List (HloOp τ sig (Elt F)) :=
  [ StableHlo.unary main_v38_4 main_v39 ((transpose S8x512 [1, 0] · transposes_S512x8_S8x512_1_0) : (⟨S512x8, .i32⟩ : BufTy).Contents (Elt F) → (⟨S8x512, .i32⟩ : BufTy).Contents (Elt F)),
    StableHlo.nullary main_c_10 (constantI S_ 32 0#32),
    StableHlo.unary main_c_10 main_v40 (broadcastInDim S8x512 ![] bcast_S_S8x512 : (⟨S_, .i32⟩ : BufTy).Contents (Elt F) → (⟨S8x512, .i32⟩ : BufTy).Contents (Elt F)),
    StableHlo.binary main_v39 main_v40 main_v41 (cmpi .slt : (⟨S8x512, .i32⟩ : BufTy).Contents (Elt F) → (⟨S8x512, .i32⟩ : BufTy).Contents (Elt F) → (⟨S8x512, .i1⟩ : BufTy).Contents (Elt F)),
    StableHlo.nullary main_c_11 (constantI S_ 32 2048#32),
    StableHlo.unary main_c_11 main_v42 (broadcastInDim S8x512 ![] bcast_S_S8x512 : (⟨S_, .i32⟩ : BufTy).Contents (Elt F) → (⟨S8x512, .i32⟩ : BufTy).Contents (Elt F)),
    StableHlo.binary main_v39 main_v42 main_v43 (addi : (⟨S8x512, .i32⟩ : BufTy).Contents (Elt F) → (⟨S8x512, .i32⟩ : BufTy).Contents (Elt F) → (⟨S8x512, .i32⟩ : BufTy).Contents (Elt F)),
    StableHlo.ternary main_v41 main_v43 main_v39 main_v44 (select : (⟨S8x512, .i1⟩ : BufTy).Contents (Elt F) → (⟨S8x512, .i32⟩ : BufTy).Contents (Elt F) → (⟨S8x512, .i32⟩ : BufTy).Contents (Elt F) → (⟨S8x512, .i32⟩ : BufTy).Contents (Elt F)),
    StableHlo.unary main_v44 main_v45 (broadcastInDim S8x512x1 ![0, 1] bcast_S8x512_S8x512x1_0_1 : (⟨S8x512, .i32⟩ : BufTy).Contents (Elt F) → (⟨S8x512x1, .i32⟩ : BufTy).Contents (Elt F)),
    StableHlo.binary main_v5 main_v45 main_v46 ((fun x i => Host.gather gather_S8x2048x3_S8x512x1_S8x512x3_2_1_0_0_1_2_113 x i) : (⟨S8x2048x3, .f32⟩ : BufTy).Contents (Elt F) → (⟨S8x512x1, .i32⟩ : BufTy).Contents (Elt F) → (⟨S8x512x3, .f32⟩ : BufTy).Contents (Elt F)) ]

/-- Their features. -/
abbrev mid1 : List (HloOp τ sig (Elt F)) :=
  [ StableHlo.nullary main_c_12 (constantI S_ 32 0#32),
    StableHlo.unary main_c_12 main_v47 (broadcastInDim S8x512 ![] bcast_S_S8x512 : (⟨S_, .i32⟩ : BufTy).Contents (Elt F) → (⟨S8x512, .i32⟩ : BufTy).Contents (Elt F)),
    StableHlo.binary main_v39 main_v47 main_v48 (cmpi .slt : (⟨S8x512, .i32⟩ : BufTy).Contents (Elt F) → (⟨S8x512, .i32⟩ : BufTy).Contents (Elt F) → (⟨S8x512, .i1⟩ : BufTy).Contents (Elt F)),
    StableHlo.nullary main_c_13 (constantI S_ 32 2048#32),
    StableHlo.unary main_c_13 main_v49 (broadcastInDim S8x512 ![] bcast_S_S8x512 : (⟨S_, .i32⟩ : BufTy).Contents (Elt F) → (⟨S8x512, .i32⟩ : BufTy).Contents (Elt F)),
    StableHlo.binary main_v39 main_v49 main_v50 (addi : (⟨S8x512, .i32⟩ : BufTy).Contents (Elt F) → (⟨S8x512, .i32⟩ : BufTy).Contents (Elt F) → (⟨S8x512, .i32⟩ : BufTy).Contents (Elt F)),
    StableHlo.ternary main_v48 main_v50 main_v39 main_v51 (select : (⟨S8x512, .i1⟩ : BufTy).Contents (Elt F) → (⟨S8x512, .i32⟩ : BufTy).Contents (Elt F) → (⟨S8x512, .i32⟩ : BufTy).Contents (Elt F) → (⟨S8x512, .i32⟩ : BufTy).Contents (Elt F)),
    StableHlo.unary main_v51 main_v52 (broadcastInDim S8x512x1 ![0, 1] bcast_S8x512_S8x512x1_0_1 : (⟨S8x512, .i32⟩ : BufTy).Contents (Elt F) → (⟨S8x512x1, .i32⟩ : BufTy).Contents (Elt F)),
    StableHlo.binary main_v34 main_v52 main_v53 ((fun x i => Host.gather gather_S8x2048x128_S8x512x1_S8x512x128_2_1_0_0_1_2_11128 x i) : (⟨S8x2048x128, .f32⟩ : BufTy).Contents (Elt F) → (⟨S8x512x1, .i32⟩ : BufTy).Contents (Elt F) → (⟨S8x512x128, .f32⟩ : BufTy).Contents (Elt F)) ]

/-- The pairwise distances. -/
abbrev mid2 : List (HloOp τ sig (Elt F)) :=
  [ StableHlo.binary main_v46 main_v46 main_v54 (mulf : (⟨S8x512x3, .f32⟩ : BufTy).Contents (Elt F) → (⟨S8x512x3, .f32⟩ : BufTy).Contents (Elt F) → (⟨S8x512x3, .f32⟩ : BufTy).Contents (Elt F)),
    StableHlo.nullary main_cst_14 (constant S_ .f32 0x00000000#32),
    StableHlo.binary main_v54 main_cst_14 main_v55 ((fun x v => Host.reduceAdd x v reducesTo_S8x512x3_S8x512_d2 h_S_) : (⟨S8x512x3, .f32⟩ : BufTy).Contents (Elt F) → (⟨S_, .f32⟩ : BufTy).Contents (Elt F) → (⟨S8x512, .f32⟩ : BufTy).Contents (Elt F)),
    StableHlo.unary main_v55 main_v56 (broadcastInDim S8x512x1 ![0, 1] bcast_S8x512_S8x512x1_0_1 : (⟨S8x512, .f32⟩ : BufTy).Contents (Elt F) → (⟨S8x512x1, .f32⟩ : BufTy).Contents (Elt F)),
    StableHlo.binary main_v5 main_v5 main_v57 (mulf : (⟨S8x2048x3, .f32⟩ : BufTy).Contents (Elt F) → (⟨S8x2048x3, .f32⟩ : BufTy).Contents (Elt F) → (⟨S8x2048x3, .f32⟩ : BufTy).Contents (Elt F)),
    StableHlo.nullary main_cst_15 (constant S_ .f32 0x00000000#32),
    StableHlo.binary main_v57 main_cst_15 main_v58 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    StableHlo.unary main_v58 main_v59 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v56 main_v60 (broadcastInDim S8x512x2048 ![0, 1, 2] bcast_S8x512x1_S8x512x2048_0_1_2 : (⟨S8x512x1, .f32⟩ : BufTy).Contents (Elt F) → (⟨S8x512x2048, .f32⟩ : BufTy).Contents (Elt F)),
    StableHlo.unary main_v59 main_v61 (broadcastInDim S8x512x2048 ![0, 1, 2] bcast_S8x1x2048_S8x512x2048_0_1_2 : (⟨S8x1x2048, .f32⟩ : BufTy).Contents (Elt F) → (⟨S8x512x2048, .f32⟩ : BufTy).Contents (Elt F)),
    StableHlo.binary main_v60 main_v61 main_v62 (addf : (⟨S8x512x2048, .f32⟩ : BufTy).Contents (Elt F) → (⟨S8x512x2048, .f32⟩ : BufTy).Contents (Elt F) → (⟨S8x512x2048, .f32⟩ : BufTy).Contents (Elt F)),
    StableHlo.binary main_v46 main_v5 main_v63 ((fun l r => Host.dotGeneral dot_S8x512x3_S8x2048x3_S8x512x2048_2_2_1_1_0_0 none l r) : (⟨S8x512x3, .f32⟩ : BufTy).Contents (Elt F) → (⟨S8x2048x3, .f32⟩ : BufTy).Contents (Elt F) → (⟨S8x512x2048, .f32⟩ : BufTy).Contents (Elt F)),
    StableHlo.nullary main_cst_16 (constant S_ .f32 0x40000000#32),
    StableHlo.unary main_cst_16 main_v64 (broadcastInDim S8x512x2048 ![] bcast_S_S8x512x2048 : (⟨S_, .f32⟩ : BufTy).Contents (Elt F) → (⟨S8x512x2048, .f32⟩ : BufTy).Contents (Elt F)),
    StableHlo.binary main_v64 main_v63 main_v65 (mulf : (⟨S8x512x2048, .f32⟩ : BufTy).Contents (Elt F) → (⟨S8x512x2048, .f32⟩ : BufTy).Contents (Elt F) → (⟨S8x512x2048, .f32⟩ : BufTy).Contents (Elt F)),
    StableHlo.binary main_v62 main_v65 main_v66 (subf : (⟨S8x512x2048, .f32⟩ : BufTy).Contents (Elt F) → (⟨S8x512x2048, .f32⟩ : BufTy).Contents (Elt F) → (⟨S8x512x2048, .f32⟩ : BufTy).Contents (Elt F)) ]

/-- The ranks. -/
abbrev mid3 : List (HloOp τ sig (Elt F)) :=
  [ StableHlo.nullary main_call2_v0 (iotaInDim S8x512x2048 32 2),
    StableHlo.binary main_v66 main_call2_v0 main_call2_v1_0 (fun x y => (Host.sort2 S8x512x2048 2 comparator_f32_i32_d2 x y).1),
    StableHlo.binary main_v66 main_call2_v0 main_v67 (fun x y => (Host.sort2 S8x512x2048 2 comparator_f32_i32_d2 x y).2) ]

/-- The nearest indices. -/
abbrev mid4 : List (HloOp τ sig (Elt F)) :=
  [ StableHlo.unary main_v67 main_v68 ((extractStridedSlice S8x512x32 ![0, 0, 0] · slices_S8x512x2048_S8x512x32_0_0_0) : (⟨S8x512x2048, .i32⟩ : BufTy).Contents (Elt F) → (⟨S8x512x32, .i32⟩ : BufTy).Contents (Elt F)) ]

/-- The neighbours' features less the centre's, beside the centre's. -/
abbrev mid5 : List (HloOp τ sig (Elt F)) :=
  [ StableHlo.nullary main_c_17 (constantI S_ 32 0#32),
    StableHlo.unary main_c_17 main_v69 (broadcastInDim S8x512x32 ![] bcast_S_S8x512x32 : (⟨S_, .i32⟩ : BufTy).Contents (Elt F) → (⟨S8x512x32, .i32⟩ : BufTy).Contents (Elt F)),
    StableHlo.binary main_v68 main_v69 main_v70 (cmpi .slt : (⟨S8x512x32, .i32⟩ : BufTy).Contents (Elt F) → (⟨S8x512x32, .i32⟩ : BufTy).Contents (Elt F) → (⟨S8x512x32, .i1⟩ : BufTy).Contents (Elt F)),
    StableHlo.nullary main_c_18 (constantI S_ 32 2048#32),
    StableHlo.unary main_c_18 main_v71 (broadcastInDim S8x512x32 ![] bcast_S_S8x512x32 : (⟨S_, .i32⟩ : BufTy).Contents (Elt F) → (⟨S8x512x32, .i32⟩ : BufTy).Contents (Elt F)),
    StableHlo.binary main_v68 main_v71 main_v72 (addi : (⟨S8x512x32, .i32⟩ : BufTy).Contents (Elt F) → (⟨S8x512x32, .i32⟩ : BufTy).Contents (Elt F) → (⟨S8x512x32, .i32⟩ : BufTy).Contents (Elt F)),
    StableHlo.ternary main_v70 main_v72 main_v68 main_v73 (select : (⟨S8x512x32, .i1⟩ : BufTy).Contents (Elt F) → (⟨S8x512x32, .i32⟩ : BufTy).Contents (Elt F) → (⟨S8x512x32, .i32⟩ : BufTy).Contents (Elt F) → (⟨S8x512x32, .i32⟩ : BufTy).Contents (Elt F)),
    StableHlo.unary main_v73 main_v74 (broadcastInDim S8x512x32x1 ![0, 1, 2] bcast_S8x512x32_S8x512x32x1_0_1_2 : (⟨S8x512x32, .i32⟩ : BufTy).Contents (Elt F) → (⟨S8x512x32x1, .i32⟩ : BufTy).Contents (Elt F)),
    StableHlo.binary main_v34 main_v74 main_v75 ((fun x i => Host.gather gather_S8x2048x128_S8x512x32x1_S8x512x32x128_3_1_0_0_1_3_11128 x i) : (⟨S8x2048x128, .f32⟩ : BufTy).Contents (Elt F) → (⟨S8x512x32x1, .i32⟩ : BufTy).Contents (Elt F) → (⟨S8x512x32x128, .f32⟩ : BufTy).Contents (Elt F)),
    StableHlo.unary main_v53 main_v76 (broadcastInDim S8x512x1x128 ![0, 1, 3] bcast_S8x512x128_S8x512x1x128_0_1_3 : (⟨S8x512x128, .f32⟩ : BufTy).Contents (Elt F) → (⟨S8x512x1x128, .f32⟩ : BufTy).Contents (Elt F)),
    StableHlo.unary main_v76 main_v77 (broadcastInDim S8x512x32x128 ![0, 1, 2, 3] bcast_S8x512x1x128_S8x512x32x128_0_1_2_3 : (⟨S8x512x1x128, .f32⟩ : BufTy).Contents (Elt F) → (⟨S8x512x32x128, .f32⟩ : BufTy).Contents (Elt F)),
    StableHlo.binary main_v75 main_v77 main_v78 (subf : (⟨S8x512x32x128, .f32⟩ : BufTy).Contents (Elt F) → (⟨S8x512x32x128, .f32⟩ : BufTy).Contents (Elt F) → (⟨S8x512x32x128, .f32⟩ : BufTy).Contents (Elt F)),
    StableHlo.unary main_v53 main_v79 (broadcastInDim S8x512x1x128 ![0, 1, 3] bcast_S8x512x128_S8x512x1x128_0_1_3 : (⟨S8x512x128, .f32⟩ : BufTy).Contents (Elt F) → (⟨S8x512x1x128, .f32⟩ : BufTy).Contents (Elt F)),
    StableHlo.unary main_v79 main_v80 (broadcastInDim S8x512x32x128 ![0, 1, 2, 3] bcast_S8x512x1x128_S8x512x32x128_0_1_2_3 : (⟨S8x512x1x128, .f32⟩ : BufTy).Contents (Elt F) → (⟨S8x512x32x128, .f32⟩ : BufTy).Contents (Elt F)),
    StableHlo.binary main_v78 main_v80 main_v81 ((fun a b => concatenate S8x512x32x256 3 [⟨S8x512x32x128, a⟩, ⟨S8x512x32x128, b⟩] concatenates_S8x512x32x128_S8x512x32x128_S8x512x32x256_d3) : (⟨S8x512x32x128, .f32⟩ : BufTy).Contents (Elt F) → (⟨S8x512x32x128, .f32⟩ : BufTy).Contents (Elt F) → (⟨S8x512x32x256, .f32⟩ : BufTy).Contents (Elt F)) ]

/-- The second linear map. -/
abbrev mid6 : List (HloOp τ sig (Elt F)) :=
  [ StableHlo.binary main_v81 main_arg5 main_v82 ((fun l r => Host.dotGeneral dot_S8x512x32x256_S128x256_S8x512x32x128_3_1_012_0_n_n none l r) : (⟨S8x512x32x256, .f32⟩ : BufTy).Contents (Elt F) → (⟨S128x256, .f32⟩ : BufTy).Contents (Elt F) → (⟨S8x512x32x128, .f32⟩ : BufTy).Contents (Elt F)) ]

/-- Its normalisation. -/
abbrev mid7 : List (HloOp τ sig (Elt F)) :=
  [ StableHlo.nullary main_cst_19 (constant S_ .f32 0x00000000#32),
    StableHlo.binary main_v82 main_cst_19 main_v83 ((fun x v => Host.reduceAdd x v reducesTo_S8x512x32x128_S128_d0_1_2 h_S_) : (⟨S8x512x32x128, .f32⟩ : BufTy).Contents (Elt F) → (⟨S_, .f32⟩ : BufTy).Contents (Elt F) → (⟨S128, .f32⟩ : BufTy).Contents (Elt F)),
    StableHlo.nullary main_cst_20 (constant S_ .f32 0x48000000#32),
    StableHlo.unary main_cst_20 main_v84 (broadcastInDim S128 ![] bcast_S_S128 : (⟨S_, .f32⟩ : BufTy).Contents (Elt F) → (⟨S128, .f32⟩ : BufTy).Contents (Elt F)),
    StableHlo.binary main_v83 main_v84 main_v85 (Host.divf : (⟨S128, .f32⟩ : BufTy).Contents (Elt F) → (⟨S128, .f32⟩ : BufTy).Contents (Elt F) → (⟨S128, .f32⟩ : BufTy).Contents (Elt F)),
    StableHlo.unary main_v85 main_v86 (broadcastInDim S1x1x1x128 ![3] bcast_S128_S1x1x1x128_3 : (⟨S128, .f32⟩ : BufTy).Contents (Elt F) → (⟨S1x1x1x128, .f32⟩ : BufTy).Contents (Elt F)),
    StableHlo.unary main_v86 main_v87 (broadcastInDim S8x512x32x128 ![0, 1, 2, 3] bcast_S1x1x1x128_S8x512x32x128_0_1_2_3 : (⟨S1x1x1x128, .f32⟩ : BufTy).Contents (Elt F) → (⟨S8x512x32x128, .f32⟩ : BufTy).Contents (Elt F)),
    StableHlo.binary main_v82 main_v87 main_v88 (subf : (⟨S8x512x32x128, .f32⟩ : BufTy).Contents (Elt F) → (⟨S8x512x32x128, .f32⟩ : BufTy).Contents (Elt F) → (⟨S8x512x32x128, .f32⟩ : BufTy).Contents (Elt F)),
    StableHlo.binary main_v88 main_v88 main_v89 (mulf : (⟨S8x512x32x128, .f32⟩ : BufTy).Contents (Elt F) → (⟨S8x512x32x128, .f32⟩ : BufTy).Contents (Elt F) → (⟨S8x512x32x128, .f32⟩ : BufTy).Contents (Elt F)),
    StableHlo.nullary main_cst_21 (constant S_ .f32 0x00000000#32),
    StableHlo.binary main_v89 main_cst_21 main_v90 ((fun x v => Host.reduceAdd x v reducesTo_S8x512x32x128_S128_d0_1_2 h_S_) : (⟨S8x512x32x128, .f32⟩ : BufTy).Contents (Elt F) → (⟨S_, .f32⟩ : BufTy).Contents (Elt F) → (⟨S128, .f32⟩ : BufTy).Contents (Elt F)),
    StableHlo.nullary main_cst_22 (constant S_ .f32 0x48000000#32),
    StableHlo.unary main_cst_22 main_v91 (broadcastInDim S128 ![] bcast_S_S128 : (⟨S_, .f32⟩ : BufTy).Contents (Elt F) → (⟨S128, .f32⟩ : BufTy).Contents (Elt F)),
    StableHlo.binary main_v90 main_v91 main_v92 (Host.divf : (⟨S128, .f32⟩ : BufTy).Contents (Elt F) → (⟨S128, .f32⟩ : BufTy).Contents (Elt F) → (⟨S128, .f32⟩ : BufTy).Contents (Elt F)),
    StableHlo.unary main_v85 main_v93 (broadcastInDim S1x1x1x128 ![3] bcast_S128_S1x1x1x128_3 : (⟨S128, .f32⟩ : BufTy).Contents (Elt F) → (⟨S1x1x1x128, .f32⟩ : BufTy).Contents (Elt F)),
    StableHlo.unary main_v93 main_v94 (broadcastInDim S8x512x32x128 ![0, 1, 2, 3] bcast_S1x1x1x128_S8x512x32x128_0_1_2_3 : (⟨S1x1x1x128, .f32⟩ : BufTy).Contents (Elt F) → (⟨S8x512x32x128, .f32⟩ : BufTy).Contents (Elt F)),
    StableHlo.binary main_v82 main_v94 main_v95 (subf : (⟨S8x512x32x128, .f32⟩ : BufTy).Contents (Elt F) → (⟨S8x512x32x128, .f32⟩ : BufTy).Contents (Elt F) → (⟨S8x512x32x128, .f32⟩ : BufTy).Contents (Elt F)),
    StableHlo.nullary main_cst_23 (constant S_ .f32 0x3727C5AC#32),
    StableHlo.unary main_cst_23 main_v96 (broadcastInDim S128 ![] bcast_S_S128 : (⟨S_, .f32⟩ : BufTy).Contents (Elt F) → (⟨S128, .f32⟩ : BufTy).Contents (Elt F)),
    StableHlo.binary main_v92 main_v96 main_v97 (addf : (⟨S128, .f32⟩ : BufTy).Contents (Elt F) → (⟨S128, .f32⟩ : BufTy).Contents (Elt F) → (⟨S128, .f32⟩ : BufTy).Contents (Elt F)),
    StableHlo.unary main_v97 main_v98 (Host.sqrt : (⟨S128, .f32⟩ : BufTy).Contents (Elt F) → (⟨S128, .f32⟩ : BufTy).Contents (Elt F)),
    StableHlo.unary main_v98 main_v99 (broadcastInDim S1x1x1x128 ![3] bcast_S128_S1x1x1x128_3 : (⟨S128, .f32⟩ : BufTy).Contents (Elt F) → (⟨S1x1x1x128, .f32⟩ : BufTy).Contents (Elt F)),
    StableHlo.unary main_v99 main_v100 (broadcastInDim S8x512x32x128 ![0, 1, 2, 3] bcast_S1x1x1x128_S8x512x32x128_0_1_2_3 : (⟨S1x1x1x128, .f32⟩ : BufTy).Contents (Elt F) → (⟨S8x512x32x128, .f32⟩ : BufTy).Contents (Elt F)),
    StableHlo.binary main_v95 main_v100 main_v101 (Host.divf : (⟨S8x512x32x128, .f32⟩ : BufTy).Contents (Elt F) → (⟨S8x512x32x128, .f32⟩ : BufTy).Contents (Elt F) → (⟨S8x512x32x128, .f32⟩ : BufTy).Contents (Elt F)),
    StableHlo.unary main_arg6 main_v102 (broadcastInDim S1x1x1x128 ![3] bcast_S128_S1x1x1x128_3 : (⟨S128, .f32⟩ : BufTy).Contents (Elt F) → (⟨S1x1x1x128, .f32⟩ : BufTy).Contents (Elt F)),
    StableHlo.unary main_v102 main_v103 (broadcastInDim S8x512x32x128 ![0, 1, 2, 3] bcast_S1x1x1x128_S8x512x32x128_0_1_2_3 : (⟨S1x1x1x128, .f32⟩ : BufTy).Contents (Elt F) → (⟨S8x512x32x128, .f32⟩ : BufTy).Contents (Elt F)),
    StableHlo.binary main_v103 main_v101 main_v104 (mulf : (⟨S8x512x32x128, .f32⟩ : BufTy).Contents (Elt F) → (⟨S8x512x32x128, .f32⟩ : BufTy).Contents (Elt F) → (⟨S8x512x32x128, .f32⟩ : BufTy).Contents (Elt F)),
    StableHlo.unary main_arg7 main_v105 (broadcastInDim S1x1x1x128 ![3] bcast_S128_S1x1x1x128_3 : (⟨S128, .f32⟩ : BufTy).Contents (Elt F) → (⟨S1x1x1x128, .f32⟩ : BufTy).Contents (Elt F)),
    StableHlo.unary main_v105 main_v106 (broadcastInDim S8x512x32x128 ![0, 1, 2, 3] bcast_S1x1x1x128_S8x512x32x128_0_1_2_3 : (⟨S1x1x1x128, .f32⟩ : BufTy).Contents (Elt F) → (⟨S8x512x32x128, .f32⟩ : BufTy).Contents (Elt F)),
    StableHlo.binary main_v104 main_v106 main_v107 (addf : (⟨S8x512x32x128, .f32⟩ : BufTy).Contents (Elt F) → (⟨S8x512x32x128, .f32⟩ : BufTy).Contents (Elt F) → (⟨S8x512x32x128, .f32⟩ : BufTy).Contents (Elt F)) ]

/-- Relu and the maximum over the neighbours. -/
abbrev mid8 : List (HloOp τ sig (Elt F)) :=
  [ StableHlo.nullary main_cst_24 (constant S_ .f32 0x00000000#32),
    StableHlo.unary main_cst_24 main_v108 (broadcastInDim S8x512x32x128 ![] bcast_S_S8x512x32x128 : (⟨S_, .f32⟩ : BufTy).Contents (Elt F) → (⟨S8x512x32x128, .f32⟩ : BufTy).Contents (Elt F)),
    StableHlo.binary main_v107 main_v108 main_v109 (maximumf : (⟨S8x512x32x128, .f32⟩ : BufTy).Contents (Elt F) → (⟨S8x512x32x128, .f32⟩ : BufTy).Contents (Elt F) → (⟨S8x512x32x128, .f32⟩ : BufTy).Contents (Elt F)),
    StableHlo.nullary main_cst_25 (constant S_ .f32 0xFF800000#32),
    StableHlo.binary main_v109 main_cst_25 main_v110 ((fun x v => Host.reduce FloatOps.maximumf x v reducesTo_S8x512x32x128_S8x512x128_d2 h_S_) : (⟨S8x512x32x128, .f32⟩ : BufTy).Contents (Elt F) → (⟨S_, .f32⟩ : BufTy).Contents (Elt F) → (⟨S8x512x128, .f32⟩ : BufTy).Contents (Elt F)) ]

/-- The second loop's initial values. -/
abbrev mid9 : List (HloOp τ sig (Elt F)) :=
  [ StableHlo.nullary main_cst_26 (constant S_ .f32 0x501502F9#32),
    StableHlo.unary main_cst_26 main_v111 (broadcastInDim S8x512 ![] bcast_S_S8x512 : (⟨S_, .f32⟩ : BufTy).Contents (Elt F) → (⟨S8x512, .f32⟩ : BufTy).Contents (Elt F)),
    StableHlo.nullary main_c_27 (constantI S_ 32 0#32),
    StableHlo.unary main_c_27 main_v112 (broadcastInDim S8 ![] bcast_S_S8 : (⟨S_, .i32⟩ : BufTy).Contents (Elt F) → (⟨S8, .i32⟩ : BufTy).Contents (Elt F)),
    StableHlo.nullary main_c_28 (constantI S_ 32 0#32),
    StableHlo.unary main_c_28 main_v113 (broadcastInDim S128x8 ![] bcast_S_S128x8 : (⟨S_, .i32⟩ : BufTy).Contents (Elt F) → (⟨S128x8, .i32⟩ : BufTy).Contents (Elt F)),
    StableHlo.nullary main_c_29 (constantI S_ 32 0#32),
    StableHlo.unary main_v46 main_v114_0 id,
    StableHlo.unary main_c_29 main_v114_1 id,
    StableHlo.unary main_v111 main_v114_2 id,
    StableHlo.unary main_v112 main_v114_3 id,
    StableHlo.unary main_v113 main_v114_4 id ]

/-- The chosen points' coordinates, second level. -/
abbrev post0 : List (HloOp τ sig (Elt F)) :=
  [ StableHlo.unary main_v114_4 main_v115 ((transpose S8x128 [1, 0] · transposes_S128x8_S8x128_1_0) : (⟨S128x8, .i32⟩ : BufTy).Contents (Elt F) → (⟨S8x128, .i32⟩ : BufTy).Contents (Elt F)),
    StableHlo.nullary main_c_30 (constantI S_ 32 0#32),
    StableHlo.unary main_c_30 main_v116 (broadcastInDim S8x128 ![] bcast_S_S8x128 : (⟨S_, .i32⟩ : BufTy).Contents (Elt F) → (⟨S8x128, .i32⟩ : BufTy).Contents (Elt F)),
    StableHlo.binary main_v115 main_v116 main_v117 (cmpi .slt : (⟨S8x128, .i32⟩ : BufTy).Contents (Elt F) → (⟨S8x128, .i32⟩ : BufTy).Contents (Elt F) → (⟨S8x128, .i1⟩ : BufTy).Contents (Elt F)),
    StableHlo.nullary main_c_31 (constantI S_ 32 512#32),
    StableHlo.unary main_c_31 main_v118 (broadcastInDim S8x128 ![] bcast_S_S8x128 : (⟨S_, .i32⟩ : BufTy).Contents (Elt F) → (⟨S8x128, .i32⟩ : BufTy).Contents (Elt F)),
    StableHlo.binary main_v115 main_v118 main_v119 (addi : (⟨S8x128, .i32⟩ : BufTy).Contents (Elt F) → (⟨S8x128, .i32⟩ : BufTy).Contents (Elt F) → (⟨S8x128, .i32⟩ : BufTy).Contents (Elt F)),
    StableHlo.ternary main_v117 main_v119 main_v115 main_v120 (select : (⟨S8x128, .i1⟩ : BufTy).Contents (Elt F) → (⟨S8x128, .i32⟩ : BufTy).Contents (Elt F) → (⟨S8x128, .i32⟩ : BufTy).Contents (Elt F) → (⟨S8x128, .i32⟩ : BufTy).Contents (Elt F)),
    StableHlo.unary main_v120 main_v121 (broadcastInDim S8x128x1 ![0, 1] bcast_S8x128_S8x128x1_0_1 : (⟨S8x128, .i32⟩ : BufTy).Contents (Elt F) → (⟨S8x128x1, .i32⟩ : BufTy).Contents (Elt F)),
    StableHlo.binary main_v46 main_v121 main_v122 ((fun x i => Host.gather gather_S8x512x3_S8x128x1_S8x128x3_2_1_0_0_1_2_113 x i) : (⟨S8x512x3, .f32⟩ : BufTy).Contents (Elt F) → (⟨S8x128x1, .i32⟩ : BufTy).Contents (Elt F) → (⟨S8x128x3, .f32⟩ : BufTy).Contents (Elt F)) ]

/-- Their features. -/
abbrev post1 : List (HloOp τ sig (Elt F)) :=
  [ StableHlo.nullary main_c_32 (constantI S_ 32 0#32),
    StableHlo.unary main_c_32 main_v123 (broadcastInDim S8x128 ![] bcast_S_S8x128 : (⟨S_, .i32⟩ : BufTy).Contents (Elt F) → (⟨S8x128, .i32⟩ : BufTy).Contents (Elt F)),
    StableHlo.binary main_v115 main_v123 main_v124 (cmpi .slt : (⟨S8x128, .i32⟩ : BufTy).Contents (Elt F) → (⟨S8x128, .i32⟩ : BufTy).Contents (Elt F) → (⟨S8x128, .i1⟩ : BufTy).Contents (Elt F)),
    StableHlo.nullary main_c_33 (constantI S_ 32 512#32),
    StableHlo.unary main_c_33 main_v125 (broadcastInDim S8x128 ![] bcast_S_S8x128 : (⟨S_, .i32⟩ : BufTy).Contents (Elt F) → (⟨S8x128, .i32⟩ : BufTy).Contents (Elt F)),
    StableHlo.binary main_v115 main_v125 main_v126 (addi : (⟨S8x128, .i32⟩ : BufTy).Contents (Elt F) → (⟨S8x128, .i32⟩ : BufTy).Contents (Elt F) → (⟨S8x128, .i32⟩ : BufTy).Contents (Elt F)),
    StableHlo.ternary main_v124 main_v126 main_v115 main_v127 (select : (⟨S8x128, .i1⟩ : BufTy).Contents (Elt F) → (⟨S8x128, .i32⟩ : BufTy).Contents (Elt F) → (⟨S8x128, .i32⟩ : BufTy).Contents (Elt F) → (⟨S8x128, .i32⟩ : BufTy).Contents (Elt F)),
    StableHlo.unary main_v127 main_v128 (broadcastInDim S8x128x1 ![0, 1] bcast_S8x128_S8x128x1_0_1 : (⟨S8x128, .i32⟩ : BufTy).Contents (Elt F) → (⟨S8x128x1, .i32⟩ : BufTy).Contents (Elt F)),
    StableHlo.binary main_v110 main_v128 main_v129 ((fun x i => Host.gather gather_S8x512x128_S8x128x1_S8x128x128_2_1_0_0_1_2_11128 x i) : (⟨S8x512x128, .f32⟩ : BufTy).Contents (Elt F) → (⟨S8x128x1, .i32⟩ : BufTy).Contents (Elt F) → (⟨S8x128x128, .f32⟩ : BufTy).Contents (Elt F)) ]

/-- The pairwise distances. -/
abbrev post2 : List (HloOp τ sig (Elt F)) :=
  [ StableHlo.binary main_v122 main_v122 main_v130 (mulf : (⟨S8x128x3, .f32⟩ : BufTy).Contents (Elt F) → (⟨S8x128x3, .f32⟩ : BufTy).Contents (Elt F) → (⟨S8x128x3, .f32⟩ : BufTy).Contents (Elt F)),
    StableHlo.nullary main_cst_34 (constant S_ .f32 0x00000000#32),
    StableHlo.binary main_v130 main_cst_34 main_v131 ((fun x v => Host.reduceAdd x v reducesTo_S8x128x3_S8x128_d2 h_S_) : (⟨S8x128x3, .f32⟩ : BufTy).Contents (Elt F) → (⟨S_, .f32⟩ : BufTy).Contents (Elt F) → (⟨S8x128, .f32⟩ : BufTy).Contents (Elt F)),
    StableHlo.unary main_v131 main_v132 (broadcastInDim S8x128x1 ![0, 1] bcast_S8x128_S8x128x1_0_1 : (⟨S8x128, .f32⟩ : BufTy).Contents (Elt F) → (⟨S8x128x1, .f32⟩ : BufTy).Contents (Elt F)),
    StableHlo.binary main_v46 main_v46 main_v133 (mulf : (⟨S8x512x3, .f32⟩ : BufTy).Contents (Elt F) → (⟨S8x512x3, .f32⟩ : BufTy).Contents (Elt F) → (⟨S8x512x3, .f32⟩ : BufTy).Contents (Elt F)),
    StableHlo.nullary main_cst_35 (constant S_ .f32 0x00000000#32),
    StableHlo.binary main_v133 main_cst_35 main_v134 ((fun x v => Host.reduceAdd x v reducesTo_S8x512x3_S8x512_d2 h_S_) : (⟨S8x512x3, .f32⟩ : BufTy).Contents (Elt F) → (⟨S_, .f32⟩ : BufTy).Contents (Elt F) → (⟨S8x512, .f32⟩ : BufTy).Contents (Elt F)),
    StableHlo.unary main_v134 main_v135 (broadcastInDim S8x1x512 ![0, 2] bcast_S8x512_S8x1x512_0_2 : (⟨S8x512, .f32⟩ : BufTy).Contents (Elt F) → (⟨S8x1x512, .f32⟩ : BufTy).Contents (Elt F)),
    StableHlo.unary main_v132 main_v136 (broadcastInDim S8x128x512 ![0, 1, 2] bcast_S8x128x1_S8x128x512_0_1_2 : (⟨S8x128x1, .f32⟩ : BufTy).Contents (Elt F) → (⟨S8x128x512, .f32⟩ : BufTy).Contents (Elt F)),
    StableHlo.unary main_v135 main_v137 (broadcastInDim S8x128x512 ![0, 1, 2] bcast_S8x1x512_S8x128x512_0_1_2 : (⟨S8x1x512, .f32⟩ : BufTy).Contents (Elt F) → (⟨S8x128x512, .f32⟩ : BufTy).Contents (Elt F)),
    StableHlo.binary main_v136 main_v137 main_v138 (addf : (⟨S8x128x512, .f32⟩ : BufTy).Contents (Elt F) → (⟨S8x128x512, .f32⟩ : BufTy).Contents (Elt F) → (⟨S8x128x512, .f32⟩ : BufTy).Contents (Elt F)),
    StableHlo.binary main_v122 main_v46 main_v139 ((fun l r => Host.dotGeneral dot_S8x128x3_S8x512x3_S8x128x512_2_2_1_1_0_0 none l r) : (⟨S8x128x3, .f32⟩ : BufTy).Contents (Elt F) → (⟨S8x512x3, .f32⟩ : BufTy).Contents (Elt F) → (⟨S8x128x512, .f32⟩ : BufTy).Contents (Elt F)),
    StableHlo.nullary main_cst_36 (constant S_ .f32 0x40000000#32),
    StableHlo.unary main_cst_36 main_v140 (broadcastInDim S8x128x512 ![] bcast_S_S8x128x512 : (⟨S_, .f32⟩ : BufTy).Contents (Elt F) → (⟨S8x128x512, .f32⟩ : BufTy).Contents (Elt F)),
    StableHlo.binary main_v140 main_v139 main_v141 (mulf : (⟨S8x128x512, .f32⟩ : BufTy).Contents (Elt F) → (⟨S8x128x512, .f32⟩ : BufTy).Contents (Elt F) → (⟨S8x128x512, .f32⟩ : BufTy).Contents (Elt F)),
    StableHlo.binary main_v138 main_v141 main_v142 (subf : (⟨S8x128x512, .f32⟩ : BufTy).Contents (Elt F) → (⟨S8x128x512, .f32⟩ : BufTy).Contents (Elt F) → (⟨S8x128x512, .f32⟩ : BufTy).Contents (Elt F)) ]

/-- The ranks. -/
abbrev post3 : List (HloOp τ sig (Elt F)) :=
  [ StableHlo.nullary main_call5_v0 (iotaInDim S8x128x512 32 2),
    StableHlo.binary main_v142 main_call5_v0 main_call5_v1_0 (fun x y => (Host.sort2 S8x128x512 2 comparator_f32_i32_d2 x y).1),
    StableHlo.binary main_v142 main_call5_v0 main_v143 (fun x y => (Host.sort2 S8x128x512 2 comparator_f32_i32_d2 x y).2) ]

/-- The nearest indices. -/
abbrev post4 : List (HloOp τ sig (Elt F)) :=
  [ StableHlo.unary main_v143 main_v144 ((extractStridedSlice S8x128x16 ![0, 0, 0] · slices_S8x128x512_S8x128x16_0_0_0) : (⟨S8x128x512, .i32⟩ : BufTy).Contents (Elt F) → (⟨S8x128x16, .i32⟩ : BufTy).Contents (Elt F)) ]

/-- The neighbours' features less the centre's, beside the centre's. -/
abbrev post5 : List (HloOp τ sig (Elt F)) :=
  [ StableHlo.nullary main_c_37 (constantI S_ 32 0#32),
    StableHlo.unary main_c_37 main_v145 (broadcastInDim S8x128x16 ![] bcast_S_S8x128x16 : (⟨S_, .i32⟩ : BufTy).Contents (Elt F) → (⟨S8x128x16, .i32⟩ : BufTy).Contents (Elt F)),
    StableHlo.binary main_v144 main_v145 main_v146 (cmpi .slt : (⟨S8x128x16, .i32⟩ : BufTy).Contents (Elt F) → (⟨S8x128x16, .i32⟩ : BufTy).Contents (Elt F) → (⟨S8x128x16, .i1⟩ : BufTy).Contents (Elt F)),
    StableHlo.nullary main_c_38 (constantI S_ 32 512#32),
    StableHlo.unary main_c_38 main_v147 (broadcastInDim S8x128x16 ![] bcast_S_S8x128x16 : (⟨S_, .i32⟩ : BufTy).Contents (Elt F) → (⟨S8x128x16, .i32⟩ : BufTy).Contents (Elt F)),
    StableHlo.binary main_v144 main_v147 main_v148 (addi : (⟨S8x128x16, .i32⟩ : BufTy).Contents (Elt F) → (⟨S8x128x16, .i32⟩ : BufTy).Contents (Elt F) → (⟨S8x128x16, .i32⟩ : BufTy).Contents (Elt F)),
    StableHlo.ternary main_v146 main_v148 main_v144 main_v149 (select : (⟨S8x128x16, .i1⟩ : BufTy).Contents (Elt F) → (⟨S8x128x16, .i32⟩ : BufTy).Contents (Elt F) → (⟨S8x128x16, .i32⟩ : BufTy).Contents (Elt F) → (⟨S8x128x16, .i32⟩ : BufTy).Contents (Elt F)),
    StableHlo.unary main_v149 main_v150 (broadcastInDim S8x128x16x1 ![0, 1, 2] bcast_S8x128x16_S8x128x16x1_0_1_2 : (⟨S8x128x16, .i32⟩ : BufTy).Contents (Elt F) → (⟨S8x128x16x1, .i32⟩ : BufTy).Contents (Elt F)),
    StableHlo.binary main_v110 main_v150 main_v151 ((fun x i => Host.gather gather_S8x512x128_S8x128x16x1_S8x128x16x128_3_1_0_0_1_3_11128 x i) : (⟨S8x512x128, .f32⟩ : BufTy).Contents (Elt F) → (⟨S8x128x16x1, .i32⟩ : BufTy).Contents (Elt F) → (⟨S8x128x16x128, .f32⟩ : BufTy).Contents (Elt F)),
    StableHlo.unary main_v129 main_v152 (broadcastInDim S8x128x1x128 ![0, 1, 3] bcast_S8x128x128_S8x128x1x128_0_1_3 : (⟨S8x128x128, .f32⟩ : BufTy).Contents (Elt F) → (⟨S8x128x1x128, .f32⟩ : BufTy).Contents (Elt F)),
    StableHlo.unary main_v152 main_v153 (broadcastInDim S8x128x16x128 ![0, 1, 2, 3] bcast_S8x128x1x128_S8x128x16x128_0_1_2_3 : (⟨S8x128x1x128, .f32⟩ : BufTy).Contents (Elt F) → (⟨S8x128x16x128, .f32⟩ : BufTy).Contents (Elt F)),
    StableHlo.binary main_v151 main_v153 main_v154 (subf : (⟨S8x128x16x128, .f32⟩ : BufTy).Contents (Elt F) → (⟨S8x128x16x128, .f32⟩ : BufTy).Contents (Elt F) → (⟨S8x128x16x128, .f32⟩ : BufTy).Contents (Elt F)),
    StableHlo.unary main_v129 main_v155 (broadcastInDim S8x128x1x128 ![0, 1, 3] bcast_S8x128x128_S8x128x1x128_0_1_3 : (⟨S8x128x128, .f32⟩ : BufTy).Contents (Elt F) → (⟨S8x128x1x128, .f32⟩ : BufTy).Contents (Elt F)),
    StableHlo.unary main_v155 main_v156 (broadcastInDim S8x128x16x128 ![0, 1, 2, 3] bcast_S8x128x1x128_S8x128x16x128_0_1_2_3 : (⟨S8x128x1x128, .f32⟩ : BufTy).Contents (Elt F) → (⟨S8x128x16x128, .f32⟩ : BufTy).Contents (Elt F)),
    StableHlo.binary main_v154 main_v156 main_v157 ((fun a b => concatenate S8x128x16x256 3 [⟨S8x128x16x128, a⟩, ⟨S8x128x16x128, b⟩] concatenates_S8x128x16x128_S8x128x16x128_S8x128x16x256_d3) : (⟨S8x128x16x128, .f32⟩ : BufTy).Contents (Elt F) → (⟨S8x128x16x128, .f32⟩ : BufTy).Contents (Elt F) → (⟨S8x128x16x256, .f32⟩ : BufTy).Contents (Elt F)) ]

/-- The third linear map. -/
abbrev post6 : List (HloOp τ sig (Elt F)) :=
  [ StableHlo.binary main_v157 main_arg8 main_v158 ((fun l r => Host.dotGeneral dot_S8x128x16x256_S128x256_S8x128x16x128_3_1_012_0_n_n none l r) : (⟨S8x128x16x256, .f32⟩ : BufTy).Contents (Elt F) → (⟨S128x256, .f32⟩ : BufTy).Contents (Elt F) → (⟨S8x128x16x128, .f32⟩ : BufTy).Contents (Elt F)) ]

/-- Its normalisation. -/
abbrev post7 : List (HloOp τ sig (Elt F)) :=
  [ StableHlo.nullary main_cst_39 (constant S_ .f32 0x00000000#32),
    StableHlo.binary main_v158 main_cst_39 main_v159 ((fun x v => Host.reduceAdd x v reducesTo_S8x128x16x128_S128_d0_1_2 h_S_) : (⟨S8x128x16x128, .f32⟩ : BufTy).Contents (Elt F) → (⟨S_, .f32⟩ : BufTy).Contents (Elt F) → (⟨S128, .f32⟩ : BufTy).Contents (Elt F)),
    StableHlo.nullary main_cst_40 (constant S_ .f32 0x46800000#32),
    StableHlo.unary main_cst_40 main_v160 (broadcastInDim S128 ![] bcast_S_S128 : (⟨S_, .f32⟩ : BufTy).Contents (Elt F) → (⟨S128, .f32⟩ : BufTy).Contents (Elt F)),
    StableHlo.binary main_v159 main_v160 main_v161 (Host.divf : (⟨S128, .f32⟩ : BufTy).Contents (Elt F) → (⟨S128, .f32⟩ : BufTy).Contents (Elt F) → (⟨S128, .f32⟩ : BufTy).Contents (Elt F)),
    StableHlo.unary main_v161 main_v162 (broadcastInDim S1x1x1x128 ![3] bcast_S128_S1x1x1x128_3 : (⟨S128, .f32⟩ : BufTy).Contents (Elt F) → (⟨S1x1x1x128, .f32⟩ : BufTy).Contents (Elt F)),
    StableHlo.unary main_v162 main_v163 (broadcastInDim S8x128x16x128 ![0, 1, 2, 3] bcast_S1x1x1x128_S8x128x16x128_0_1_2_3 : (⟨S1x1x1x128, .f32⟩ : BufTy).Contents (Elt F) → (⟨S8x128x16x128, .f32⟩ : BufTy).Contents (Elt F)),
    StableHlo.binary main_v158 main_v163 main_v164 (subf : (⟨S8x128x16x128, .f32⟩ : BufTy).Contents (Elt F) → (⟨S8x128x16x128, .f32⟩ : BufTy).Contents (Elt F) → (⟨S8x128x16x128, .f32⟩ : BufTy).Contents (Elt F)),
    StableHlo.binary main_v164 main_v164 main_v165 (mulf : (⟨S8x128x16x128, .f32⟩ : BufTy).Contents (Elt F) → (⟨S8x128x16x128, .f32⟩ : BufTy).Contents (Elt F) → (⟨S8x128x16x128, .f32⟩ : BufTy).Contents (Elt F)),
    StableHlo.nullary main_cst_41 (constant S_ .f32 0x00000000#32),
    StableHlo.binary main_v165 main_cst_41 main_v166 ((fun x v => Host.reduceAdd x v reducesTo_S8x128x16x128_S128_d0_1_2 h_S_) : (⟨S8x128x16x128, .f32⟩ : BufTy).Contents (Elt F) → (⟨S_, .f32⟩ : BufTy).Contents (Elt F) → (⟨S128, .f32⟩ : BufTy).Contents (Elt F)),
    StableHlo.nullary main_cst_42 (constant S_ .f32 0x46800000#32),
    StableHlo.unary main_cst_42 main_v167 (broadcastInDim S128 ![] bcast_S_S128 : (⟨S_, .f32⟩ : BufTy).Contents (Elt F) → (⟨S128, .f32⟩ : BufTy).Contents (Elt F)),
    StableHlo.binary main_v166 main_v167 main_v168 (Host.divf : (⟨S128, .f32⟩ : BufTy).Contents (Elt F) → (⟨S128, .f32⟩ : BufTy).Contents (Elt F) → (⟨S128, .f32⟩ : BufTy).Contents (Elt F)),
    StableHlo.unary main_v161 main_v169 (broadcastInDim S1x1x1x128 ![3] bcast_S128_S1x1x1x128_3 : (⟨S128, .f32⟩ : BufTy).Contents (Elt F) → (⟨S1x1x1x128, .f32⟩ : BufTy).Contents (Elt F)),
    StableHlo.unary main_v169 main_v170 (broadcastInDim S8x128x16x128 ![0, 1, 2, 3] bcast_S1x1x1x128_S8x128x16x128_0_1_2_3 : (⟨S1x1x1x128, .f32⟩ : BufTy).Contents (Elt F) → (⟨S8x128x16x128, .f32⟩ : BufTy).Contents (Elt F)),
    StableHlo.binary main_v158 main_v170 main_v171 (subf : (⟨S8x128x16x128, .f32⟩ : BufTy).Contents (Elt F) → (⟨S8x128x16x128, .f32⟩ : BufTy).Contents (Elt F) → (⟨S8x128x16x128, .f32⟩ : BufTy).Contents (Elt F)),
    StableHlo.nullary main_cst_43 (constant S_ .f32 0x3727C5AC#32),
    StableHlo.unary main_cst_43 main_v172 (broadcastInDim S128 ![] bcast_S_S128 : (⟨S_, .f32⟩ : BufTy).Contents (Elt F) → (⟨S128, .f32⟩ : BufTy).Contents (Elt F)),
    StableHlo.binary main_v168 main_v172 main_v173 (addf : (⟨S128, .f32⟩ : BufTy).Contents (Elt F) → (⟨S128, .f32⟩ : BufTy).Contents (Elt F) → (⟨S128, .f32⟩ : BufTy).Contents (Elt F)),
    StableHlo.unary main_v173 main_v174 (Host.sqrt : (⟨S128, .f32⟩ : BufTy).Contents (Elt F) → (⟨S128, .f32⟩ : BufTy).Contents (Elt F)),
    StableHlo.unary main_v174 main_v175 (broadcastInDim S1x1x1x128 ![3] bcast_S128_S1x1x1x128_3 : (⟨S128, .f32⟩ : BufTy).Contents (Elt F) → (⟨S1x1x1x128, .f32⟩ : BufTy).Contents (Elt F)),
    StableHlo.unary main_v175 main_v176 (broadcastInDim S8x128x16x128 ![0, 1, 2, 3] bcast_S1x1x1x128_S8x128x16x128_0_1_2_3 : (⟨S1x1x1x128, .f32⟩ : BufTy).Contents (Elt F) → (⟨S8x128x16x128, .f32⟩ : BufTy).Contents (Elt F)),
    StableHlo.binary main_v171 main_v176 main_v177 (Host.divf : (⟨S8x128x16x128, .f32⟩ : BufTy).Contents (Elt F) → (⟨S8x128x16x128, .f32⟩ : BufTy).Contents (Elt F) → (⟨S8x128x16x128, .f32⟩ : BufTy).Contents (Elt F)),
    StableHlo.unary main_arg9 main_v178 (broadcastInDim S1x1x1x128 ![3] bcast_S128_S1x1x1x128_3 : (⟨S128, .f32⟩ : BufTy).Contents (Elt F) → (⟨S1x1x1x128, .f32⟩ : BufTy).Contents (Elt F)),
    StableHlo.unary main_v178 main_v179 (broadcastInDim S8x128x16x128 ![0, 1, 2, 3] bcast_S1x1x1x128_S8x128x16x128_0_1_2_3 : (⟨S1x1x1x128, .f32⟩ : BufTy).Contents (Elt F) → (⟨S8x128x16x128, .f32⟩ : BufTy).Contents (Elt F)),
    StableHlo.binary main_v179 main_v177 main_v180 (mulf : (⟨S8x128x16x128, .f32⟩ : BufTy).Contents (Elt F) → (⟨S8x128x16x128, .f32⟩ : BufTy).Contents (Elt F) → (⟨S8x128x16x128, .f32⟩ : BufTy).Contents (Elt F)),
    StableHlo.unary main_arg10 main_v181 (broadcastInDim S1x1x1x128 ![3] bcast_S128_S1x1x1x128_3 : (⟨S128, .f32⟩ : BufTy).Contents (Elt F) → (⟨S1x1x1x128, .f32⟩ : BufTy).Contents (Elt F)),
    StableHlo.unary main_v181 main_v182 (broadcastInDim S8x128x16x128 ![0, 1, 2, 3] bcast_S1x1x1x128_S8x128x16x128_0_1_2_3 : (⟨S1x1x1x128, .f32⟩ : BufTy).Contents (Elt F) → (⟨S8x128x16x128, .f32⟩ : BufTy).Contents (Elt F)),
    StableHlo.binary main_v180 main_v182 main_v183 (addf : (⟨S8x128x16x128, .f32⟩ : BufTy).Contents (Elt F) → (⟨S8x128x16x128, .f32⟩ : BufTy).Contents (Elt F) → (⟨S8x128x16x128, .f32⟩ : BufTy).Contents (Elt F)) ]

/-- Relu and the maximum over the neighbours. -/
abbrev post8 : List (HloOp τ sig (Elt F)) :=
  [ StableHlo.nullary main_cst_44 (constant S_ .f32 0x00000000#32),
    StableHlo.unary main_cst_44 main_v184 (broadcastInDim S8x128x16x128 ![] bcast_S_S8x128x16x128 : (⟨S_, .f32⟩ : BufTy).Contents (Elt F) → (⟨S8x128x16x128, .f32⟩ : BufTy).Contents (Elt F)),
    StableHlo.binary main_v183 main_v184 main_v185 (maximumf : (⟨S8x128x16x128, .f32⟩ : BufTy).Contents (Elt F) → (⟨S8x128x16x128, .f32⟩ : BufTy).Contents (Elt F) → (⟨S8x128x16x128, .f32⟩ : BufTy).Contents (Elt F)),
    StableHlo.nullary main_cst_45 (constant S_ .f32 0xFF800000#32),
    StableHlo.binary main_v185 main_cst_45 main_v186 ((fun x v => Host.reduce FloatOps.maximumf x v reducesTo_S8x128x16x128_S8x128x128_d2 h_S_) : (⟨S8x128x16x128, .f32⟩ : BufTy).Contents (Elt F) → (⟨S_, .f32⟩ : BufTy).Contents (Elt F) → (⟨S8x128x128, .f32⟩ : BufTy).Contents (Elt F)) ]

/-- The first loop's condition. -/
abbrev cond0 : List (HloOp τ sig (Elt F)) :=
  [ StableHlo.nullary main_while0c_c_50 (constantI S_ 32 512#32),
    StableHlo.binary main_v38_1 main_while0c_c_50 main_while0c_v187 (cmpi .slt : (⟨S_, .i32⟩ : BufTy).Contents (Elt F) → (⟨S_, .i32⟩ : BufTy).Contents (Elt F) → (⟨S_, .i1⟩ : BufTy).Contents (Elt F)) ]

/-- The first loop's body. -/
abbrev body0 : List (HloOp τ sig (Elt F)) :=
  [ StableHlo.unary main_v38_3 main_while0b_v187 (broadcastInDim S8x1 ![0] bcast_S8_S8x1_0 : (⟨S8, .i32⟩ : BufTy).Contents (Elt F) → (⟨S8x1, .i32⟩ : BufTy).Contents (Elt F)),
    StableHlo.nullary main_while0b_c_50 (constantI S_ 32 0#32),
    StableHlo.unary main_while0b_c_50 main_while0b_v188 (broadcastInDim S8x1 ![] bcast_S_S8x1 : (⟨S_, .i32⟩ : BufTy).Contents (Elt F) → (⟨S8x1, .i32⟩ : BufTy).Contents (Elt F)),
    StableHlo.binary main_while0b_v187 main_while0b_v188 main_while0b_v189 (cmpi .slt : (⟨S8x1, .i32⟩ : BufTy).Contents (Elt F) → (⟨S8x1, .i32⟩ : BufTy).Contents (Elt F) → (⟨S8x1, .i1⟩ : BufTy).Contents (Elt F)),
    StableHlo.nullary main_while0b_c_51 (constantI S_ 32 2048#32),
    StableHlo.unary main_while0b_c_51 main_while0b_v190 (broadcastInDim S8x1 ![] bcast_S_S8x1 : (⟨S_, .i32⟩ : BufTy).Contents (Elt F) → (⟨S8x1, .i32⟩ : BufTy).Contents (Elt F)),
    StableHlo.binary main_while0b_v187 main_while0b_v190 main_while0b_v191 (addi : (⟨S8x1, .i32⟩ : BufTy).Contents (Elt F) → (⟨S8x1, .i32⟩ : BufTy).Contents (Elt F) → (⟨S8x1, .i32⟩ : BufTy).Contents (Elt F)),
    StableHlo.ternary main_while0b_v189 main_while0b_v191 main_while0b_v187 main_while0b_v192 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.unary main_while0b_v192 main_while0b_v193 (broadcastInDim S8x1x1 ![0, 1] bcast_S8x1_S8x1x1_0_1 : (⟨S8x1, .i32⟩ : BufTy).Contents (Elt F) → (⟨S8x1x1, .i32⟩ : BufTy).Contents (Elt F)),
    StableHlo.binary main_v38_0 main_while0b_v193 main_while0b_v194 ((fun x i => Host.gather gather_S8x2048x3_S8x1x1_S8x1x3_2_1_0_0_1_2_113 x i) : (⟨S8x2048x3, .f32⟩ : BufTy).Contents (Elt F) → (⟨S8x1x1, .i32⟩ : BufTy).Contents (Elt F) → (⟨S8x1x3, .f32⟩ : BufTy).Contents (Elt F)),
    StableHlo.unary main_while0b_v194 main_while0b_v195 (broadcastInDim S8x2048x3 ![0, 1, 2] bcast_S8x1x3_S8x2048x3_0_1_2 : (⟨S8x1x3, .f32⟩ : BufTy).Contents (Elt F) → (⟨S8x2048x3, .f32⟩ : BufTy).Contents (Elt F)),
    StableHlo.binary main_v38_0 main_while0b_v195 main_while0b_v196 (subf : (⟨S8x2048x3, .f32⟩ : BufTy).Contents (Elt F) → (⟨S8x2048x3, .f32⟩ : BufTy).Contents (Elt F) → (⟨S8x2048x3, .f32⟩ : BufTy).Contents (Elt F)),
    StableHlo.binary main_while0b_v196 main_while0b_v196 main_while0b_v197 (mulf : (⟨S8x2048x3, .f32⟩ : BufTy).Contents (Elt F) → (⟨S8x2048x3, .f32⟩ : BufTy).Contents (Elt F) → (⟨S8x2048x3, .f32⟩ : BufTy).Contents (Elt F)),
    StableHlo.nullary main_while0b_cst_52 (constant S_ .f32 0x00000000#32),
    StableHlo.binary main_while0b_v197 main_while0b_cst_52 main_while0b_v198 ((fun x v => Host.reduceAdd x v reducesTo_S8x2048x3_S8x2048_d2 h_S_) : (⟨S8x2048x3, .f32⟩ : BufTy).Contents (Elt F) → (⟨S_, .f32⟩ : BufTy).Contents (Elt F) → (⟨S8x2048, .f32⟩ : BufTy).Contents (Elt F)),
    StableHlo.binary main_v38_2 main_while0b_v198 main_while0b_v199 (minimumf : (⟨S8x2048, .f32⟩ : BufTy).Contents (Elt F) → (⟨S8x2048, .f32⟩ : BufTy).Contents (Elt F) → (⟨S8x2048, .f32⟩ : BufTy).Contents (Elt F)),
    StableHlo.nullary main_while0b_call0_v0 (iotaInDim S8x2048 32 1),
    StableHlo.nullary main_while0b_call0_cst (constant S_ .f32 0xFF800000#32),
    StableHlo.nullary main_while0b_call0_c (constantI S_ 32 0#32),
    StableHlo.quaternary main_while0b_v199 main_while0b_call0_v0 main_while0b_call0_cst main_while0b_call0_c main_while0b_call0_v1_0 (fun x y u v j => (Host.argReduce reducer_argmax_f32_i32 x y u v reducesTo_S8x2048_S8_d1 h_S_ j).1),
    StableHlo.quaternary main_while0b_v199 main_while0b_call0_v0 main_while0b_call0_cst main_while0b_call0_c main_while0b_v200 (fun x y u v j => (Host.argReduce reducer_argmax_f32_i32 x y u v reducesTo_S8x2048_S8_d1 h_S_ j).2),
    StableHlo.unary main_v38_3 main_while0b_call1_v0 (broadcastInDim S1x8 ![1] bcast_S8_S1x8_1),
    StableHlo.nullary main_while0b_call1_c (constantI S_ 32 0#32),
    StableHlo.TRef.binaryIndexed (.of main_v38_4 : StableHlo.TRef sig ⟨S512x8, .i32⟩) (.of main_while0b_call1_v0 : StableHlo.TRef sig ⟨S1x8, .i32⟩) ![(.of main_v38_1 : StableHlo.TRef sig ⟨S_, .i32⟩), (.of main_while0b_call1_c : StableHlo.TRef sig ⟨S_, .i32⟩)] (.of main_while0b_v201 : StableHlo.TRef sig ⟨S512x8, .i32⟩) (fun x u i => Host.dynamicUpdateSlice x u (fun k => (i k (Shape.Idx.first h_S_)).toInt) updateFits_S512x8_S1x8),
    StableHlo.nullary main_while0b_c_53 (constantI S_ 32 1#32),
    StableHlo.binary main_v38_1 main_while0b_c_53 main_while0b_v202 (addi : (⟨S_, .i32⟩ : BufTy).Contents (Elt F) → (⟨S_, .i32⟩ : BufTy).Contents (Elt F) → (⟨S_, .i32⟩ : BufTy).Contents (Elt F)),
    StableHlo.unary main_while0b_v202 main_v38_1 id,
    StableHlo.unary main_while0b_v199 main_v38_2 id,
    StableHlo.unary main_while0b_v200 main_v38_3 id,
    StableHlo.unary main_while0b_v201 main_v38_4 id ]

/-- The second loop's condition. -/
abbrev cond1 : List (HloOp τ sig (Elt F)) :=
  [ StableHlo.nullary main_while1c_c_50 (constantI S_ 32 128#32),
    StableHlo.binary main_v114_1 main_while1c_c_50 main_while1c_v187 (cmpi .slt : (⟨S_, .i32⟩ : BufTy).Contents (Elt F) → (⟨S_, .i32⟩ : BufTy).Contents (Elt F) → (⟨S_, .i1⟩ : BufTy).Contents (Elt F)) ]

/-- The second loop's body. -/
abbrev body1 : List (HloOp τ sig (Elt F)) :=
  [ StableHlo.unary main_v114_3 main_while1b_v187 (broadcastInDim S8x1 ![0] bcast_S8_S8x1_0 : (⟨S8, .i32⟩ : BufTy).Contents (Elt F) → (⟨S8x1, .i32⟩ : BufTy).Contents (Elt F)),
    StableHlo.nullary main_while1b_c_50 (constantI S_ 32 0#32),
    StableHlo.unary main_while1b_c_50 main_while1b_v188 (broadcastInDim S8x1 ![] bcast_S_S8x1 : (⟨S_, .i32⟩ : BufTy).Contents (Elt F) → (⟨S8x1, .i32⟩ : BufTy).Contents (Elt F)),
    StableHlo.binary main_while1b_v187 main_while1b_v188 main_while1b_v189 (cmpi .slt : (⟨S8x1, .i32⟩ : BufTy).Contents (Elt F) → (⟨S8x1, .i32⟩ : BufTy).Contents (Elt F) → (⟨S8x1, .i1⟩ : BufTy).Contents (Elt F)),
    StableHlo.nullary main_while1b_c_51 (constantI S_ 32 512#32),
    StableHlo.unary main_while1b_c_51 main_while1b_v190 (broadcastInDim S8x1 ![] bcast_S_S8x1 : (⟨S_, .i32⟩ : BufTy).Contents (Elt F) → (⟨S8x1, .i32⟩ : BufTy).Contents (Elt F)),
    StableHlo.binary main_while1b_v187 main_while1b_v190 main_while1b_v191 (addi : (⟨S8x1, .i32⟩ : BufTy).Contents (Elt F) → (⟨S8x1, .i32⟩ : BufTy).Contents (Elt F) → (⟨S8x1, .i32⟩ : BufTy).Contents (Elt F)),
    StableHlo.ternary main_while1b_v189 main_while1b_v191 main_while1b_v187 main_while1b_v192 (select : (⟨S8x1, .i1⟩ : BufTy).Contents (Elt F) → (⟨S8x1, .i32⟩ : BufTy).Contents (Elt F) → (⟨S8x1, .i32⟩ : BufTy).Contents (Elt F) → (⟨S8x1, .i32⟩ : BufTy).Contents (Elt F)),
    StableHlo.unary main_while1b_v192 main_while1b_v193 (broadcastInDim S8x1x1 ![0, 1] bcast_S8x1_S8x1x1_0_1 : (⟨S8x1, .i32⟩ : BufTy).Contents (Elt F) → (⟨S8x1x1, .i32⟩ : BufTy).Contents (Elt F)),
    StableHlo.binary main_v114_0 main_while1b_v193 main_while1b_v194 ((fun x i => Host.gather gather_S8x512x3_S8x1x1_S8x1x3_2_1_0_0_1_2_113 x i) : (⟨S8x512x3, .f32⟩ : BufTy).Contents (Elt F) → (⟨S8x1x1, .i32⟩ : BufTy).Contents (Elt F) → (⟨S8x1x3, .f32⟩ : BufTy).Contents (Elt F)),
    StableHlo.unary main_while1b_v194 main_while1b_v195 (broadcastInDim S8x512x3 ![0, 1, 2] bcast_S8x1x3_S8x512x3_0_1_2 : (⟨S8x1x3, .f32⟩ : BufTy).Contents (Elt F) → (⟨S8x512x3, .f32⟩ : BufTy).Contents (Elt F)),
    StableHlo.binary main_v114_0 main_while1b_v195 main_while1b_v196 (subf : (⟨S8x512x3, .f32⟩ : BufTy).Contents (Elt F) → (⟨S8x512x3, .f32⟩ : BufTy).Contents (Elt F) → (⟨S8x512x3, .f32⟩ : BufTy).Contents (Elt F)),
    StableHlo.binary main_while1b_v196 main_while1b_v196 main_while1b_v197 (mulf : (⟨S8x512x3, .f32⟩ : BufTy).Contents (Elt F) → (⟨S8x512x3, .f32⟩ : BufTy).Contents (Elt F) → (⟨S8x512x3, .f32⟩ : BufTy).Contents (Elt F)),
    StableHlo.nullary main_while1b_cst_52 (constant S_ .f32 0x00000000#32),
    StableHlo.binary main_while1b_v197 main_while1b_cst_52 main_while1b_v198 ((fun x v => Host.reduceAdd x v reducesTo_S8x512x3_S8x512_d2 h_S_) : (⟨S8x512x3, .f32⟩ : BufTy).Contents (Elt F) → (⟨S_, .f32⟩ : BufTy).Contents (Elt F) → (⟨S8x512, .f32⟩ : BufTy).Contents (Elt F)),
    StableHlo.binary main_v114_2 main_while1b_v198 main_while1b_v199 (minimumf : (⟨S8x512, .f32⟩ : BufTy).Contents (Elt F) → (⟨S8x512, .f32⟩ : BufTy).Contents (Elt F) → (⟨S8x512, .f32⟩ : BufTy).Contents (Elt F)),
    StableHlo.nullary main_while1b_call3_v0 (iotaInDim S8x512 32 1),
    StableHlo.nullary main_while1b_call3_cst (constant S_ .f32 0xFF800000#32),
    StableHlo.nullary main_while1b_call3_c (constantI S_ 32 0#32),
    StableHlo.quaternary main_while1b_v199 main_while1b_call3_v0 main_while1b_call3_cst main_while1b_call3_c main_while1b_call3_v1_0 (fun x y u v j => (Host.argReduce reducer_argmax_f32_i32 x y u v reducesTo_S8x512_S8_d1 h_S_ j).1),
    StableHlo.quaternary main_while1b_v199 main_while1b_call3_v0 main_while1b_call3_cst main_while1b_call3_c main_while1b_v200 (fun x y u v j => (Host.argReduce reducer_argmax_f32_i32 x y u v reducesTo_S8x512_S8_d1 h_S_ j).2),
    StableHlo.unary main_v114_3 main_while1b_call4_v0 (broadcastInDim S1x8 ![1] bcast_S8_S1x8_1),
    StableHlo.nullary main_while1b_call4_c (constantI S_ 32 0#32),
    StableHlo.TRef.binaryIndexed (.of main_v114_4 : StableHlo.TRef sig ⟨S128x8, .i32⟩) (.of main_while1b_call4_v0 : StableHlo.TRef sig ⟨S1x8, .i32⟩) ![(.of main_v114_1 : StableHlo.TRef sig ⟨S_, .i32⟩), (.of main_while1b_call4_c : StableHlo.TRef sig ⟨S_, .i32⟩)] (.of main_while1b_v201 : StableHlo.TRef sig ⟨S128x8, .i32⟩) (fun x u i => Host.dynamicUpdateSlice x u (fun k => (i k (Shape.Idx.first h_S_)).toInt) updateFits_S128x8_S1x8),
    StableHlo.nullary main_while1b_c_53 (constantI S_ 32 1#32),
    StableHlo.binary main_v114_1 main_while1b_c_53 main_while1b_v202 (addi : (⟨S_, .i32⟩ : BufTy).Contents (Elt F) → (⟨S_, .i32⟩ : BufTy).Contents (Elt F) → (⟨S_, .i32⟩ : BufTy).Contents (Elt F)),
    StableHlo.unary main_while1b_v202 main_v114_1 id,
    StableHlo.unary main_while1b_v199 main_v114_2 id,
    StableHlo.unary main_while1b_v200 main_v114_3 id,
    StableHlo.unary main_while1b_v201 main_v114_4 id ]

/-! ## Every operation touches the host's buffers only -/

theorem pre0_sub : (pre0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub ..⟩
theorem pre1_sub : (pre1 : List (HloOp τ sig (Elt F))).Forall fun op => op.bufs ⊆ StableHlo.tcRefs τ sig :=
  ⟨StableHlo.binary_bufs_sub .., StableHlo.binary_bufs_sub ..⟩
theorem pre2_sub : (pre2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
theorem pre3_sub : (pre3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
theorem mid0_sub : (mid0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem mid1_sub : (mid1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem mid2_sub : (mid2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
theorem mid3_sub : (mid3 : List (HloOp τ sig (Elt F))).Forall fun op => op.bufs ⊆ StableHlo.tcRefs τ sig :=
  ⟨StableHlo.nullary_bufs_sub .., StableHlo.binary_bufs_sub .., StableHlo.binary_bufs_sub ..⟩
theorem mid4_sub : (mid4 : List (HloOp τ sig (Elt F))).Forall fun op => op.bufs ⊆ StableHlo.tcRefs τ sig :=
  StableHlo.unary_bufs_sub ..
theorem mid5_sub : (mid5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem mid6_sub : (mid6 : List (HloOp τ sig (Elt F))).Forall fun op => op.bufs ⊆ StableHlo.tcRefs τ sig :=
  StableHlo.binary_bufs_sub ..
theorem mid7_sub : (mid7 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem mid8_sub : (mid8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub ..⟩
theorem mid9_sub : (mid9 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
theorem post0_sub : (post0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem post1_sub : (post1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem post2_sub : (post2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
theorem post3_sub : (post3 : List (HloOp τ sig (Elt F))).Forall fun op => op.bufs ⊆ StableHlo.tcRefs τ sig :=
  ⟨StableHlo.nullary_bufs_sub .., StableHlo.binary_bufs_sub .., StableHlo.binary_bufs_sub ..⟩
theorem post4_sub : (post4 : List (HloOp τ sig (Elt F))).Forall fun op => op.bufs ⊆ StableHlo.tcRefs τ sig :=
  StableHlo.unary_bufs_sub ..
theorem post5_sub : (post5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem post6_sub : (post6 : List (HloOp τ sig (Elt F))).Forall fun op => op.bufs ⊆ StableHlo.tcRefs τ sig :=
  StableHlo.binary_bufs_sub ..
theorem post7_sub : (post7 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem post8_sub : (post8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub ..⟩
theorem cond0_sub : (cond0 : List (HloOp τ sig (Elt F))).Forall fun op => op.bufs ⊆ StableHlo.tcRefs τ sig :=
  ⟨StableHlo.nullary_bufs_sub .., StableHlo.binary_bufs_sub ..⟩
theorem body0_sub : (body0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
theorem cond1_sub : (cond1 : List (HloOp τ sig (Elt F))).Forall fun op => op.bufs ⊆ StableHlo.tcRefs τ sig :=
  ⟨StableHlo.nullary_bufs_sub .., StableHlo.binary_bufs_sub ..⟩
theorem body1_sub : (body1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩
/-! ## What every stretch writes -/

abbrev pre0_W : List (Ref sig .tc) :=
  [main_cst, main_v0, main_cst_0, main_v1, main_v2, main_v3, main_v4, main_v5]
theorem pre0_writes : (pre0 : List (HloOp τ sig (Elt F))).Forall fun op => op.writes ⊆ (pre0_W.map (Proc.devRef (τ := τ) .tc)).toFinset :=
  StableHlo.forall_writes_sub_of_map rfl
abbrev pre1_W : List (Ref sig .tc) :=
  [main_v6, main_v7]
theorem pre1_writes : (pre1 : List (HloOp τ sig (Elt F))).Forall fun op => op.writes ⊆ (pre1_W.map (Proc.devRef (τ := τ) .tc)).toFinset :=
  StableHlo.forall_writes_sub_of_map rfl
abbrev pre2_W : List (Ref sig .tc) :=
  [main_cst_1, main_v8, main_cst_2, main_v9, main_v10, main_v11, main_v12, main_v13, main_v14, main_cst_3, main_v15, main_cst_4, main_v16, main_v17, main_v18, main_v19, main_v20, main_cst_5, main_v21, main_v22, main_v23, main_v24, main_v25, main_v26, main_v27, main_v28, main_v29, main_v30, main_v31, main_v32, main_cst_6, main_v33, main_v34]
theorem pre2_writes : (pre2 : List (HloOp τ sig (Elt F))).Forall fun op => op.writes ⊆ (pre2_W.map (Proc.devRef (τ := τ) .tc)).toFinset :=
  StableHlo.forall_writes_sub_of_map rfl
abbrev pre3_W : List (Ref sig .tc) :=
  [main_cst_7, main_v35, main_c, main_v36, main_c_8, main_v37, main_c_9, main_v38_0, main_v38_1, main_v38_2, main_v38_3, main_v38_4]
theorem pre3_writes : (pre3 : List (HloOp τ sig (Elt F))).Forall fun op => op.writes ⊆ (pre3_W.map (Proc.devRef (τ := τ) .tc)).toFinset :=
  StableHlo.forall_writes_sub_of_map rfl
abbrev mid0_W : List (Ref sig .tc) :=
  [main_v39, main_c_10, main_v40, main_v41, main_c_11, main_v42, main_v43, main_v44, main_v45, main_v46]
theorem mid0_writes : (mid0 : List (HloOp τ sig (Elt F))).Forall fun op => op.writes ⊆ (mid0_W.map (Proc.devRef (τ := τ) .tc)).toFinset :=
  StableHlo.forall_writes_sub_of_map rfl
abbrev mid1_W : List (Ref sig .tc) :=
  [main_c_12, main_v47, main_v48, main_c_13, main_v49, main_v50, main_v51, main_v52, main_v53]
theorem mid1_writes : (mid1 : List (HloOp τ sig (Elt F))).Forall fun op => op.writes ⊆ (mid1_W.map (Proc.devRef (τ := τ) .tc)).toFinset :=
  StableHlo.forall_writes_sub_of_map rfl
abbrev mid2_W : List (Ref sig .tc) :=
  [main_v54, main_cst_14, main_v55, main_v56, main_v57, main_cst_15, main_v58, main_v59, main_v60, main_v61, main_v62, main_v63, main_cst_16, main_v64, main_v65, main_v66]
theorem mid2_writes : (mid2 : List (HloOp τ sig (Elt F))).Forall fun op => op.writes ⊆ (mid2_W.map (Proc.devRef (τ := τ) .tc)).toFinset :=
  StableHlo.forall_writes_sub_of_map rfl
abbrev mid3_W : List (Ref sig .tc) :=
  [main_call2_v0, main_call2_v1_0, main_v67]
theorem mid3_writes : (mid3 : List (HloOp τ sig (Elt F))).Forall fun op => op.writes ⊆ (mid3_W.map (Proc.devRef (τ := τ) .tc)).toFinset :=
  StableHlo.forall_writes_sub_of_map rfl
abbrev mid4_W : List (Ref sig .tc) :=
  [main_v68]
theorem mid4_writes : (mid4 : List (HloOp τ sig (Elt F))).Forall fun op => op.writes ⊆ (mid4_W.map (Proc.devRef (τ := τ) .tc)).toFinset :=
  StableHlo.forall_writes_sub_of_map rfl
abbrev mid5_W : List (Ref sig .tc) :=
  [main_c_17, main_v69, main_v70, main_c_18, main_v71, main_v72, main_v73, main_v74, main_v75, main_v76, main_v77, main_v78, main_v79, main_v80, main_v81]
theorem mid5_writes : (mid5 : List (HloOp τ sig (Elt F))).Forall fun op => op.writes ⊆ (mid5_W.map (Proc.devRef (τ := τ) .tc)).toFinset :=
  StableHlo.forall_writes_sub_of_map rfl
abbrev mid6_W : List (Ref sig .tc) :=
  [main_v82]
theorem mid6_writes : (mid6 : List (HloOp τ sig (Elt F))).Forall fun op => op.writes ⊆ (mid6_W.map (Proc.devRef (τ := τ) .tc)).toFinset :=
  StableHlo.forall_writes_sub_of_map rfl
abbrev mid7_W : List (Ref sig .tc) :=
  [main_cst_19, main_v83, main_cst_20, main_v84, main_v85, main_v86, main_v87, main_v88, main_v89, main_cst_21, main_v90, main_cst_22, main_v91, main_v92, main_v93, main_v94, main_v95, main_cst_23, main_v96, main_v97, main_v98, main_v99, main_v100, main_v101, main_v102, main_v103, main_v104, main_v105, main_v106, main_v107]
theorem mid7_writes : (mid7 : List (HloOp τ sig (Elt F))).Forall fun op => op.writes ⊆ (mid7_W.map (Proc.devRef (τ := τ) .tc)).toFinset :=
  StableHlo.forall_writes_sub_of_map rfl
abbrev mid8_W : List (Ref sig .tc) :=
  [main_cst_24, main_v108, main_v109, main_cst_25, main_v110]
theorem mid8_writes : (mid8 : List (HloOp τ sig (Elt F))).Forall fun op => op.writes ⊆ (mid8_W.map (Proc.devRef (τ := τ) .tc)).toFinset :=
  StableHlo.forall_writes_sub_of_map rfl
abbrev mid9_W : List (Ref sig .tc) :=
  [main_cst_26, main_v111, main_c_27, main_v112, main_c_28, main_v113, main_c_29, main_v114_0, main_v114_1, main_v114_2, main_v114_3, main_v114_4]
theorem mid9_writes : (mid9 : List (HloOp τ sig (Elt F))).Forall fun op => op.writes ⊆ (mid9_W.map (Proc.devRef (τ := τ) .tc)).toFinset :=
  StableHlo.forall_writes_sub_of_map rfl
abbrev post0_W : List (Ref sig .tc) :=
  [main_v115, main_c_30, main_v116, main_v117, main_c_31, main_v118, main_v119, main_v120, main_v121, main_v122]
theorem post0_writes : (post0 : List (HloOp τ sig (Elt F))).Forall fun op => op.writes ⊆ (post0_W.map (Proc.devRef (τ := τ) .tc)).toFinset :=
  StableHlo.forall_writes_sub_of_map rfl
abbrev post1_W : List (Ref sig .tc) :=
  [main_c_32, main_v123, main_v124, main_c_33, main_v125, main_v126, main_v127, main_v128, main_v129]
theorem post1_writes : (post1 : List (HloOp τ sig (Elt F))).Forall fun op => op.writes ⊆ (post1_W.map (Proc.devRef (τ := τ) .tc)).toFinset :=
  StableHlo.forall_writes_sub_of_map rfl
abbrev post2_W : List (Ref sig .tc) :=
  [main_v130, main_cst_34, main_v131, main_v132, main_v133, main_cst_35, main_v134, main_v135, main_v136, main_v137, main_v138, main_v139, main_cst_36, main_v140, main_v141, main_v142]
theorem post2_writes : (post2 : List (HloOp τ sig (Elt F))).Forall fun op => op.writes ⊆ (post2_W.map (Proc.devRef (τ := τ) .tc)).toFinset :=
  StableHlo.forall_writes_sub_of_map rfl
abbrev post3_W : List (Ref sig .tc) :=
  [main_call5_v0, main_call5_v1_0, main_v143]
theorem post3_writes : (post3 : List (HloOp τ sig (Elt F))).Forall fun op => op.writes ⊆ (post3_W.map (Proc.devRef (τ := τ) .tc)).toFinset :=
  StableHlo.forall_writes_sub_of_map rfl
abbrev post4_W : List (Ref sig .tc) :=
  [main_v144]
theorem post4_writes : (post4 : List (HloOp τ sig (Elt F))).Forall fun op => op.writes ⊆ (post4_W.map (Proc.devRef (τ := τ) .tc)).toFinset :=
  StableHlo.forall_writes_sub_of_map rfl
abbrev post5_W : List (Ref sig .tc) :=
  [main_c_37, main_v145, main_v146, main_c_38, main_v147, main_v148, main_v149, main_v150, main_v151, main_v152, main_v153, main_v154, main_v155, main_v156, main_v157]
theorem post5_writes : (post5 : List (HloOp τ sig (Elt F))).Forall fun op => op.writes ⊆ (post5_W.map (Proc.devRef (τ := τ) .tc)).toFinset :=
  StableHlo.forall_writes_sub_of_map rfl
abbrev post6_W : List (Ref sig .tc) :=
  [main_v158]
theorem post6_writes : (post6 : List (HloOp τ sig (Elt F))).Forall fun op => op.writes ⊆ (post6_W.map (Proc.devRef (τ := τ) .tc)).toFinset :=
  StableHlo.forall_writes_sub_of_map rfl
abbrev post7_W : List (Ref sig .tc) :=
  [main_cst_39, main_v159, main_cst_40, main_v160, main_v161, main_v162, main_v163, main_v164, main_v165, main_cst_41, main_v166, main_cst_42, main_v167, main_v168, main_v169, main_v170, main_v171, main_cst_43, main_v172, main_v173, main_v174, main_v175, main_v176, main_v177, main_v178, main_v179, main_v180, main_v181, main_v182, main_v183]
theorem post7_writes : (post7 : List (HloOp τ sig (Elt F))).Forall fun op => op.writes ⊆ (post7_W.map (Proc.devRef (τ := τ) .tc)).toFinset :=
  StableHlo.forall_writes_sub_of_map rfl
abbrev post8_W : List (Ref sig .tc) :=
  [main_cst_44, main_v184, main_v185, main_cst_45, main_v186]
theorem post8_writes : (post8 : List (HloOp τ sig (Elt F))).Forall fun op => op.writes ⊆ (post8_W.map (Proc.devRef (τ := τ) .tc)).toFinset :=
  StableHlo.forall_writes_sub_of_map rfl
abbrev cond0_W : List (Ref sig .tc) :=
  [main_while0c_c_50, main_while0c_v187]
theorem cond0_writes : (cond0 : List (HloOp τ sig (Elt F))).Forall fun op => op.writes ⊆ (cond0_W.map (Proc.devRef (τ := τ) .tc)).toFinset :=
  StableHlo.forall_writes_sub_of_map rfl
abbrev body0_W : List (Ref sig .tc) :=
  [main_while0b_v187, main_while0b_c_50, main_while0b_v188, main_while0b_v189, main_while0b_c_51, main_while0b_v190, main_while0b_v191, main_while0b_v192, main_while0b_v193, main_while0b_v194, main_while0b_v195, main_while0b_v196, main_while0b_v197, main_while0b_cst_52, main_while0b_v198, main_while0b_v199, main_while0b_call0_v0, main_while0b_call0_cst, main_while0b_call0_c, main_while0b_call0_v1_0, main_while0b_v200, main_while0b_call1_v0, main_while0b_call1_c, main_while0b_v201, main_while0b_c_53, main_while0b_v202, main_v38_1, main_v38_2, main_v38_3, main_v38_4]
theorem body0_writes : (body0 : List (HloOp τ sig (Elt F))).Forall fun op => op.writes ⊆ (body0_W.map (Proc.devRef (τ := τ) .tc)).toFinset :=
  StableHlo.forall_writes_sub_of_map rfl
abbrev cond1_W : List (Ref sig .tc) :=
  [main_while1c_c_50, main_while1c_v187]
theorem cond1_writes : (cond1 : List (HloOp τ sig (Elt F))).Forall fun op => op.writes ⊆ (cond1_W.map (Proc.devRef (τ := τ) .tc)).toFinset :=
  StableHlo.forall_writes_sub_of_map rfl
abbrev body1_W : List (Ref sig .tc) :=
  [main_while1b_v187, main_while1b_c_50, main_while1b_v188, main_while1b_v189, main_while1b_c_51, main_while1b_v190, main_while1b_v191, main_while1b_v192, main_while1b_v193, main_while1b_v194, main_while1b_v195, main_while1b_v196, main_while1b_v197, main_while1b_cst_52, main_while1b_v198, main_while1b_v199, main_while1b_call3_v0, main_while1b_call3_cst, main_while1b_call3_c, main_while1b_call3_v1_0, main_while1b_v200, main_while1b_call4_v0, main_while1b_call4_c, main_while1b_v201, main_while1b_c_53, main_while1b_v202, main_v114_1, main_v114_2, main_v114_3, main_v114_4]
theorem body1_writes : (body1 : List (HloOp τ sig (Elt F))).Forall fun op => op.writes ⊆ (body1_W.map (Proc.devRef (τ := τ) .tc)).toFinset :=
  StableHlo.forall_writes_sub_of_map rfl

end Cert.Proof.Ref

end
-- ==== Proof.TwoLoops.lean ====
/-
  The run of a program with no kernel whose main function is stretches of host operations, a counted loop, more
  stretches, a second counted loop, and more stretches: from any memory with zero counters it terminates, every buffer
  holding a value of the program ends at the fold of the operations in order, and every counter ends at zero.
-/
module

public import Idealize.ShloMosaic.Lib.StableHlo.RunLoop

@[expose] public section

set_option maxRecDepth 16384

noncomputable section

namespace Cert.Proof.TwoLoops

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe StableHlo
open Idealize.ShloMosaic.Pipeline (CSeg Ticket PCfg ucRefs)

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev noAdm : (p : Fin 0) → (pcs p).Adm := fun p => p.elim0
abbrev noTk : Fin 0 → Ticket (Ix := Unit) (Name := ℕ) (U := Option PUnit) (Lvl := ℕ) (nD := nD) (τ := τ) pcs (noAdm pcs) := fun j => j.elim0
abbrev noL : GSem nD τ sig → Finset Unit := fun _ => ∅
abbrev noLv : GSem nD τ sig → Unit → ℕ := fun _ _ => 0

theorem noCell : Function.Injective (Pipeline.cellOf (nD := nD) (τ := τ) (Pipeline.pin pcs (noAdm pcs))) :=
  fun k => k.1.elim0

/-- What rides along beside the buffers: the core owes nothing. -/
abbrev Owes (c : Dev nD) : sProp 𝕄 := iprop(∃ W, owes (c : Thread nD τ) (0 : CellTallies nD τ sig Unit) W)

/-- A program's loop: its index, its condition and body, and the operations they run. -/
structure Counted where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  hloops : loops l = HostLoop.step l cond body
  condOps : List (HloOp τ sig (Elt F))
  bodyI : List (List (HloOp τ sig (Elt F)))
  hbodyI : Plain bodyI
  hbody : body = Pipeline.chain (bodyI.map fun ops => (seq ops : Prog _ PUnit))
  n : ℕ

variable {pcs loops}

/-- A loop's buffers once it is over, from those it starts at. -/
def Counted.out (C : Counted (nD := nD) (τ := τ) pcs loops) (W : Dev nD → Valuation τ sig (Elt F)) (c : Dev nD) :
    Valuation τ sig (Elt F) := after C.condOps (atTrip C.condOps C.bodyI W C.n c)

/-- The condition's specification: run for the `k`-th time it returns true exactly when `k` is below the count, and
    leaves the buffers at its operations' results. -/
def Counted.Spec (C : Counted (nD := nD) (τ := τ) pcs loops) (W : Dev nD → Valuation τ sig (Elt F)) : Prop :=
  LoopCond pcs defs₀ Variants.none loops (Owes (F := F)) C.cond C.condOps C.bodyI W C.n

/-- Buffers when the first loop starts, … -/
def in₀ (preI : List (List (HloOp τ sig (Elt F)))) (m : (ℓ : Loc nD τ sig) → Buf (Elt F) ℓ) (c : Dev nD) : Valuation τ sig (Elt F) :=
  afterL preI (launchContents m c)
/-- … when the second starts, … -/
def in₁ (C₀ : Counted (nD := nD) (τ := τ) pcs loops) (preI midI : List (List (HloOp τ sig (Elt F))))
    (m : (ℓ : Loc nD τ sig) → Buf (Elt F) ℓ) (c : Dev nD) : Valuation τ sig (Elt F) :=
  afterL midI (C₀.out (in₀ preI m) c)
/-- … and at the end. -/
def fin (C₀ C₁ : Counted (nD := nD) (τ := τ) pcs loops) (preI midI postI : List (List (HloOp τ sig (Elt F))))
    (m : (ℓ : Loc nD τ sig) → Buf (Elt F) ℓ) (c : Dev nD) : Valuation τ sig (Elt F) :=
  afterL postI (C₁.out (in₁ C₀ preI midI m) c)

variable {defs₀}

/-- The main function's segments. -/
def segments (C₀ C₁ : Counted (nD := nD) (τ := τ) pcs loops) (preI midI postI : List (List (HloOp τ sig (Elt F))))
    (hpre : Plain preI) (hmid : Plain midI) (hpost : Plain postI) (m : (ℓ : Loc nD τ sig) → Buf (Elt F) ℓ)
    (h₀ : C₀.Spec defs₀ (in₀ preI m)) (h₁ : C₁.Spec defs₀ (in₁ C₀ preI midI m)) :
    List (CSeg pcs (noAdm pcs) defs₀ Variants.none noL noLv loops (noTk pcs)) :=
  segsOf _ _ _ _ _ _ _ _ Owes preI hpre (launchContents m)
    ++ loopSeg _ _ _ _ _ _ _ _ C₀.l C₀.cond C₀.body C₀.hloops C₀.condOps C₀.bodyI C₀.hbodyI C₀.hbody C₀.n (in₀ preI m) Owes h₀
      :: (segsOf _ _ _ _ _ _ _ _ Owes midI hmid (C₀.out (in₀ preI m))
        ++ loopSeg _ _ _ _ _ _ _ _ C₁.l C₁.cond C₁.body C₁.hloops C₁.condOps C₁.bodyI C₁.hbodyI C₁.hbody C₁.n (in₁ C₀ preI midI m) Owes h₁
          :: segsOf _ _ _ _ _ _ _ _ Owes postI hpost (C₁.out (in₁ C₀ preI midI m)))

/-- The segments' programs, in order. -/
theorem segments_prog (C₀ C₁ : Counted (nD := nD) (τ := τ) pcs loops) (preI midI postI : List (List (HloOp τ sig (Elt F))))
    (hpre hmid hpost) (m : (ℓ : Loc nD τ sig) → Buf (Elt F) ℓ) (h₀ : C₀.Spec defs₀ _) (h₁ : C₁.Spec defs₀ _) :
    (segments C₀ C₁ preI midI postI hpre hmid hpost m h₀ h₁).map CSeg.prog
      = (preI.map fun ops => (seq ops : Prog _ PUnit)) ++ HostLoop.enter C₀.l :: ((midI.map fun ops => (seq ops : Prog _ PUnit))
        ++ HostLoop.enter C₁.l :: postI.map fun ops => (seq ops : Prog _ PUnit)) := by
  unfold segments
  rw [List.map_append, List.map_cons, List.map_append, List.map_cons, segsOf_prog, segsOf_prog, segsOf_prog]
  rfl

theorem segments_chains (C₀ C₁ : Counted (nD := nD) (τ := τ) pcs loops) (preI midI postI : List (List (HloOp τ sig (Elt F))))
    (hpre hmid hpost) (m : (ℓ : Loc nD τ sig) → Buf (Elt F) ℓ) (h₀ : C₀.Spec defs₀ _) (h₁ : C₁.Spec defs₀ _) :
    CSeg.Chains (fun c => iprop(held (c : Thread nD τ) (ucRefs τ sig) (launchContents m c) ∗ Owes c))
      (segments C₀ C₁ preI midI postI hpre hmid hpost m h₀ h₁)
      (fun c => iprop(iprop(held (c : Thread nD τ) (ucRefs τ sig) (fin C₀ C₁ preI midI postI m c)) ∗ ∃ W, owes (c : Thread nD τ) (0 : CellTallies nD τ sig Unit) W)) := by
  unfold segments
  exact CSeg.Chains.append (segsOf_chains _ _ _ _ _ _ _ _ Owes preI hpre _)
    ⟨fun _ => .rfl, CSeg.Chains.append (segsOf_chains _ _ _ _ _ _ _ _ Owes midI hmid _)
      ⟨fun _ => .rfl, segsOf_chains _ _ _ _ _ _ _ _ Owes postI hpost _⟩⟩

/-- THE RUN: every fair execution terminates, each buffer that holds a value of the program ends at `fin`, and, where
    every semaphore belongs to a scope, every counter ends at zero. -/
theorem run [∀ e, Nonempty (Elt F e)]
    (main : Dev nD → Prog (TpuEff nD τ sig (Elt F) (HostLoop.Sig (Pipeline.Sig Λ₀ (Fin 0) fun p => (pcs p).Adm) nL) .tc) PUnit)
    (C₀ C₁ : Counted (nD := nD) (τ := τ) pcs loops) (preI midI postI : List (List (HloOp τ sig (Elt F))))
    (hpre : Plain preI) (hmid : Plain midI) (hpost : Plain postI)
    (hmain : ∀ c, main c = Pipeline.chain ((preI.map fun ops => (seq ops : Prog _ PUnit)) ++ HostLoop.enter C₀.l
      :: ((midI.map fun ops => (seq ops : Prog _ PUnit)) ++ HostLoop.enter C₁.l :: postI.map fun ops => (seq ops : Prog _ PUnit))))
    (hsc : ∀ sm : SemLoc sig, sm.isScoped .tc = true)
    (m : (ℓ : Loc nD τ sig) → Buf (Elt F) ℓ) (ρ : Dev nD → PrngReg)
    (h₀ : C₀.Spec defs₀ (in₀ preI m)) (h₁ : C₁.Spec defs₀ (in₁ C₀ preI midI m)) :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
        r.2.mem ((c.tc : Thread nD τ).loc b) = fin C₀ C₁ preI midI postI m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcs (noAdm pcs) (noCell pcs) defs₀ Variants.none noL noLv loops (noTk pcs) m ρ main
    (segments C₀ C₁ preI midI postI hpre hmid hpost m h₀ h₁)
    (fun c Q => by
      rw [hmain c]
      show wp _ _ _ (Pipeline.chain ((segments C₀ C₁ preI midI postI hpre hmid hpost m h₀ h₁).map CSeg.prog)) Q ⊢ _
      rw [segments_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ)))
          from by rw [BI.bigSep_emp_const])
        iempintro)
    (T₀ := fun c => iprop(held (c : Thread nD τ) (ucRefs τ sig) (launchContents m c) ∗ Owes c))
    (Tₙ := fun c => iprop(held (c : Thread nD τ) (ucRefs τ sig) (fin C₀ C₁ preI midI postI m c)))
    (hch := segments_chains C₀ C₁ preI midI postI hpre hmid hpost m h₀ h₁)
    (hinit := by
      refine Pipeline.initEach noL noLv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin C₀ C₁ preI midI postI m c b)
    (hfin := fun c s' => by
      unfold held
      iintro ⟨Hh, HSI⟩
      imodintro
      iapply (pointsTo_read_all (ucRefs τ sig) (fun b => ((c : Dev nD), b)) (fun b => fin C₀ C₁ preI midI postI m c b) s')
      isplitl [Hh] <;> iassumption)
    (hQ := fun _ h hz => ⟨fun c b hb => h c _ (devRef_mem_ucRefs b hb), funext fun g => hz g (.inr (hsc g.2))⟩)

end Cert.Proof.TwoLoops

end
-- ==== Proof.RefRun.lean ====
/-
  The reference's run: its main function is the stretches and the two loops of `RefOps.lean`, each loop runs its printed
  count, and every argument array ends as it began.
-/
module

public import proofs.«01_k».proof.Proof.RefOps
public import proofs.«01_k».proof.Proof.TwoLoops
public import Idealize.ShloMosaic.Lib.Scf.ExitTest

@[expose] public section

set_option maxRecDepth 16384

noncomputable section

namespace Cert.Proof.Ref

open Cert.ReferenceIdeal Cert.ReferenceIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe StableHlo
open Idealize.ShloMosaic.Pipeline (ucRefs sub_ucRefs)
open Cert.Proof.TwoLoops

variable {F : FTy → Type} [FloatOps F]

abbrev preI : List (List (HloOp τ sig (Elt F))) := [pre0, pre1, pre2, pre3]
abbrev midI : List (List (HloOp τ sig (Elt F))) := [mid0, mid1, mid2, mid3, mid4, mid5, mid6, mid7, mid8, mid9]
abbrev postI : List (List (HloOp τ sig (Elt F))) := [post0, post1, post2, post3, post4, post5, post6, post7, post8]

/-- The first loop. -/
abbrev L₀ : Counted (nD := nD) (τ := τ) (pcfgs (F := F)) (loops (F := F)) where
  l := 0
  cond := main_while0_cond
  body := main_while0_body
  hloops := rfl
  condOps := cond0
  bodyI := [body0]
  hbodyI := Plain.cons body0_sub Plain.nil
  hbody := by chain_rfl
  n := 512

/-- The second loop. -/
abbrev L₁ : Counted (nD := nD) (τ := τ) (pcfgs (F := F)) (loops (F := F)) where
  l := 1
  cond := main_while1_cond
  body := main_while1_body
  hloops := rfl
  condOps := cond1
  bodyI := [body1]
  hbodyI := Plain.cons body1_sub Plain.nil
  hbody := by chain_rfl
  n := 128

/-- The main function is the stretches and the loops, in order. -/
theorem main_eq (c : Dev nD) : main (F := F) c = Pipeline.chain ((preI.map fun ops => (seq ops : Prog _ PUnit)) ++ HostLoop.enter (L₀ (F := F)).l
      :: ((midI.map fun ops => (seq ops : Prog _ PUnit)) ++ HostLoop.enter (L₁ (F := F)).l :: postI.map fun ops => (seq ops : Prog _ PUnit))) := by
  chain_rfl

/-! ## The first loop's counter and condition -/

section
variable (W : Dev nD → Valuation τ sig (Elt F))

theorem ctr0_cond (V : Valuation τ sig (Elt F)) : after cond0 V (Proc.devRef .tc main_v38_1) = V (Proc.devRef .tc main_v38_1) :=
  after_of_writes_sub cond0 V cond0_writes (by decide)
theorem ctr0_step (X : Valuation τ sig (Elt F)) :
    after body0 X (Proc.devRef .tc main_v38_1) = addi (X (Proc.devRef .tc main_v38_1)) (constantI S_ 32 1#32) := by
  after_results
  rfl
/-- Before trip `k` the counter holds `k`. -/
theorem ctr0 (h0 : ∀ c, W c (Proc.devRef .tc main_v38_1) = fun _ => (0#32 : BitVec 32)) (c : Dev nD) :
    ∀ k, atTrip cond0 [body0] W k c (Proc.devRef .tc main_v38_1) = fun _ => Scf.iv 0#32 1#32 k
  | 0 => by rw [show atTrip cond0 [body0] W 0 c = W c from rfl, h0, Scf.iv_zero]
  | k + 1 => by
    rw [show atTrip cond0 [body0] W (k + 1) c = after body0 (after cond0 (atTrip cond0 [body0] W k c)) from rfl]
    rw [ctr0_step, ctr0_cond, ctr0 h0 c k, Scf.iv_succ]
    rfl

set_option backward.isDefEq.respectTransparency.types false in
/-- The condition holds exactly while the counter is below the count. -/
theorem spec0 (h0 : ∀ c, W c (Proc.devRef .tc main_v38_1) = fun _ => (0#32 : BitVec 32)) :
    (L₀ (F := F)).Spec defs₀ W := by
  intro k hk c bd
  have hctr := ctr0 W h0 c k
  show iprop(_) ⊢ wp _ _ _ (main_while0_cond (F := F)) _
  unfold main_while0_cond
  simp only [bind_pure]
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 [body0] W k c) main_v38_1 HostLoop.idx0)
        (HloOp.result _ (atTrip cond0 [body0] W k c) main_while0c_c_50 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  isplitl [Hh]; · rw [after_cons, after_cons, after_nil]; iexact Hh
  iexact HR
end

/-! ## The second loop's counter and condition -/

section
variable (W : Dev nD → Valuation τ sig (Elt F))

theorem ctr1_cond (V : Valuation τ sig (Elt F)) : after cond1 V (Proc.devRef .tc main_v114_1) = V (Proc.devRef .tc main_v114_1) :=
  after_of_writes_sub cond1 V cond1_writes (by decide)
theorem ctr1_step (X : Valuation τ sig (Elt F)) :
    after body1 X (Proc.devRef .tc main_v114_1) = addi (X (Proc.devRef .tc main_v114_1)) (constantI S_ 32 1#32) := by
  after_results
  rfl
/-- Before trip `k` the counter holds `k`. -/
theorem ctr1 (h0 : ∀ c, W c (Proc.devRef .tc main_v114_1) = fun _ => (0#32 : BitVec 32)) (c : Dev nD) :
    ∀ k, atTrip cond1 [body1] W k c (Proc.devRef .tc main_v114_1) = fun _ => Scf.iv 0#32 1#32 k
  | 0 => by rw [show atTrip cond1 [body1] W 0 c = W c from rfl, h0, Scf.iv_zero]
  | k + 1 => by
    rw [show atTrip cond1 [body1] W (k + 1) c = after body1 (after cond1 (atTrip cond1 [body1] W k c)) from rfl]
    rw [ctr1_step, ctr1_cond, ctr1 h0 c k, Scf.iv_succ]
    rfl

set_option backward.isDefEq.respectTransparency.types false in
/-- The condition holds exactly while the counter is below the count. -/
theorem spec1 (h0 : ∀ c, W c (Proc.devRef .tc main_v114_1) = fun _ => (0#32 : BitVec 32)) :
    (L₁ (F := F)).Spec defs₀ W := by
  intro k hk c bd
  have hctr := ctr1 W h0 c k
  show iprop(_) ⊢ wp _ _ _ (main_while1_cond (F := F)) _
  unfold main_while1_cond
  simp only [bind_pure]
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 [body1] W k c) main_v114_1 HostLoop.idx0)
        (HloOp.result _ (atTrip cond1 [body1] W k c) main_while1c_c_50 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]; · rw [after_cons, after_cons, after_nil]; iexact Hh
  iexact HR
end

/-! ## The counters start at zero -/

/-- A buffer no stretch of a list writes holds what it held. -/
theorem afterL_keep {r : Ref sig .tc} : ∀ (L : List (List (HloOp τ sig (Elt F)))) (V : Valuation τ sig (Elt F)),
    (∀ ops ∈ L, ∀ V, after ops V (Proc.devRef .tc r) = V (Proc.devRef .tc r)) → afterL L V (Proc.devRef .tc r) = V (Proc.devRef .tc r)
  | [], _, _ => rfl
  | ops :: L, V, h => by
    rw [afterL_cons, afterL_keep L _ fun o ho => h o (List.mem_cons_of_mem _ ho), h ops List.mem_cons_self]

theorem start₀ (V : Valuation τ sig (Elt F)) : afterL preI V (Proc.devRef .tc main_v38_1) = fun _ => (0#32 : BitVec 32) := by
  simp only [afterL_cons, afterL_nil]
  generalize after (pre2 (F := F)) _ = X
  after_results
  rfl
theorem start₁ (V : Valuation τ sig (Elt F)) : afterL midI V (Proc.devRef .tc main_v114_1) = fun _ => (0#32 : BitVec 32) := by
  simp only [afterL_cons, afterL_nil]
  generalize after (mid8 (F := F)) _ = X
  after_results
  rfl

/-! ## The arguments -/

/-- The argument arrays. -/
abbrev argRefs : List (Ref sig .tc) :=
  [main_arg0, main_arg1, main_arg2, main_arg3, main_arg4, main_arg5, main_arg6, main_arg7, main_arg8, main_arg9, main_arg10]

/-- A stretch leaves every argument as it was. -/
def KeepsArgs (ops : List (HloOp τ sig (Elt F))) : Prop :=
  ∀ a ∈ argRefs, ∀ V, after ops V (Proc.devRef .tc a) = V (Proc.devRef .tc a)

/-- A stretch that writes no argument leaves every argument. -/
theorem keep_args {ops : List (HloOp τ sig (Elt F))} {W : List (Ref sig .tc)}
    (hW : ops.Forall fun op => op.writes ⊆ (W.map (Proc.devRef (τ := τ) .tc)).toFinset) (h : ∀ a ∈ argRefs, a ∉ W) :
    KeepsArgs ops :=
  fun a ha V => after_of_writes_sub ops V hW (h a ha)

theorem preI_keep : ∀ ops ∈ preI (F := F), KeepsArgs ops := by
  simp only [List.forall_mem_cons]
  exact ⟨keep_args pre0_writes (by decide), keep_args pre1_writes (by decide), keep_args pre2_writes (by decide),
    keep_args pre3_writes (by decide), fun _ h => absurd h List.not_mem_nil⟩
theorem midI_keep : ∀ ops ∈ midI (F := F), KeepsArgs ops := by
  simp only [List.forall_mem_cons]
  exact ⟨keep_args mid0_writes (by decide), keep_args mid1_writes (by decide), keep_args mid2_writes (by decide),
    keep_args mid3_writes (by decide), keep_args mid4_writes (by decide), keep_args mid5_writes (by decide),
    keep_args mid6_writes (by decide), keep_args mid7_writes (by decide), keep_args mid8_writes (by decide),
    keep_args mid9_writes (by decide), fun _ h => absurd h List.not_mem_nil⟩
theorem postI_keep : ∀ ops ∈ postI (F := F), KeepsArgs ops := by
  simp only [List.forall_mem_cons]
  exact ⟨keep_args post0_writes (by decide), keep_args post1_writes (by decide), keep_args post2_writes (by decide),
    keep_args post3_writes (by decide), keep_args post4_writes (by decide), keep_args post5_writes (by decide),
    keep_args post6_writes (by decide), keep_args post7_writes (by decide), keep_args post8_writes (by decide), fun _ h => absurd h List.not_mem_nil⟩

/-- A buffer that neither a loop's condition nor its body writes is, before every trip, what it was at the start. -/
theorem atTrip_keep {r : Ref sig .tc} (condOps body : List (HloOp τ sig (Elt F))) (W : Dev nD → Valuation τ sig (Elt F)) (c : Dev nD)
    (hc : ∀ V, after condOps V (Proc.devRef .tc r) = V (Proc.devRef .tc r)) (hb : ∀ V, after body V (Proc.devRef .tc r) = V (Proc.devRef .tc r)) :
    ∀ k, atTrip condOps [body] W k c (Proc.devRef .tc r) = W c (Proc.devRef .tc r)
  | 0 => rfl
  | k + 1 => by
    rw [show atTrip condOps [body] W (k + 1) c = after body (after condOps (atTrip condOps [body] W k c)) from rfl, hb, hc]
    exact atTrip_keep condOps body W c hc hb k

theorem out₀_args (W : Dev nD → Valuation τ sig (Elt F)) (c : Dev nD) (a : Ref sig .tc) (ha : a ∈ argRefs) :
    (L₀ (F := F)).out W c (Proc.devRef .tc a) = W c (Proc.devRef .tc a) :=
  (keep_args cond0_writes (by decide) a ha _).trans
    (atTrip_keep _ _ W c (keep_args cond0_writes (by decide) a ha) (keep_args body0_writes (by decide) a ha) _)
theorem out₁_args (W : Dev nD → Valuation τ sig (Elt F)) (c : Dev nD) (a : Ref sig .tc) (ha : a ∈ argRefs) :
    (L₁ (F := F)).out W c (Proc.devRef .tc a) = W c (Proc.devRef .tc a) :=
  (keep_args cond1_writes (by decide) a ha _).trans
    (atTrip_keep _ _ W c (keep_args cond1_writes (by decide) a ha) (keep_args body1_writes (by decide) a ha) _)

variable (m : (ℓ : Loc nD τ sig) → Buf (Elt F) ℓ)

theorem in₀_args (c : Dev nD) (a : Ref sig .tc) (ha : a ∈ argRefs) : in₀ preI m c (Proc.devRef .tc a) = m ((c : Thread nD τ).loc a) :=
  afterL_keep preI _ fun ops h => preI_keep ops h a ha
theorem in₁_args (c : Dev nD) (a : Ref sig .tc) (ha : a ∈ argRefs) : in₁ L₀ preI midI m c (Proc.devRef .tc a) = m ((c : Thread nD τ).loc a) :=
  (afterL_keep midI _ fun ops h => midI_keep ops h a ha).trans ((out₀_args _ c a ha).trans (in₀_args m c a ha))
theorem fin_args (c : Dev nD) (a : Ref sig .tc) (ha : a ∈ argRefs) : fin L₀ L₁ preI midI postI m c (Proc.devRef .tc a) = m ((c : Thread nD τ).loc a) :=
  (afterL_keep postI _ fun ops h => postI_keep ops h a ha).trans ((out₁_args _ c a ha).trans (in₁_args m c a ha))

/-- The run: it terminates, every buffer ends at the fold of the operations, every counter at zero. -/
theorem run [∀ e, Nonempty (Elt F e)] (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = fin L₀ L₁ preI midI postI m c (Proc.devRef .tc b)) ∧ r.2.sem = fun _ => 0) :=
  TwoLoops.run main L₀ L₁ preI midI postI
    (.cons pre0_sub (.cons pre1_sub (.cons pre2_sub (.cons pre3_sub .nil))))
    (.cons mid0_sub (.cons mid1_sub (.cons mid2_sub (.cons mid3_sub (.cons mid4_sub (.cons mid5_sub (.cons mid6_sub (.cons mid7_sub
      (.cons mid8_sub (.cons mid9_sub .nil))))))))))
    (.cons post0_sub (.cons post1_sub (.cons post2_sub (.cons post3_sub (.cons post4_sub (.cons post5_sub (.cons post6_sub
      (.cons post7_sub (.cons post8_sub .nil)))))))))
    main_eq (by decide) m ρ (spec0 _ fun c => start₀ _) (spec1 _ fun c => start₁ _)

end Cert.Proof.Ref

end
-- ==== Proof.Frames.lean ====
/-
  The reference's arguments end unchanged, every counter at zero.
-/
module

public import proofs.«01_k».proof.Proof.RefRun
public import proofs.«01_k».proof.Proof.Gen.ReferenceIdeal
public import Idealize.ShloMosaic.Lib.StableHlo.RunHlo

@[expose] public section

set_option maxRecDepth 16384

noncomputable section

namespace Cert.Proof

open Idealize.ShloMosaic Idealize.SL.Sem

namespace Ref

open Cert.ReferenceIdeal Cert.ReferenceIdeal.Gen TwoLoops

variable {F : FTy → Type} [FloatOps F] [∀ e, Nonempty (Elt F e)]

/-- The argument arrays end as they began, and every counter at zero. -/
theorem frame (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, ∀ a ∈ argRefs, r.2.mem ((c.tc : Thread nD τ).loc a) = m ((c.tc : Thread nD τ).loc a)) ∧ r.2.sem = fun _ => 0) :=
  θ_run_mono (run m ρ) fun r h => ⟨fun c a ha => (h.1 c a (by revert a; decide)).trans (fin_args m c a ha), h.2⟩

end Ref

end Cert.Proof

end
-- ==== Proof.Select.lean ====
/-
  Selections: the first index of a minimum or a maximum, the nearest indices taken one by one, and their agreement with
  a stable sort's prefix.
-/
module

public import Idealize.ShloMosaic.Lib.SortPrefix
public import Idealize.ShloMosaic.PureOps.Ideal

@[expose] public section

noncomputable section

namespace Cert.Proof.Select

open Idealize.ShloMosaic

section
variable {α : Type} [LinearOrder α] {n : ℕ}

/-- `i` is the first index at which `v` is least. -/
def IsFirstMin (v : Fin n → α) (i : Fin n) : Prop := (∀ j, v i ≤ v j) ∧ ∀ j < i, v i < v j

theorem exists_firstMin [NeZero n] (v : Fin n → α) : ∃ i, IsFirstMin v i := by
  classical
  obtain ⟨i₀, -, h₀⟩ := Finset.exists_min_image (Finset.univ : Finset (Fin n)) v ⟨0, Finset.mem_univ _⟩
  have hne : (Finset.univ.filter fun i => ∀ j, v i ≤ v j).Nonempty := ⟨i₀, by simpa using h₀⟩
  refine ⟨(Finset.univ.filter fun i => ∀ j, v i ≤ v j).min' hne, ?_, ?_⟩
  · simpa using Finset.min'_mem _ hne
  · intro j hj
    by_contra hc
    have hm := Finset.min'_mem _ hne
    rw [Finset.mem_filter] at hm
    have : j ∈ Finset.univ.filter fun i => ∀ j, v i ≤ v j := by
      rw [Finset.mem_filter]
      exact ⟨Finset.mem_univ _, fun k => (not_lt.1 hc).trans (hm.2 k)⟩
    exact absurd (Finset.min'_le _ _ this) (not_le.2 hj)

theorem IsFirstMin.unique {v : Fin n → α} {i j : Fin n} (hi : IsFirstMin v i) (hj : IsFirstMin v j) : i = j := by
  rcases lt_trichotomy i j with h | h | h
  · exact absurd (hj.2 i h) (not_lt.2 (hi.1 j))
  · exact h
  · exact absurd (hi.2 j h) (not_lt.2 (hj.1 i))

/-- The first index at which `v` is least. -/
def firstMin [NeZero n] (v : Fin n → α) : Fin n := Classical.choose (exists_firstMin v)
theorem firstMin_spec [NeZero n] (v : Fin n → α) : IsFirstMin v (firstMin v) := Classical.choose_spec (exists_firstMin v)
theorem IsFirstMin.eq [NeZero n] {v : Fin n → α} {i : Fin n} (h : IsFirstMin v i) : i = firstMin v := h.unique (firstMin_spec v)

/-- The first index at which `v` is greatest. -/
def firstMax [NeZero n] (v : Fin n → α) : Fin n := firstMin (α := αᵒᵈ) v
theorem firstMax_le [NeZero n] (v : Fin n → α) (j : Fin n) : v j ≤ v (firstMax v) := (firstMin_spec (α := αᵒᵈ) v).1 j
theorem firstMax_lt [NeZero n] (v : Fin n → α) (j : Fin n) (h : j < firstMax v) : v j < v (firstMax v) := (firstMin_spec (α := αᵒᵈ) v).2 j h
theorem firstMax_eq [NeZero n] {v : Fin n → α} {i : Fin n} (h : ∀ j, v j ≤ v i) (h' : ∀ j < i, v j < v i) : i = firstMax v :=
  IsFirstMin.eq (α := αᵒᵈ) ⟨h, h'⟩

end

/-- A selection is unchanged under a strictly monotone map. -/
theorem firstMin_comp {α β : Type} [LinearOrder α] [LinearOrder β] {n : ℕ} [NeZero n] (f : α → β) (hf : StrictMono f) (v : Fin n → α) :
    firstMin (fun i => f (v i)) = firstMin v :=
  IsFirstMin.eq (v := v) ⟨fun j => hf.le_iff_le.1 ((firstMin_spec fun i => f (v i)).1 j), fun j h => hf.lt_iff_lt.1 ((firstMin_spec fun i => f (v i)).2 j h)⟩
theorem firstMax_comp {α β : Type} [LinearOrder α] [LinearOrder β] {n : ℕ} [NeZero n] (f : α → β) (hf : StrictMono f) (v : Fin n → α) :
    firstMax (fun i => f (v i)) = firstMax v :=
  firstMax_eq (v := v) (fun j => hf.le_iff_le.1 (firstMax_le (fun i => f (v i)) j)) fun j h => hf.lt_iff_lt.1 (firstMax_lt (fun i => f (v i)) j h)

/-! ## The nearest, one by one -/

section
variable {n : ℕ} [NeZero n] (d : Fin n → ℝ)

/-- The distances with the first `k` selected indices struck out. -/
def struck : ℕ → Fin n → EReal
  | 0 => fun i => (d i : EReal)
  | k + 1 => fun i => if i = firstMin (struck k) then ⊤ else struck k i

/-- The `k`-th nearest index. -/
def near (k : ℕ) : Fin n := firstMin (struck d k)

theorem struck_succ (k : ℕ) (i : Fin n) : struck d (k + 1) i = if i = near d k then ⊤ else struck d k i := rfl

/-- An index not yet selected keeps its distance; a selected one is at infinity. -/
theorem struck_eq (k : ℕ) (i : Fin n) : struck d k i = if ∃ j < k, near d j = i then ⊤ else (d i : EReal) := by
  induction k with
  | zero => simp [struck]
  | succ k ih =>
    rw [struck_succ, ih]
    by_cases h : i = near d k
    · rw [if_pos h, if_pos ⟨k, Nat.lt_succ_self k, h.symm⟩]
    · rw [if_neg h]
      congr 1
      refine propext ⟨fun ⟨j, hj, e⟩ => ⟨j, hj.trans (Nat.lt_succ_self k), e⟩, fun ⟨j, hj, e⟩ => ?_⟩
      rcases Nat.lt_succ_iff_lt_or_eq.1 hj with hj | rfl
      · exact ⟨j, hj, e⟩
      · exact absurd e.symm h

/-- Fewer than `n` selections leave an index. -/
theorem exists_left {k : ℕ} (hk : k < n) : ∃ i, ∀ j < k, near d j ≠ i := by
  classical
  by_contra hc
  push Not at hc
  have hsub : (Finset.univ : Finset (Fin n)) ⊆ (Finset.range k).image (near d) := fun i _ => by
    obtain ⟨j, hj, e⟩ := hc i
    exact Finset.mem_image.2 ⟨j, Finset.mem_range.2 hj, e⟩
  have := (Finset.card_le_card hsub).trans Finset.card_image_le
  simp at this
  omega

theorem near_fresh {k : ℕ} (hk : k < n) : ∀ j < k, near d j ≠ near d k := by
  intro j hj e
  obtain ⟨i, hi⟩ := exists_left d hk
  have h := (firstMin_spec (struck d k)).1 i
  rw [struck_eq, struck_eq, if_pos ⟨j, hj, e⟩, if_neg (by push Not; exact hi)] at h
  exact absurd (top_le_iff.1 h) (EReal.coe_ne_top _)

theorem struck_near {k : ℕ} (hk : k < n) : struck d k (near d k) = (d (near d k) : EReal) := by
  rw [struck_eq, if_neg]
  rintro ⟨j, hj, e⟩
  exact near_fresh d hk j hj e

/-- The `k`-th nearest comes before every index not yet selected. -/
theorem near_before {k : ℕ} (hk : k < n) (i : Fin n) (hi : ∀ j < k, near d j ≠ i) :
    d (near d k) < d i ∨ d (near d k) = d i ∧ near d k ≤ i := by
  have h1 := (firstMin_spec (struck d k)).1 i
  rw [show firstMin (struck d k) = near d k from rfl, struck_near d hk, struck_eq, if_neg (by push Not; exact hi)] at h1
  rcases lt_or_eq_of_le (EReal.coe_le_coe_iff.1 h1) with h | h
  · exact .inl h
  · refine .inr ⟨h, not_lt.1 fun hlt => ?_⟩
    have h2 := (firstMin_spec (struck d k)).2 i hlt
    rw [show firstMin (struck d k) = near d k from rfl, struck_near d hk, struck_eq, if_neg (by push Not; exact hi)] at h2
    exact absurd (EReal.coe_lt_coe_iff.1 h2) (by rw [h]; exact lt_irrefl _)

end

/-! ## The stable sort -/

/-- A stable sort of positions by a key orders by the key and then the position. -/
theorem stableSort_tie {n : ℕ} (B : Fin n → Fin n → Bool) (E : Fin n → Fin n → Bool) (l : List (Fin n)) (hl : l.Pairwise (· < ·)) :
    stableSort B l = stableSort (fun k k' => B k k' || (E k k' && decide (k < k'))) l := by
  induction l with
  | nil => rfl
  | cons a l ih =>
    rw [List.pairwise_cons] at hl
    unfold stableSort
    rw [← ih hl.2]
    refine insertBefore_congr _ _ a _ fun b hb => ?_
    have hb' : b ∈ l := (perm_stableSort _ l).mem_iff.mp hb
    have : ¬ b < a := not_lt.2 (hl.1 b hb').le
    simp [this]

/-- A stable sort of the distances puts the `k`-th nearest at `k`. -/
theorem sortedFrom_near {n : ℕ} [NeZero n] (d : Fin n → ℝ) (k : Fin n) :
    sortedFrom (fun i j => decide (d i < d j)) k = near d k := by
  classical
  have hsort : sortedFrom (fun i j => decide (d i < d j))
      = sortedFrom (fun i j : Fin n => decide (d i < d j) || (decide (d i = d j) && decide (i < j))) := by
    funext k
    have h : sortPositions n (fun i j => decide (d i < d j))
        = sortPositions n (fun i j : Fin n => decide (d i < d j) || (decide (d i = d j) && decide (i < j))) :=
      stableSort_tie (fun i j => decide (d i < d j)) (fun i j => decide (d i = d j)) _ (List.pairwise_lt_finRange n)
    unfold sortedFrom
    simp only [List.get_eq_getElem, Fin.val_cast, h]
  rw [hsort]
  have hB := StrictTotalBefore.of_key_then_position (fun a b : ℝ => decide (a < b)) d (by simp)
    (fun a b c h h' => by simp only [decide_eq_true_eq] at *; exact h.trans h')
    (fun a b => by simp only [decide_eq_true_eq]; exact lt_trichotomy a b)
  have hbef : ∀ (i : Fin n) (p : Fin n), (∀ j < i.val, near d j ≠ p) →
      (decide (d p < d (near d i)) || (decide (d p = d (near d i)) && decide (p < near d i))) = false := by
    intro i p hp
    simp only [Bool.or_eq_false_iff, Bool.and_eq_false_iff, decide_eq_false_iff_not]
    rcases near_before d i.isLt p hp with h | ⟨h, h'⟩
    · exact ⟨not_lt.2 h.le, .inl h.ne'⟩
    · exact ⟨not_lt.2 h.le, .inr (not_lt.2 h')⟩
  exact hB.sortedFrom_eq_of_prefix le_rfl (fun i : Fin n => near d i)
    (fun i j e => by
      rcases lt_trichotomy i j with h | h | h
      · exact absurd e (near_fresh d j.isLt i h)
      · exact h
      · exact absurd e.symm (near_fresh d i.isLt j h))
    (fun i j hij => hbef i (near d j) fun j' hj' => near_fresh d j.isLt j' (hj'.trans hij))
    (fun i p hp => hbef i p fun j' hj' => hp ⟨j', hj'.trans i.isLt⟩) k

end Cert.Proof.Select

end
-- ==== Proof.Spec.lean ====
/-
  The problem's mathematics over the reals: centring, normalisation, farthest-point sampling, grouping by nearest
  neighbours, and the identities by which the two programs' ways of computing it agree.
-/
module

public import proofs.«01_k».proof.Proof.Select

@[expose] public section

noncomputable section

namespace Cert.Proof.Spec

open Idealize.ShloMosaic Cert.Proof.Select
open scoped BigOperators

/-- The term added to a variance. -/
def eps : ℝ := 10995116 * (2 : ℝ) ^ (-40 : ℤ)
theorem eps_pos : 0 < eps := by unfold eps; positivity

/-- The distance that farthest-point sampling starts from. -/
def huge : ℝ := 10000000000

/-- A normalised value: its deviation from the mean over the root of the variance, scaled and shifted. -/
def bn (m v g b x : ℝ) : ℝ := g * ((x - m) / Real.sqrt (v + eps)) + b

def relu (x : ℝ) : ℝ := max x 0

/-- Normalisation and relu keep the order where the scale is not negative. -/
theorem relu_bn_mono {m v g b : ℝ} (hg : 0 ≤ g) {x y : ℝ} (h : x ≤ y) : relu (bn m v g b x) ≤ relu (bn m v g b y) := by
  unfold relu bn
  refine max_le_max (add_le_add_left (mul_le_mul_of_nonneg_left ?_ hg) _) le_rfl
  exact div_le_div_of_nonneg_right (sub_le_sub_right h m) (Real.sqrt_nonneg _)

/-- The same with a factor and an addend that may be infinite. -/
def ebn (m v : ℝ) (g b : EReal) (x : ℝ) : EReal := g * (((x - m) / Real.sqrt (v + eps) : ℝ) : EReal) + b
theorem relu_ebn_mono {m v : ℝ} {g b : EReal} (hg : 0 ≤ g) : Monotone fun x => max (ebn m v g b x) 0 := by
  intro x y h
  unfold ebn
  refine max_le_max (add_le_add (mul_le_mul_of_nonneg_left (EReal.coe_le_coe_iff.2 ?_) hg) le_rfl) le_rfl
  exact div_le_div_of_nonneg_right (sub_le_sub_right h m) (Real.sqrt_nonneg _)

/-- The greatest of finitely many reals. -/
def most {K : ℕ} [NeZero K] (v : Fin K → ℝ) : ℝ := v (firstMax v)
theorem le_most {K : ℕ} [NeZero K] (v : Fin K → ℝ) (k : Fin K) : v k ≤ most v := firstMax_le v k
theorem most_comp {K : ℕ} [NeZero K] (v : Fin K → ℝ) (f : ℝ → ℝ) (hf : Monotone f) : most (fun k => f (v k)) = f (most v) :=
  le_antisymm (hf (le_most v _)) (le_most (fun k => f (v k)) (firstMax v))

theorem fold_mono {K : ℕ} [NeZero K] (v : Fin K → ℝ) (f : ℝ → EReal) (hf : Monotone f) : Finset.univ.fold max (⊥ : EReal) (fun k => f (v k)) = f (most v) := by
  apply le_antisymm
  · rw [Finset.fold_max_le]
    exact ⟨bot_le, fun k _ => hf (le_most v k)⟩
  · rw [Finset.le_fold_max]
    exact .inr ⟨firstMax v, Finset.mem_univ _, le_rfl⟩

/-! ## Means and variances over three indices -/

section
variable {A B C : ℕ}

def sum3 (f : Fin A → Fin B → Fin C → ℝ) : ℝ := ∑ a, ∑ b, ∑ c, f a b c
def mean3 (f : Fin A → Fin B → Fin C → ℝ) (n : ℝ) : ℝ := sum3 f / n
def var3 (f : Fin A → Fin B → Fin C → ℝ) (n : ℝ) : ℝ := sum3 (fun a b c => (f a b c - mean3 f n) * (f a b c - mean3 f n)) / n

theorem var3_nonneg (f : Fin A → Fin B → Fin C → ℝ) {n : ℝ} (hn : 0 ≤ n) : 0 ≤ var3 f n :=
  div_nonneg (Finset.sum_nonneg fun _ _ => Finset.sum_nonneg fun _ _ => Finset.sum_nonneg fun _ _ => mul_self_nonneg _) hn

/-- The mean squared deviation is the mean square less the squared mean. -/
theorem var3_eq (f : Fin A → Fin B → Fin C → ℝ) {n : ℝ} (hn : n = A * B * C) (h0 : n ≠ 0) :
    var3 f n = sum3 (fun a b c => f a b c * f a b c) / n - mean3 f n * mean3 f n := by
  have e : ∀ μ : ℝ, sum3 (fun a b c => (f a b c - μ) * (f a b c - μ))
      = sum3 (fun a b c => f a b c * f a b c) - 2 * μ * sum3 f + n * (μ * μ) := by
    intro μ
    have : ∀ a b c, (f a b c - μ) * (f a b c - μ) = f a b c * f a b c - 2 * μ * f a b c + μ * μ := fun a b c => by ring
    simp only [sum3, this, Finset.sum_add_distrib, Finset.sum_sub_distrib, ← Finset.mul_sum, Finset.sum_const, Finset.card_univ,
      Fintype.card_fin, nsmul_eq_mul]
    rw [hn]
    ring
  unfold var3
  rw [e (mean3 f n)]
  have : sum3 f = n * mean3 f n := by unfold mean3; field_simp
  rw [this]
  field_simp
  ring

end

/-! ## The points -/

section
variable {N : ℕ}

/-- The squared distance, differences first … -/
def gap (p q : Fin 3 → ℝ) : ℝ := ∑ j, (p j - q j) * (p j - q j)
/-- … and by the norms and the inner product. -/
def sqdist (p q : Fin 3 → ℝ) : ℝ := ∑ j, p j * p j + ∑ j, q j * q j - 2 * ∑ j, p j * q j

/-- One step of farthest-point sampling: distances to the chosen set, and the index next chosen. -/
def fpsStep [NeZero N] (x : Fin N → Fin 3 → ℝ) (st : (Fin N → ℝ) × Fin N) : (Fin N → ℝ) × Fin N :=
  (fun n => min (st.1 n) (gap (x n) (x st.2)), firstMax fun n => min (st.1 n) (gap (x n) (x st.2)))
def fps [NeZero N] (x : Fin N → Fin 3 → ℝ) : ℕ → (Fin N → ℝ) × Fin N
  | 0 => (fun _ => huge, 0)
  | k + 1 => fpsStep x (fps x k)
/-- The index chosen at step `s`. -/
def far [NeZero N] (x : Fin N → Fin 3 → ℝ) (s : ℕ) : Fin N := (fps x s).2
/-- The `k`-th nearest point to the one chosen at step `s`. -/
def nbr [NeZero N] (x : Fin N → Fin 3 → ℝ) (s k : ℕ) : Fin N := near (fun n => sqdist (x (far x s)) (x n)) k

end

/-! ## A level -/

section
variable {B N : ℕ} [NeZero N] (S K : ℕ) (x : Fin B → Fin N → Fin 3 → ℝ) (h : Fin B → Fin N → Fin 128 → ℝ)
  (w : Fin 128 → Fin 256 → ℝ) (g b : Fin 128 → ℝ)

/-- The chosen points. -/
def pts (i : Fin B) (s : Fin S) (j : Fin 3) : ℝ := x i (far (x i) s) j

/-- A neighbour's features less the centre's, beside the centre's. -/
def pair (p q : Fin 128 → ℝ) (c : Fin 256) : ℝ :=
  if hc : c.val < 128 then p ⟨c.val, hc⟩ - q ⟨c.val, hc⟩ else q ⟨c.val - 128, by omega⟩

/-- The linear map's values. -/
def val (i : Fin B) (s : Fin S) (k : Fin K) (o : Fin 128) : ℝ :=
  ∑ c, pair (h i (nbr (x i) s k)) (h i (far (x i) s)) c * w o c

/-- The kernel's way: each half of the map applied to the features once, then gathered. -/
def half (i : Fin B) (n : Fin N) (o : Fin 128) : ℝ := ∑ c : Fin 128, h i n c * w o ⟨c.val, by omega⟩
def halfDiff (i : Fin B) (n : Fin N) (o : Fin 128) : ℝ :=
  ∑ c : Fin 128, h i n c * (w o ⟨128 + c.val, by omega⟩ - w o ⟨c.val, by omega⟩)

theorem val_eq (i : Fin B) (s : Fin S) (k : Fin K) (o : Fin 128) :
    val S K x h w i s k o = half h w i (nbr (x i) s k) o + halfDiff h w i (far (x i) s) o := by
  unfold val half halfDiff
  rw [show (∑ c : Fin 256, pair (h i (nbr (x i) s k)) (h i (far (x i) s)) c * w o c)
      = ∑ c : Fin (128 + 128), pair (h i (nbr (x i) s k)) (h i (far (x i) s)) (Fin.cast (by norm_num) c) * w o (Fin.cast (by norm_num) c) from rfl,
    Fin.sum_univ_add, ← Finset.sum_add_distrib, ← Finset.sum_add_distrib]
  refine Finset.sum_congr rfl fun c _ => ?_
  have h1 : pair (h i (nbr (x i) s k)) (h i (far (x i) s)) (Fin.cast (by norm_num) (Fin.castAdd 128 c)) = h i (nbr (x i) s k) c - h i (far (x i) s) c := by
    unfold pair; exact dif_pos (show (c : ℕ) < 128 from c.isLt)
  have h2 : pair (h i (nbr (x i) s k)) (h i (far (x i) s)) (Fin.cast (by norm_num) (Fin.natAdd 128 c)) = h i (far (x i) s) c := by
    unfold pair
    refine (dif_neg (show ¬ 128 + (c : ℕ) < 128 by omega)).trans ?_
    congr 1; apply Fin.ext; simp
  rw [h1, h2]
  rw [show (Fin.cast (by norm_num) (Fin.castAdd 128 c) : Fin 256) = ⟨c.val, by omega⟩ from rfl,
    show (Fin.cast (by norm_num) (Fin.natAdd 128 c) : Fin 256) = ⟨128 + c.val, by omega⟩ from rfl]
  ring

/-- The number of values normalised together. -/
def cnt (B S K : ℕ) : ℝ := B * S * K

def mean (o : Fin 128) : ℝ := mean3 (fun i s k => val S K x h w i s k o) (cnt B S K)
def var (o : Fin 128) : ℝ := var3 (fun i s k => val S K x h w i s k o) (cnt B S K)

/-- The level's features: normalised, relu, the maximum over the neighbours. -/
def feat [NeZero K] (i : Fin B) (s : Fin S) (o : Fin 128) : ℝ :=
  most fun k => relu (bn (mean S K x h w o) (var S K x h w o) (g o) (b o) (val S K x h w i s k o))

/-- The kernel takes the maximum first. -/
theorem feat_eq [NeZero K] (hg : ∀ o, 0 ≤ g o) (i : Fin B) (s : Fin S) (o : Fin 128) :
    feat S K x h w g b i s o
      = relu (bn (mean S K x h w o) (var S K x h w o) (g o) (b o) (most fun k => val S K x h w i s k o)) :=
  most_comp _ (fun y => relu (bn _ _ (g o) (b o) y)) fun _ _ => relu_bn_mono (hg o)

/-- The features with factors and addends that may be infinite, and the kernel's order. -/
def efeat (g b : Fin 128 → EReal) (i : Fin B) (s : Fin S) (o : Fin 128) : EReal :=
  Finset.univ.fold max (⊥ : EReal) fun k : Fin K => max (ebn (mean S K x h w o) (var S K x h w o) (g o) (b o) (val S K x h w i s k o)) 0
theorem efeat_eq [NeZero K] {g b : Fin 128 → EReal} (hg : ∀ o, 0 ≤ g o) (i : Fin B) (s : Fin S) (o : Fin 128) :
    efeat S K x h w g b i s o
      = max (ebn (mean S K x h w o) (var S K x h w o) (g o) (b o) (most fun k => val S K x h w i s k o)) 0 :=
  fold_mono (fun k => val S K x h w i s k o) (fun y => max (ebn _ _ (g o) (b o) y) 0) (relu_ebn_mono (hg o))

end

/-! ## The first linear map -/

section
variable {B N : ℕ} (x f : Fin B → Fin N → Fin 3 → ℝ) (w : Fin 128 → Fin 6 → ℝ) (g b : Fin 128 → ℝ)

def center (i : Fin B) (j : Fin 3) : ℝ := (∑ n, x i n j) / N
def centred (i : Fin B) (n : Fin N) (j : Fin 3) : ℝ := x i n j - center x i j
/-- A centred point beside its features. -/
def six (i : Fin B) (n : Fin N) (j : Fin 6) : ℝ :=
  if hj : j.val < 3 then centred x i n ⟨j.val, hj⟩ else f i n ⟨j.val - 3, by omega⟩
def lin (i : Fin B) (n : Fin N) (o : Fin 128) : ℝ := ∑ j, six x f i n j * w o j
def lmean (o : Fin 128) : ℝ := mean3 (fun i n (_ : Fin 1) => lin x f w i n o) (cnt B N 1)
def lvar (o : Fin 128) : ℝ := var3 (fun i n (_ : Fin 1) => lin x f w i n o) (cnt B N 1)
def hid (i : Fin B) (n : Fin N) (o : Fin 128) : ℝ := relu (bn (lmean x f w o) (lvar x f w o) (g o) (b o) (lin x f w i n o))

end

end Cert.Proof.Spec

end
-- ==== Proof.Reals.lean ====
/-
  Extended-real arithmetic on real values: sums, quotients, roots, maxima and the programs' literals.
-/
module

public import proofs.«01_k».proof.Proof.Spec
public import Idealize.ShloMosaic.Lib.IdealHost

@[expose] public section

noncomputable section

namespace Cert.Proof.Reals

open Idealize.ShloMosaic Cert.Proof.Select Cert.Proof.Spec
open scoped BigOperators

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) b = ((max a b : ℝ) : EReal) := (EReal.coe_strictMono.monotone.map_max).symm
theorem coe_min (a b : ℝ) : min (a : EReal) b = ((min a b : ℝ) : EReal) := (EReal.coe_strictMono.monotone.map_min).symm

theorem div_coe (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

theorem sqrt_coe {a : ℝ} (ha : 0 ≤ a) : Ideal.sqrt (a : EReal) = ((Real.sqrt a : ℝ) : EReal) := by
  show (if a < 0 then (⊥ : EReal) else (Real.sqrt a : EReal)) = _
  rw [if_neg (not_lt.2 ha)]
theorem rsqrt_coe {a : ℝ} (ha : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.2 ha.le), if_neg ha.ne']

/-- The maximum of reals, folded from minus infinity. -/
theorem fold_max {K : ℕ} [NeZero K] (v : Fin K → ℝ) : Finset.univ.fold max (⊥ : EReal) (fun k => (v k : EReal)) = (most v : EReal) := by
  apply le_antisymm
  · rw [Finset.fold_max_le]
    exact ⟨bot_le, fun k _ => EReal.coe_le_coe_iff.2 (le_most v k)⟩
  · rw [Finset.le_fold_max]
    exact .inr ⟨firstMax v, Finset.mem_univ _, le_rfl⟩

/-! ## Literals -/

theorem ofBits_eps : Ideal.ofBits .f32 0x3727C5AC#32 = (eps : EReal) := by
  unfold eps; simp [Ideal.ofBits, Ideal.ieee, -EReal.coe_mul]
theorem ofBits_huge : Ideal.ofBits .f32 0x501502F9#32 = (huge : EReal) := by
  unfold huge; simp [Ideal.ofBits, Ideal.ieee, -EReal.coe_mul]; norm_num
theorem ofBits_2048 : Ideal.ofBits .f32 0x45000000#32 = ((2048 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_16384 : Ideal.ofBits .f32 0x46800000#32 = ((16384 : ℝ) : EReal) := by
  simp [Ideal.ofBits, Ideal.ieee, -EReal.coe_mul]; norm_num
theorem ofBits_131072 : Ideal.ofBits .f32 0x48000000#32 = ((131072 : ℝ) : EReal) := by
  simp [Ideal.ofBits, Ideal.ieee, -EReal.coe_mul]; norm_num
theorem ofBits_bot : Ideal.ofBits .f32 0xFF800000#32 = (⊥ : EReal) := by
  simp [Ideal.ofBits, Ideal.ieee]
theorem ofBits_top : Ideal.ofBits .f32 0x7F800000#32 = (⊤ : EReal) := by
  simp [Ideal.ofBits, Ideal.ieee]

end Cert.Proof.Reals

end
-- ==== Proof.HostOps.lean ====
/-
  The reference's array operations read at an index: sums over leading axes, gathers of rows, the sort's and the
  arg-max's indices, the update of one row.
-/
module

public import proofs.«01_k».proof.ReferenceIdeal
public import proofs.«01_k».proof.Proof.Reals
public import Idealize.ShloMosaic.Lib.Pointwise
public import Idealize.ShloMosaic.Lib.ValueIdx
public import Idealize.ShloMosaic.PureOps.Ideal.Laws

@[expose] public section

set_option maxRecDepth 16384

noncomputable section

namespace Cert.Proof.HostOps

open Idealize.ShloMosaic Cert.Proof.Select
open scoped BigOperators

/-! ## Sums over the leading axes -/

section
variable {n0 n1 n2 n3 : ℕ}

/-- A sum over the first two of three axes. -/
theorem sum_r3_a01 (h : (⟨3, ![n0, n1, n2]⟩ : Shape).ReducesTo [0, 1] ⟨1, ![n2]⟩) (v : (⟨3, ![n0, n1, n2]⟩ : Shape).Idx → EReal) (init : EReal)
    (o : Fin n2) : Ideal.hostReduceAdd h v init (ix1 o) = init + ∑ a : Fin n0, ∑ b : Fin n1, v (ix3 a b o) := by
  unfold Ideal.hostReduceAdd
  refine congrArg (init + ·) ((Finset.sum_filter_eq_sum_of_fiber _ (fun k : Fin n0 × Fin n1 => ix3 k.1 k.2 o)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e (0 : Fin 1))).symm
  · rintro ⟨k, rfl⟩
    funext b; apply Fin.ext
    match b with
    | ⟨0, _⟩ => rfl

/-- A sum over the first three of four axes. -/
theorem sum_r4_a012 (h : (⟨4, ![n0, n1, n2, n3]⟩ : Shape).ReducesTo [0, 1, 2] ⟨1, ![n3]⟩) (v : (⟨4, ![n0, n1, n2, n3]⟩ : Shape).Idx → EReal) (init : EReal)
    (o : Fin n3) : Ideal.hostReduceAdd h v init (ix1 o) = init + ∑ a : Fin n0, ∑ b : Fin n1, ∑ c : Fin n2, v (ix4 a b c o) := by
  unfold Ideal.hostReduceAdd
  refine congrArg (init + ·) ((Finset.sum_filter_eq_sum_of_fiber _ (fun k : Fin n0 × Fin n1 × Fin n2 => ix4 k.1 k.2.1 k.2.2 o)
    (fun _ _ e => Prod.ext (congrFun e 0) (Prod.ext (congrFun e 1) (congrFun e 2))) (fun i => ?_) v).trans (by simp only [Fintype.sum_prod_type]))
  constructor
  · intro e
    refine ⟨(i 0, i 1, i 2), ?_⟩
    funext a; apply Fin.ext
    match a with
    | ⟨0, _⟩ => rfl
    | ⟨1, _⟩ => rfl
    | ⟨2, _⟩ => rfl
    | ⟨3, _⟩ => exact (congrArg Fin.val (congrFun e (0 : Fin 1))).symm
  · rintro ⟨k, rfl⟩
    funext b; apply Fin.ext
    match b with
    | ⟨0, _⟩ => rfl

end

/-! ## Indices as machine integers -/

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- An index that is not negative passes the wrap of negative ones unchanged. -/
theorem wrap_of_nonneg {n : ℕ} (hn : n < 2 ^ 31) (w : BitVec 32) :
    Scalar.select (IntOp.cmpi .slt (BitVec.ofNat 32 n) 0#32) w (BitVec.ofNat 32 n) = BitVec.ofNat 32 n := by
  have : IntOp.cmpi .slt (BitVec.ofNat 32 n) 0#32 = 0#1 := by
    show BitVec.ofBool ((BitVec.ofNat 32 n).slt 0#32) = 0#1
    rw [BitVec.slt, toInt_ofNat hn]
    exact congrArg BitVec.ofBool (decide_eq_false (by rw [show (0#32).toInt = 0 from rfl]; omega))
  rw [this]; rfl

/-! ## Gathers of rows -/

section
variable {α : Type} {B N S K C : ℕ}

/-- The dimension numbers that take, for each of `B` batches, `S` rows of `C` out of `N`. -/
abbrev rows (B N S C : ℕ) (wf : GatherDims.WF ⟨3, ![B, N, C]⟩ ⟨3, ![B, S, 1]⟩ ⟨3, ![B, S, C]⟩ [2] [1] [0] [1] [0] 2 ![1, 1, C]) :
    GatherDims ⟨3, ![B, N, C]⟩ ⟨3, ![B, S, 1]⟩ ⟨3, ![B, S, C]⟩ where
  offsetDims := [2]
  collapsedSliceDims := [1]
  operandBatchingDims := [0]
  startIndicesBatchingDims := [0]
  startIndexMap := [1]
  indexVectorDim := 2
  sliceSizes := ![1, 1, C]
  wf := wf

theorem gather_rows (wf) (x : (⟨3, ![B, N, C]⟩ : Shape).Idx → α) (idx : IVec ⟨3, ![B, S, 1]⟩ 32) (hN : N < 2 ^ 31) (a : Fin B) (s : Fin S) (c : Fin C)
    (n : Fin N) (hn : idx (ix3 a s 0) = BitVec.ofNat 32 n.val) : Host.gather (rows B N S C wf) x idx (ix3 a s c) = x (ix3 a n c) := by
  unfold Host.gather
  congr 1
  funext ax
  refine Fin.ext ?_
  show (rows B N S C wf).start (ix3 a s c) idx ax + (rows B N S C wf).batchCoord (ix3 a s c) ax + (rows B N S C wf).offCoord (ix3 a s c) ax = _
  match ax with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    have hm : (⟨0, Nat.zero_lt_succ 2⟩ : Fin (⟨3, ![B, N, C]⟩ : Shape).rank) ∈ (rows B N S C wf).operandBatchingDims := List.mem_singleton.mpr rfl
    rw [dif_pos hm]
    rfl
  | ⟨1, _⟩ =>
    rw [GatherDims.batchCoord_eq_zero _ _ _ (fun h => absurd (congrArg Fin.val (List.mem_singleton.mp h)) (show ¬ (1 : ℕ) = 0 by decide)),
      GatherDims.offCoord_eq_zero _ _ _ (fun h => ((GatherDims.mem_sKept _ _).mp h).1 (List.mem_singleton.mpr rfl))]
    simp only [Nat.add_zero]
    unfold GatherDims.start
    have hm : (⟨1, Nat.succ_lt_succ (Nat.zero_lt_succ 1)⟩ : Fin (⟨3, ![B, N, C]⟩ : Shape).rank) ∈ (rows B N S C wf).startIndexMap := List.mem_singleton.mpr rfl
    rw [dif_pos hm]
    have hsi : (rows B N S C wf).siIdx (ix3 a s c) ⟨List.idxOf _ (rows B N S C wf).startIndexMap, List.idxOf_lt_length_iff.2 hm⟩ = ix3 a s 0 := by
      funext b; refine Fin.ext ?_
      match b with
      | ⟨0, _⟩ => rfl
      | ⟨1, _⟩ => rfl
      | ⟨2, _⟩ => rfl
    rw [hsi, hn, toInt_ofNat (n.isLt.trans hN)]
    show min ((n.val : ℤ).toNat) (N - 1) = n.val
    rw [Int.toNat_natCast]
    exact min_eq_left (by omega)
  | ⟨2, _⟩ =>
    rw [GatherDims.batchCoord_eq_zero _ _ _ (fun h => absurd (congrArg Fin.val (List.mem_singleton.mp h)) (show ¬ (2 : ℕ) = 0 by decide))]
    unfold GatherDims.start
    rw [dif_neg (fun h => absurd (congrArg Fin.val (List.mem_singleton.mp h)) (show ¬ (2 : ℕ) = 1 by decide))]
    simp only [Nat.zero_add, Nat.add_zero]
    unfold GatherDims.offCoord
    have hm : (⟨2, Nat.lt_succ_self 2⟩ : Fin (⟨3, ![B, N, C]⟩ : Shape).rank) ∈ (rows B N S C wf).sKept :=
      (GatherDims.mem_sKept _ _).mpr ⟨fun h => absurd (congrArg Fin.val (List.mem_singleton.mp h)) (show ¬ (2 : ℕ) = 1 by decide),
        fun h => absurd (congrArg Fin.val (List.mem_singleton.mp h)) (show ¬ (2 : ℕ) = 0 by decide)⟩
    rw [dif_pos hm]
    rfl

/-- The gathered array as a function, where the indices are those of `t`. -/
theorem gather_rows_fun {d : GatherDims ⟨3, ![B, N, C]⟩ ⟨3, ![B, S, 1]⟩ ⟨3, ![B, S, C]⟩} (wf) (hd : d = rows B N S C wf) (t : Fin B → Fin S → Fin N) (hN : N < 2 ^ 31)
    (x : (⟨3, ![B, N, C]⟩ : Shape).Idx → α) (idx : IVec ⟨3, ![B, S, 1]⟩ 32) (hn : ∀ a s, idx (ix3 a s 0) = BitVec.ofNat 32 (t a s).val) :
    Host.gather d x idx = fun j => x (ix3 (j 0) (t (j 0) (j 1)) (j 2)) := by
  subst hd
  funext j
  rw [show j = ix3 (j 0) (j 1) (j 2) from eq_ix3 j]
  exact gather_rows wf x idx hN _ _ _ _ (hn _ _)

/-- The same for `S × K` rows of each batch. -/
abbrev groups (B N S K C : ℕ) (wf : GatherDims.WF ⟨3, ![B, N, C]⟩ ⟨4, ![B, S, K, 1]⟩ ⟨4, ![B, S, K, C]⟩ [3] [1] [0] [1] [0] 3 ![1, 1, C]) :
    GatherDims ⟨3, ![B, N, C]⟩ ⟨4, ![B, S, K, 1]⟩ ⟨4, ![B, S, K, C]⟩ where
  offsetDims := [3]
  collapsedSliceDims := [1]
  operandBatchingDims := [0]
  startIndicesBatchingDims := [0]
  startIndexMap := [1]
  indexVectorDim := 3
  sliceSizes := ![1, 1, C]
  wf := wf

theorem gather_groups (wf) (x : (⟨3, ![B, N, C]⟩ : Shape).Idx → α) (idx : IVec ⟨4, ![B, S, K, 1]⟩ 32) (hN : N < 2 ^ 31) (a : Fin B) (s : Fin S)
    (k : Fin K) (c : Fin C) (n : Fin N) (hn : idx (ix4 a s k 0) = BitVec.ofNat 32 n.val) :
    Host.gather (groups B N S K C wf) x idx (ix4 a s k c) = x (ix3 a n c) := by
  unfold Host.gather
  congr 1
  funext ax
  refine Fin.ext ?_
  show (groups B N S K C wf).start (ix4 a s k c) idx ax + (groups B N S K C wf).batchCoord (ix4 a s k c) ax + (groups B N S K C wf).offCoord (ix4 a s k c) ax = _
  match ax with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    have hm : (⟨0, Nat.zero_lt_succ 2⟩ : Fin (⟨3, ![B, N, C]⟩ : Shape).rank) ∈ (groups B N S K C wf).operandBatchingDims := List.mem_singleton.mpr rfl
    rw [dif_pos hm]
    rfl
  | ⟨1, _⟩ =>
    rw [GatherDims.batchCoord_eq_zero _ _ _ (fun h => absurd (congrArg Fin.val (List.mem_singleton.mp h)) (show ¬ (1 : ℕ) = 0 by decide)),
      GatherDims.offCoord_eq_zero _ _ _ (fun h => ((GatherDims.mem_sKept _ _).mp h).1 (List.mem_singleton.mpr rfl))]
    simp only [Nat.add_zero]
    unfold GatherDims.start
    have hm : (⟨1, Nat.succ_lt_succ (Nat.zero_lt_succ 1)⟩ : Fin (⟨3, ![B, N, C]⟩ : Shape).rank) ∈ (groups B N S K C wf).startIndexMap := List.mem_singleton.mpr rfl
    rw [dif_pos hm]
    have hsi : (groups B N S K C wf).siIdx (ix4 a s k c) ⟨List.idxOf _ (groups B N S K C wf).startIndexMap, List.idxOf_lt_length_iff.2 hm⟩ = ix4 a s k 0 := by
      funext b; refine Fin.ext ?_
      match b with
      | ⟨0, _⟩ => rfl
      | ⟨1, _⟩ => rfl
      | ⟨2, _⟩ => rfl
      | ⟨3, _⟩ => rfl
    rw [hsi, hn, toInt_ofNat (n.isLt.trans hN)]
    show min ((n.val : ℤ).toNat) (N - 1) = n.val
    rw [Int.toNat_natCast]
    exact min_eq_left (by omega)
  | ⟨2, _⟩ =>
    rw [GatherDims.batchCoord_eq_zero _ _ _ (fun h => absurd (congrArg Fin.val (List.mem_singleton.mp h)) (show ¬ (2 : ℕ) = 0 by decide))]
    unfold GatherDims.start
    rw [dif_neg (fun h => absurd (congrArg Fin.val (List.mem_singleton.mp h)) (show ¬ (2 : ℕ) = 1 by decide))]
    simp only [Nat.zero_add, Nat.add_zero]
    unfold GatherDims.offCoord
    have hm : (⟨2, Nat.lt_succ_self 2⟩ : Fin (⟨3, ![B, N, C]⟩ : Shape).rank) ∈ (groups B N S K C wf).sKept :=
      (GatherDims.mem_sKept _ _).mpr ⟨fun h => absurd (congrArg Fin.val (List.mem_singleton.mp h)) (show ¬ (2 : ℕ) = 1 by decide),
        fun h => absurd (congrArg Fin.val (List.mem_singleton.mp h)) (show ¬ (2 : ℕ) = 0 by decide)⟩
    rw [dif_pos hm]
    rfl

/-- The gathered array as a function. -/
theorem gather_groups_fun {d : GatherDims ⟨3, ![B, N, C]⟩ ⟨4, ![B, S, K, 1]⟩ ⟨4, ![B, S, K, C]⟩} (wf) (hd : d = groups B N S K C wf) (t : Fin B → Fin S → Fin K → Fin N)
    (hN : N < 2 ^ 31) (x : (⟨3, ![B, N, C]⟩ : Shape).Idx → α) (idx : IVec ⟨4, ![B, S, K, 1]⟩ 32) (hn : ∀ a s k, idx (ix4 a s k 0) = BitVec.ofNat 32 (t a s k).val) :
    Host.gather d x idx = fun j => x (ix3 (j 0) (t (j 0) (j 1) (j 2)) (j 3)) := by
  subst hd
  funext j
  rw [show j = ix4 (j 0) (j 1) (j 2) (j 3) from eq_ix4 j]
  exact gather_groups wf x idx hN _ _ _ _ _ (hn _ _ _)

end

/-! ## The sort -/

section
open Cert.ReferenceIdeal

theorem ofBool_beq (b : Bool) : (BitVec.ofBool b == 1#1) = b := by cases b <;> rfl

/-- The comparator orders reals by their values. -/
theorem comparator_real (a b : ℝ) (i j : BitVec 32) :
    (comparator_f32_i32_d2 (F := Ideal) ((a : EReal), i) ((b : EReal), j) == 1#1) = decide (a < b) := by
  have hsel : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32)) (FloatOps.ofBits (F := Ideal) .f32 0x00000000#32) x) = x := by
    intro x
    have h0 : (FloatOps.ofBits (F := Ideal) .f32 0x00000000#32 : EReal) = 0 := Ideal.ofBits_zero_f32
    have h1 : FloatOps.cmpf (F := Ideal) (φ := .f32) .une x x = 0#1 := by
      show BitVec.ofBool (decide (x ≠ x)) = 0#1
      simp
    rw [h1, h0]
    show Scalar.select (BitVec.ofBool (decide (x = 0))) (0 : EReal) x = x
    by_cases h : x = 0
    · subst h; simp [Scalar.select]
    · simp [h, Scalar.select]
  show (FloatOps.cmpfTotal (F := Ideal) (φ := .f32) .lt (Scalar.select _ _ (Scalar.select _ _ (a : EReal))) (Scalar.select _ _ (Scalar.select _ _ (b : EReal))) == 1#1) = _
  rw [hsel, hsel]
  show (BitVec.ofBool (decide ((a : EReal) < b)) == 1#1) = _
  rw [ofBool_beq]
  exact decide_eq_decide.2 EReal.coe_lt_coe_iff

/-- Sorting positions by real distances puts the `k`-th nearest at `k`. -/
theorem sort_near {B S N : ℕ} [NeZero N] (x : (⟨3, ![B, S, N]⟩ : Shape).Idx → EReal) (y : (⟨3, ![B, S, N]⟩ : Shape).Idx → BitVec 32)
    (a : Fin B) (s : Fin S) (d : Fin N → ℝ) (hd : ∀ n, x (ix3 a s n) = (d n : EReal)) (k : Fin N) :
    (Host.sort2 ⟨3, ![B, S, N]⟩ 2 (comparator_f32_i32_d2 (F := Ideal)) x y).2 (ix3 a s k) = y (ix3 a s (near d k)) := by
  unfold Host.sort2
  rw [dif_pos (show 2 < (⟨3, ![B, S, N]⟩ : Shape).rank from (by decide : 2 < 3))]
  have hal : ∀ n : Fin N, (ix3 a s k).along (s := ⟨3, ![B, S, N]⟩) (2 : Fin 3) n = ix3 a s n := by
    intro n; funext b; apply Fin.ext
    match b with
    | ⟨0, _⟩ => rfl
    | ⟨1, _⟩ => rfl
    | ⟨2, _⟩ => rfl
  show y ((ix3 a s k).along (s := ⟨3, ![B, S, N]⟩) (2 : Fin 3) (sortedFrom (n := N) (fun i j => comparator_f32_i32_d2 (F := Ideal)
    (x ((ix3 a s k).along (s := ⟨3, ![B, S, N]⟩) (2 : Fin 3) i), y ((ix3 a s k).along (s := ⟨3, ![B, S, N]⟩) (2 : Fin 3) i))
    (x ((ix3 a s k).along (s := ⟨3, ![B, S, N]⟩) (2 : Fin 3) j), y ((ix3 a s k).along (s := ⟨3, ![B, S, N]⟩) (2 : Fin 3) j)) == 1#1) k)) = _
  rw [hal]
  have : (fun i j : Fin N => comparator_f32_i32_d2 (F := Ideal)
    (x ((ix3 a s k).along (s := ⟨3, ![B, S, N]⟩) (2 : Fin 3) i), y ((ix3 a s k).along (s := ⟨3, ![B, S, N]⟩) (2 : Fin 3) i))
    (x ((ix3 a s k).along (s := ⟨3, ![B, S, N]⟩) (2 : Fin 3) j), y ((ix3 a s k).along (s := ⟨3, ![B, S, N]⟩) (2 : Fin 3) j)) == 1#1)
      = fun i j => decide (d i < d j) := by
    funext i j
    rw [hal, hal, hd, hd]
    exact comparator_real _ _ _ _
  rw [this, sortedFrom_near]

/-! ## The arg-max -/

/-- The arg-max's body on two pairs of a real value and a position: the greater value, and of equal ones the smaller position. -/
theorem argmax_real (a b : ℝ) {i j : ℕ} (hi : i < 2 ^ 31) (hj : j < 2 ^ 31) :
    reducer_argmax_f32_i32 (F := Ideal) ((a : EReal), BitVec.ofNat 32 i) ((b : EReal), BitVec.ofNat 32 j)
      = if b < a ∨ (a = b ∧ i < j) then ((a : EReal), BitVec.ofNat 32 i) else ((b : EReal), BitVec.ofNat 32 j) := by
  have h2 : FloatOps.cmpf (F := Ideal) (φ := .f32) .ogt (a : EReal) (b : EReal) = BitVec.ofBool (decide (b < a)) :=
    congrArg BitVec.ofBool (decide_eq_decide.2 EReal.coe_lt_coe_iff)
  have h3 : FloatOps.cmpf (F := Ideal) (φ := .f32) .une (a : EReal) (a : EReal) = 0#1 := by
    show BitVec.ofBool (decide ((a : EReal) ≠ a)) = 0#1
    simp
  have h5 : FloatOps.cmpf (F := Ideal) (φ := .f32) .oeq (a : EReal) (b : EReal) = BitVec.ofBool (decide (a = b)) :=
    congrArg BitVec.ofBool (decide_eq_decide.2 EReal.coe_eq_coe_iff)
  have h6 : IntOp.cmpi .slt (BitVec.ofNat 32 i) (BitVec.ofNat 32 j) = BitVec.ofBool (decide (i < j)) := by
    show BitVec.ofBool ((BitVec.ofNat 32 i).slt (BitVec.ofNat 32 j)) = _
    rw [BitVec.slt, toInt_ofNat hi, toInt_ofNat hj]
    exact congrArg BitVec.ofBool (decide_eq_decide.2 Int.ofNat_lt)
  unfold reducer_argmax_f32_i32
  simp only [h2, h3, h5, h6]
  by_cases hlt : b < a
  · have he : a ≠ b := hlt.ne'
    simp [hlt, he, Scalar.select, IntOp.ori, IntOp.andi]
  · by_cases he : a = b
    · subst he
      by_cases hij : i < j
      · simp [hij, Scalar.select, IntOp.ori, IntOp.andi]
      · simp [hij, Scalar.select, IntOp.ori, IntOp.andi]
    · simp [hlt, he, Scalar.select, IntOp.ori, IntOp.andi]

/-- The body started from minus infinity takes the other pair. -/
theorem argmax_bot (b : ℝ) (i j : BitVec 32) :
    reducer_argmax_f32_i32 (F := Ideal) ((⊥ : EReal), i) ((b : EReal), j) = ((b : EReal), j) := by
  have h2 : FloatOps.cmpf (F := Ideal) (φ := .f32) .ogt (⊥ : EReal) (b : EReal) = 0#1 := by
    show BitVec.ofBool (decide ((b : EReal) < ⊥)) = 0#1
    simp
  have h3 : FloatOps.cmpf (F := Ideal) (φ := .f32) .une (⊥ : EReal) (⊥ : EReal) = 0#1 := by
    show BitVec.ofBool (decide ((⊥ : EReal) ≠ ⊥)) = 0#1
    simp
  have h5 : FloatOps.cmpf (F := Ideal) (φ := .f32) .oeq (⊥ : EReal) (b : EReal) = 0#1 := by
    show BitVec.ofBool (decide ((⊥ : EReal) = b)) = 0#1
    simp
  unfold reducer_argmax_f32_i32
  simp only [h2, h3, h5]
  simp [Scalar.select, IntOp.ori, IntOp.andi]

/-- The fold of the body over a list of positions ends at one of them, none better. -/
theorem argmax_fold {ι : Type} (v : ι → ℝ) (p : ι → ℕ) (hp : ∀ i, p i < 2 ^ 31) : ∀ (l : List ι) (i : ι),
    ∃ i', (i' = i ∨ i' ∈ l) ∧ (∀ j, j = i ∨ j ∈ l → v j < v i' ∨ (v j = v i' ∧ p i' ≤ p j)) ∧
      l.foldl (fun r n => reducer_argmax_f32_i32 (F := Ideal) r ((v n : EReal), BitVec.ofNat 32 (p n))) ((v i : EReal), BitVec.ofNat 32 (p i))
        = ((v i' : EReal), BitVec.ofNat 32 (p i'))
  | [], i => ⟨i, .inl rfl, fun j hj => by rcases hj with rfl | hj; exacts [.inr ⟨rfl, le_rfl⟩, absurd hj List.not_mem_nil], rfl⟩
  | n :: l, i => by
    rw [List.foldl_cons, argmax_real _ _ (hp i) (hp n)]
    by_cases h : v n < v i ∨ (v i = v n ∧ p i < p n)
    · rw [if_pos h]
      obtain ⟨i', hm, hb, he⟩ := argmax_fold v p hp l i
      refine ⟨i', hm.imp_right (List.mem_cons_of_mem _), fun j hj => ?_, he⟩
      rcases hj with rfl | hj
      · exact hb _ (.inl rfl)
      rcases List.mem_cons.1 hj with rfl | hj
      · have hi := hb i (.inl rfl)
        rcases h with h | ⟨h, h'⟩ <;> rcases hi with hi | ⟨hi, hi'⟩
        · exact .inl (h.trans hi)
        · exact .inl (hi ▸ h)
        · exact .inl (h ▸ hi)
        · exact .inr ⟨h ▸ hi, by omega⟩
      · exact hb j (.inr hj)
    · rw [if_neg h]
      obtain ⟨i', hm, hb, he⟩ := argmax_fold v p hp l n
      refine ⟨i', .inr (List.mem_cons.2 hm), fun j hj => ?_, he⟩
      rcases hj with rfl | hj
      · have hn := hb n (.inl rfl)
        push Not at h
        rcases lt_or_eq_of_le h.1 with h1 | h1
        · rcases hn with hn | ⟨hn, -⟩
          · exact .inl (h1.trans hn)
          · exact .inl (hn ▸ h1)
        · have := h.2 h1
          rcases hn with hn | ⟨hn, hn'⟩
          · exact .inl (h1 ▸ hn)
          · exact .inr ⟨h1.trans hn, hn'.trans this⟩
      · exact hb j (List.mem_cons.1 hj)

/-- The arg-max along the last of two axes is the first position of the greatest value. -/
theorem argmax_row {B N : ℕ} [NeZero N] (x : (⟨2, ![B, N]⟩ : Shape).Idx → EReal) (y : (⟨2, ![B, N]⟩ : Shape).Idx → BitVec 32)
    (ix : (⟨0, ![]⟩ : Shape).Idx → EReal) (iy : (⟨0, ![]⟩ : Shape).Idx → BitVec 32)
    (h : (⟨2, ![B, N]⟩ : Shape).ReducesTo [1] ⟨1, ![B]⟩) (hu : 0 < (⟨0, ![]⟩ : Shape).numel) (hN : N < 2 ^ 31)
    (v : Fin B → Fin N → ℝ) (hx : ∀ a n, x (ix2 a n) = (v a n : EReal)) (hy : ∀ a n, y (ix2 a n) = BitVec.ofNat 32 n.val) (hi : ∀ j, ix j = ⊥) (a : Fin B) :
    (Host.argReduce (φ := .f32) (F := Ideal) reducer_argmax_f32_i32 x y ix iy h hu (ix1 a)).2 = BitVec.ofNat 32 (firstMax (v a)).val := by
  rw [Ideal.argReduce_eq_reduce2]
  unfold Host.reduce2
  rw [hi]
  have hrow : ∀ i : (⟨2, ![B, N]⟩ : Shape).Idx, h.drop i = ix1 a ↔ i = ix2 a (i 1) := by
    intro i
    constructor
    · intro e
      funext b; apply Fin.ext
      match b with
      | ⟨0, _⟩ => exact congrArg Fin.val (congrFun e (0 : Fin 1))
      | ⟨1, _⟩ => rfl
    · intro e
      rw [e]
      funext b; apply Fin.ext
      match b with
      | ⟨0, _⟩ => rfl
  obtain ⟨l, hl⟩ : ∃ l, l = (List.finRange (⟨2, ![B, N]⟩ : Shape).numel).filter fun n => h.drop ((⟨2, ![B, N]⟩ : Shape).rowMajor.symm n) = ix1 a := ⟨_, rfl⟩
  rw [← hl]
  have hmem : ∀ n, n ∈ l ↔ h.drop ((⟨2, ![B, N]⟩ : Shape).rowMajor.symm n) = ix1 a := by intro n; rw [hl]; simp
  let q : Fin (⟨2, ![B, N]⟩ : Shape).numel → Fin N := fun n => ((⟨2, ![B, N]⟩ : Shape).rowMajor.symm n) 1
  have hq : ∀ n ∈ l, (⟨2, ![B, N]⟩ : Shape).rowMajor.symm n = ix2 a (q n) := fun n hn => (hrow _).1 ((hmem n).1 hn)
  have hall : ∀ k : Fin N, ∃ n ∈ l, q n = k := by
    intro k
    refine ⟨(⟨2, ![B, N]⟩ : Shape).rowMajor (ix2 a k), (hmem _).2 ?_, ?_⟩
    · rw [Equiv.symm_apply_apply, hrow]; rfl
    · show ((⟨2, ![B, N]⟩ : Shape).rowMajor.symm ((⟨2, ![B, N]⟩ : Shape).rowMajor (ix2 a k))) 1 = k
      rw [Equiv.symm_apply_apply]; rfl
  have hfold : ∀ r : EReal × BitVec 32, l.foldl (fun r n => reducer_argmax_f32_i32 (F := Ideal) r (x ((⟨2, ![B, N]⟩ : Shape).rowMajor.symm n), y ((⟨2, ![B, N]⟩ : Shape).rowMajor.symm n))) r
      = l.foldl (fun r n => reducer_argmax_f32_i32 (F := Ideal) r ((v a (q n) : EReal), BitVec.ofNat 32 (q n).val)) r := by
    intro r
    refine List.foldl_ext _ _ _ fun r n hn => ?_
    rw [hq n hn, hx, hy]
  refine (congrArg Prod.snd (hfold _)).trans ?_
  rcases l with _ | ⟨n0, l⟩
  · obtain ⟨n, hn, -⟩ := hall 0; exact absurd hn List.not_mem_nil
  rw [List.foldl_cons, argmax_bot]
  obtain ⟨i', -, hb, he⟩ := argmax_fold (fun n => v a (q n)) (fun n => (q n).val) (fun n => (q n).isLt.trans hN) l n0
  rw [he]
  have : q i' = firstMax (v a) := by
    refine firstMax_eq (fun k => ?_) fun k hk => ?_
    · obtain ⟨n, hn, rfl⟩ := hall k
      rcases hb n (List.mem_cons.1 hn) with h | ⟨h, -⟩
      · exact h.le
      · exact h.le
    · obtain ⟨n, hn, rfl⟩ := hall k
      rcases hb n (List.mem_cons.1 hn) with h | ⟨-, h⟩
      · exact h
      · exact absurd hk (not_lt.2 h)
  rw [this]

end

/-! ## One row's update -/

/-- A row written at a start inside the array: that row is the update, the others are as they were. -/
theorem update_row {α : Type} {R B : ℕ} (x : (⟨2, ![R, B]⟩ : Shape).Idx → α) (u : (⟨2, ![1, B]⟩ : Shape).Idx → α) (start : Fin 2 → Int)
    (h : (⟨2, ![R, B]⟩ : Shape).Slices (fun _ => 0) ⟨2, ![1, B]⟩) (k : ℕ) (hk : k < R) (e0 : start 0 = k) (e1 : start 1 = 0) (r : Fin R) (i : Fin B) :
    Host.dynamicUpdateSlice x u start h (ix2 r i) = if r.val = k then u (ix2 0 i) else x (ix2 r i) := by
  have c0 : Host.clampedStart ⟨2, ![R, B]⟩ ⟨2, ![1, B]⟩ h.1 start (0 : Fin 2) = k := Host.clampedStart_of_le _ _ _ _ e0 (show k + 1 ≤ R from hk)
  have c1 : Host.clampedStart ⟨2, ![R, B]⟩ ⟨2, ![1, B]⟩ h.1 start (1 : Fin 2) = 0 := Host.clampedStart_of_le _ _ _ 0 e1 (show 0 + B ≤ B by omega)
  rw [Host.dynamicUpdateSlice_apply]
  by_cases hr : r.val = k
  · rw [if_pos hr, dif_pos]
    · congr 1
      funext b; apply Fin.ext
      match b with
      | ⟨0, _⟩ =>
        show r.val - Host.clampedStart ⟨2, ![R, B]⟩ ⟨2, ![1, B]⟩ h.1 start (0 : Fin 2) = 0
        rw [c0]; omega
      | ⟨1, _⟩ =>
        show i.val - Host.clampedStart ⟨2, ![R, B]⟩ ⟨2, ![1, B]⟩ h.1 start (1 : Fin 2) = i.val
        rw [c1]; omega
    · intro a
      match a with
      | ⟨0, _⟩ =>
        show Host.clampedStart ⟨2, ![R, B]⟩ ⟨2, ![1, B]⟩ h.1 start (0 : Fin 2) ≤ r.val ∧ r.val < Host.clampedStart ⟨2, ![R, B]⟩ ⟨2, ![1, B]⟩ h.1 start (0 : Fin 2) + 1
        rw [c0]; omega
      | ⟨1, _⟩ =>
        show Host.clampedStart ⟨2, ![R, B]⟩ ⟨2, ![1, B]⟩ h.1 start (1 : Fin 2) ≤ i.val ∧ i.val < Host.clampedStart ⟨2, ![R, B]⟩ ⟨2, ![1, B]⟩ h.1 start (1 : Fin 2) + B
        rw [c1]; omega
  · rw [if_neg hr, dif_neg]
    intro hin
    have h0 : Host.clampedStart ⟨2, ![R, B]⟩ ⟨2, ![1, B]⟩ h.1 start (0 : Fin 2) ≤ r.val ∧ r.val < Host.clampedStart ⟨2, ![R, B]⟩ ⟨2, ![1, B]⟩ h.1 start (0 : Fin 2) + 1 := hin (0 : Fin 2)
    rw [c0] at h0
    omega

end Cert.Proof.HostOps

end
-- ==== Proof.RefPre.lean ====
/-
  The reference before its first loop, read as reals: the centred points, the first linear map, its normalised values.
-/
module

public import proofs.«01_k».proof.Proof.RefOps
public import proofs.«01_k».proof.Proof.HostOps
public import Idealize.ShloMosaic.Lib.StableHlo.RunRead

@[expose] public section

set_option maxRecDepth 16384

noncomputable section

namespace Cert.Proof

open Idealize.ShloMosaic
open scoped BigOperators

/-! ## Arrays that hold reals or positions -/

/-- An array holds these extended reals. -/
def Ex1 {a : ℕ} (v : (⟨1, ![a]⟩ : Shape).Idx → EReal) (f : Fin a → EReal) : Prop := ∀ i, v (ix1 i) = f i
def Ex3 {a b c : ℕ} (v : (⟨3, ![a, b, c]⟩ : Shape).Idx → EReal) (f : Fin a → Fin b → Fin c → EReal) : Prop := ∀ i j k, v (ix3 i j k) = f i j k
def Ex4 {a b c d : ℕ} (v : (⟨4, ![a, b, c, d]⟩ : Shape).Idx → EReal) (f : Fin a → Fin b → Fin c → Fin d → EReal) : Prop := ∀ i j k l, v (ix4 i j k l) = f i j k l
/-- A vector holds these reals. -/
def Is1 {a : ℕ} (v : (⟨1, ![a]⟩ : Shape).Idx → EReal) (f : Fin a → ℝ) : Prop := ∀ i, v (ix1 i) = (f i : EReal)
/-- A matrix. -/
def Is2 {a b : ℕ} (v : (⟨2, ![a, b]⟩ : Shape).Idx → EReal) (f : Fin a → Fin b → ℝ) : Prop := ∀ i j, v (ix2 i j) = (f i j : EReal)
/-- An array of three axes. -/
def Is3 {a b c : ℕ} (v : (⟨3, ![a, b, c]⟩ : Shape).Idx → EReal) (f : Fin a → Fin b → Fin c → ℝ) : Prop := ∀ i j k, v (ix3 i j k) = (f i j k : EReal)
/-- An array of four axes. -/
def Is4 {a b c d : ℕ} (v : (⟨4, ![a, b, c, d]⟩ : Shape).Idx → EReal) (f : Fin a → Fin b → Fin c → Fin d → ℝ) : Prop :=
  ∀ i j k l, v (ix4 i j k l) = (f i j k l : EReal)

namespace Spec

/-- A normalised value as the reference computes it … -/
theorem bn_coe0 {m v g b x : ℝ} (hv : 0 ≤ v) :
    (g : EReal) * Ideal.div ((x : EReal) - (m : EReal)) (Ideal.sqrt ((v : EReal) + (eps : EReal))) + (b : EReal) = (bn m v g b x : EReal) := by
  have hp : 0 < v + eps := add_pos_of_nonneg_of_pos hv eps_pos
  rw [← EReal.coe_add, Reals.sqrt_coe hp.le, ← EReal.coe_sub, Reals.div_coe _ (Real.sqrt_pos.2 hp).ne', ← EReal.coe_mul, ← EReal.coe_add]
  rfl

theorem ebn_coe0 {m v x : ℝ} {g b : EReal} (hv : 0 ≤ v) :
    g * Ideal.div ((x : EReal) - (m : EReal)) (Ideal.sqrt ((v : EReal) + (eps : EReal))) + b = ebn m v g b x := by
  have hp : 0 < v + eps := add_pos_of_nonneg_of_pos hv eps_pos
  rw [← EReal.coe_add, Reals.sqrt_coe hp.le, ← EReal.coe_sub, Reals.div_coe _ (Real.sqrt_pos.2 hp).ne']
  rfl

/-- … and after relu. -/
theorem bn_coe {m v g b x : ℝ} (hv : 0 ≤ v) :
    max ((g : EReal) * Ideal.div ((x : EReal) - (m : EReal)) (Ideal.sqrt ((v : EReal) + (eps : EReal))) + (b : EReal)) 0 = (relu (bn m v g b x) : EReal) := by
  rw [bn_coe0 hv, ← EReal.coe_zero, Reals.coe_max]
  rfl

end Spec

namespace Ref

open Cert.ReferenceIdeal Cert.ReferenceIdeal.Gen Cert.Proof.Spec Cert.Proof.Reals Cert.Proof.HostOps
open TcCoe StableHlo

variable (V : Valuation τ sig (Elt Ideal))

theorem pre0_v2 {x : Fin 8 → Fin 2048 → Fin 3 → ℝ} (hx : Is3 (V (Proc.devRef (τ := τ) .tc main_arg0) : S8x2048x3.Idx → EReal) x) :
    Is2 (StableHlo.after pre0 V (Proc.devRef (τ := τ) .tc main_v2) : S8x3.Idx → EReal) (center x) := by
  intro a c
  after_results
  pointwise
  simp only [hx a, coe_sum, ofBits_2048]
  rw [div_coe _ (by norm_num)]
  unfold center
  norm_num

theorem pre0_v5 {x : Fin 8 → Fin 2048 → Fin 3 → ℝ} (hx : Is3 (V (Proc.devRef (τ := τ) .tc main_arg0) : S8x2048x3.Idx → EReal) x) :
    Is3 (StableHlo.after pre0 V (Proc.devRef (τ := τ) .tc main_v5) : S8x2048x3.Idx → EReal) (centred x) := by
  intro a b c
  after_results
  pointwise
  simp only [hx a, coe_sum, ofBits_2048]
  rw [div_coe _ (by norm_num), ← EReal.coe_sub]
  unfold centred center
  norm_num

theorem pre1_v7 {x f : Fin 8 → Fin 2048 → Fin 3 → ℝ} {w : Fin 128 → Fin 6 → ℝ} (hx : Is3 (V (Proc.devRef (τ := τ) .tc main_v5) : S8x2048x3.Idx → EReal) (centred x))
    (hf : Is3 (V (Proc.devRef (τ := τ) .tc main_arg1) : S8x2048x3.Idx → EReal) f) (hw : Is2 (V (Proc.devRef (τ := τ) .tc main_arg2) : S128x6.Idx → EReal) w) :
    Is3 (StableHlo.after pre1 V (Proc.devRef (τ := τ) .tc main_v7) : S8x2048x128.Idx → EReal) (lin x f w) := by
  intro i n o
  after_results
  pointwise
  simp only [hx i n, hf i n, hw o, ← EReal.coe_mul, coe_sum, ← EReal.coe_add]
  congr 1
  unfold lin
  rw [show (∑ j : Fin 6, six x f i n j * w o j) = ∑ j : Fin (3 + 3), six x f i n j * w o j from rfl, Fin.sum_univ_add]
  refine congrArg₂ (· + ·) (Finset.sum_congr rfl fun j _ => ?_) (Finset.sum_congr rfl fun j _ => ?_)
  · congr 1
    unfold six
    refine ((dif_pos ?_).trans ?_).symm
    · exact j.isLt
    · rfl
  · congr 1
    unfold six
    refine ((dif_neg (show ¬ 3 + (j : ℕ) < 3 by omega)).trans ?_).symm
    congr 1; apply Fin.ext; simp

theorem pre2_v34 {y : Fin 8 → Fin 2048 → Fin 128 → ℝ} {g b : Fin 128 → ℝ} (hy : Is3 (V (Proc.devRef (τ := τ) .tc main_v7) : S8x2048x128.Idx → EReal) y)
    (hg : Is1 (V (Proc.devRef (τ := τ) .tc main_arg3) : S128.Idx → EReal) g) (hb : Is1 (V (Proc.devRef (τ := τ) .tc main_arg4) : S128.Idx → EReal) b) :
    Is3 (StableHlo.after pre2 V (Proc.devRef (τ := τ) .tc main_v34) : S8x2048x128.Idx → EReal)
      (fun i n o => relu (bn (mean3 (fun i n (_ : Fin 1) => y i n o) (cnt 8 2048 1)) (var3 (fun i n (_ : Fin 1) => y i n o) (cnt 8 2048 1)) (g o) (b o) (y i n o))) := by
  intro i n o
  have hc : cnt 8 2048 1 = 16384 := by unfold cnt; norm_num
  have hm : Ideal.div (∑ a, ∑ b, (y a b o : EReal)) (Ideal.ofBits .f32 1182793728#32) = (mean3 (fun i n (_ : Fin 1) => y i n o) (cnt 8 2048 1) : EReal) := by
    rw [hc]
    simp only [coe_sum, ofBits_16384]
    rw [div_coe _ (by norm_num)]
    unfold mean3 sum3
    simp only [Finset.univ_unique, Finset.sum_singleton]
  have hv : Ideal.div (∑ a, ∑ b, ((y a b o : EReal) - (mean3 (fun i n (_ : Fin 1) => y i n o) (cnt 8 2048 1) : EReal)) * ((y a b o : EReal) - (mean3 (fun i n (_ : Fin 1) => y i n o) (cnt 8 2048 1) : EReal))) (Ideal.ofBits .f32 1182793728#32)
      = (var3 (fun i n (_ : Fin 1) => y i n o) (cnt 8 2048 1) : EReal) := by
    simp only [← EReal.coe_sub, ← EReal.coe_mul, coe_sum, ofBits_16384]
    rw [div_coe _ (by norm_num)]
    unfold var3 sum3
    rw [hc]
    simp only [Finset.univ_unique, Finset.sum_singleton]
  after_results
  pointwise
  simp only [sum_r3_a01]
  pointwise
  simp only [sum_r3_a01, zero_add]
  simp only [hy _, hg o, hb o, hm, hv, ofBits_eps]
  exact bn_coe (var3_nonneg _ (by rw [hc]; norm_num))

end Ref

end Cert.Proof

end
-- ==== Proof.RefLoop.lean ====
/-
  The reference's two loops of farthest-point sampling: before trip `k` the distances and the chosen index are those of
  `k` steps, and the first `k` rows of the indices are written.
-/
module

public import proofs.«01_k».proof.Proof.RefPre
public import proofs.«01_k».proof.Proof.RefRun

@[expose] public section

set_option maxRecDepth 16384

noncomputable section

namespace Cert.Proof.Ref

open Idealize.ShloMosaic
open Cert.ReferenceIdeal Cert.ReferenceIdeal.Gen Cert.Proof.Spec Cert.Proof.Reals Cert.Proof.HostOps Cert.Proof.Select Cert.Proof.TwoLoops
open TcCoe StableHlo

/-- An array of positions: row `s` holds, for each batch, the index `t` gives it. -/
def Chosen {R B N : ℕ} (v : (⟨2, ![R, B]⟩ : Shape).Idx → BitVec 32) (t : Fin B → ℕ → Fin N) (k : ℕ) : Prop :=
  ∀ (r : Fin R) (i : Fin B), r.val < k → v (ix2 r i) = BitVec.ofNat 32 (t i r.val).val

/-- A step writes row `k` and leaves the rows before. -/
theorem Chosen.step {R B N : ℕ} {v v' : (⟨2, ![R, B]⟩ : Shape).Idx → BitVec 32} {u : (⟨1, ![B]⟩ : Shape).Idx → BitVec 32} {t : Fin B → ℕ → Fin N} {k : ℕ}
    (h : Chosen v t k) (hu : ∀ i, u (ix1 i) = BitVec.ofNat 32 (t i k).val) (hv : ∀ r i, v' (ix2 r i) = if r.val = k then u (ix1 i) else v (ix2 r i)) :
    Chosen v' t (k + 1) := by
  intro r i hr
  rw [hv]
  split
  · next e => rw [hu, e]
  · exact h r i (by omega)

/-! ## The first loop -/

section
variable (V : Valuation τ sig (Elt Ideal))

theorem step0_dist {x : Fin 8 → Fin 2048 → Fin 3 → ℝ} {d : Fin 8 → Fin 2048 → ℝ} {t : Fin 8 → Fin 2048}
    (hx : Is3 (V (Proc.devRef (τ := τ) .tc main_v38_0) : S8x2048x3.Idx → EReal) x)
    (hd : Is2 (V (Proc.devRef (τ := τ) .tc main_v38_2) : S8x2048.Idx → EReal) d)
    (ht : ∀ i, (V (Proc.devRef (τ := τ) .tc main_v38_3) : S8.Idx → BitVec 32) (ix1 i) = BitVec.ofNat 32 (t i).val) :
    Is2 (StableHlo.after body0 V (Proc.devRef (τ := τ) .tc main_v38_2) : S8x2048.Idx → EReal)
      (fun i n => min (d i n) (gap (x i n) (x i (t i)))) := by
  intro i n
  after_results
  rw [gather_rows_fun (d := gather_S8x2048x3_S8x1x1_S8x1x3_2_1_0_0_1_2_113) (by decide) rfl (fun a _ => t a) (by norm_num) (hn := ?_)]
  · simp only [id_eq]
    pointwise
    simp only [hx i, hd i, ← EReal.coe_sub, ← EReal.coe_mul, coe_sum, coe_min]
    rfl
  · intro a s
    pointwise
    rw [ht]
    exact wrap_of_nonneg (by omega) _

theorem step0_far {d : Fin 8 → Fin 2048 → ℝ}
    (hd : Is2 (StableHlo.after body0 V (Proc.devRef (τ := τ) .tc main_v38_2) : S8x2048.Idx → EReal) d) (i : Fin 8) :
    (StableHlo.after body0 V (Proc.devRef (τ := τ) .tc main_v38_3) : S8.Idx → BitVec 32) (ix1 i) = BitVec.ofNat 32 (firstMax (d i)).val := by
  have e : StableHlo.after body0 V (Proc.devRef (τ := τ) .tc main_v38_3) = fun j => (Host.argReduce (F := Ideal) (φ := .f32) reducer_argmax_f32_i32
      (StableHlo.after body0 V (Proc.devRef (τ := τ) .tc main_v38_2) : S8x2048.Idx → EReal) (iotaInDim S8x2048 32 1) (constant (F := Ideal) S_ .f32 0xFF800000#32)
      (constantI S_ 32 0#32) reducesTo_S8x2048_S8_d1 h_S_ j).2 := by
    after_results
    rfl
  rw [e]
  exact argmax_row _ _ _ _ _ _ (by norm_num) d hd (fun a n => by pointwise) (fun _ => ofBits_bot) i

theorem step0_out (k : ℕ) (hk : k < 512) (hc : V (Proc.devRef (τ := τ) .tc main_v38_1) = fun _ => BitVec.ofNat 32 k) (r : Fin 512) (i : Fin 8) :
    (StableHlo.after body0 V (Proc.devRef (τ := τ) .tc main_v38_4) : S512x8.Idx → BitVec 32) (ix2 r i)
      = if r.val = k then (V (Proc.devRef (τ := τ) .tc main_v38_3) : S8.Idx → BitVec 32) (ix1 i)
        else (V (Proc.devRef (τ := τ) .tc main_v38_4) : S512x8.Idx → BitVec 32) (ix2 r i) := by
  after_results_simp_entrywise
  simp only [id_eq]
  refine (update_row (R := 512) (B := 8) (V (Proc.devRef (τ := τ) .tc main_v38_4) : S512x8.Idx → BitVec 32)
    (broadcastInDim S1x8 ![1] bcast_S8_S1x8_1 (V (Proc.devRef (τ := τ) .tc main_v38_3) : S8.Idx → BitVec 32)) _ updateFits_S512x8_S1x8 k hk ?_ ?_ r i).trans ?_
  · show (V (Proc.devRef (τ := τ) .tc main_v38_1) (Shape.Idx.first h_S_) : BitVec 32).toInt = k
    rw [hc]
    exact toInt_ofNat (by omega)
  · rfl
  · split
    · show broadcastInDim S1x8 ![1] bcast_S8_S1x8_1 (V (Proc.devRef (τ := τ) .tc main_v38_3) : S8.Idx → BitVec 32) (ix2 0 i) = _
      pointwise
    · rfl

/-- The state before a trip: the points, `k` steps' distances and index, and `k` rows of indices. -/
def Inv0 (x : Fin 8 → Fin 2048 → Fin 3 → ℝ) (k : ℕ) : Prop :=
  Is3 (V (Proc.devRef (τ := τ) .tc main_v38_0) : S8x2048x3.Idx → EReal) x
  ∧ Is2 (V (Proc.devRef (τ := τ) .tc main_v38_2) : S8x2048.Idx → EReal) (fun i => (fps (x i) k).1)
  ∧ (∀ i, (V (Proc.devRef (τ := τ) .tc main_v38_3) : S8.Idx → BitVec 32) (ix1 i) = BitVec.ofNat 32 (far (x i) k).val)
  ∧ Chosen (V (Proc.devRef (τ := τ) .tc main_v38_4) : S512x8.Idx → BitVec 32) (fun i => far (x i)) k

theorem Inv0.cond {x : Fin 8 → Fin 2048 → Fin 3 → ℝ} {k : ℕ} (h : Inv0 V x k) : Inv0 (StableHlo.after cond0 V) x k := by
  unfold Inv0
  rw [after_of_writes_sub cond0 V cond0_writes (r := main_v38_0) (by decide), after_of_writes_sub cond0 V cond0_writes (r := main_v38_2) (by decide),
    after_of_writes_sub cond0 V cond0_writes (r := main_v38_3) (by decide), after_of_writes_sub cond0 V cond0_writes (r := main_v38_4) (by decide)]
  exact h

theorem Inv0.body {x : Fin 8 → Fin 2048 → Fin 3 → ℝ} {k : ℕ} (hk : k < 512) (hc : V (Proc.devRef (τ := τ) .tc main_v38_1) = fun _ => BitVec.ofNat 32 k)
    (h : Inv0 V x k) : Inv0 (StableHlo.after body0 V) x (k + 1) := by
  obtain ⟨hx, hd, hf, ho⟩ := h
  have hd' := step0_dist V hx hd hf
  refine ⟨?_, hd', fun i => step0_far V hd' i, ho.step hf fun r i => step0_out V k hk hc r i⟩
  rw [after_of_writes_sub body0 V body0_writes (r := main_v38_0) (by decide)]
  exact hx

end

theorem iv_eq0 (k : ℕ) : Scf.iv 0#32 1#32 k = BitVec.ofNat 32 k := by
  simp [Scf.iv]

/-- After the loop every row of the indices is written. -/
theorem loop0 (W : Dev nD → Valuation τ sig (Elt Ideal)) (c : Dev nD) {x : Fin 8 → Fin 2048 → Fin 3 → ℝ}
    (h0 : ∀ c, W c (Proc.devRef .tc main_v38_1) = fun _ => (0#32 : BitVec 32)) (h : Inv0 (W c) x 0) :
    Inv0 ((L₀ (F := Ideal)).out W c) x 512 := by
  have key : ∀ k ≤ 512, Inv0 (atTrip cond0 [body0] W k c) x k := by
    intro k
    induction k with
    | zero => exact fun _ => h
    | succ k ih =>
      intro hk
      show Inv0 (StableHlo.after body0 (StableHlo.after cond0 (atTrip cond0 [body0] W k c))) x (k + 1)
      refine Inv0.body _ (by omega) ?_ (Inv0.cond _ (ih (by omega)))
      rw [ctr0_cond, ctr0 W h0 c k]
      funext _
      exact iv_eq0 k
  exact Inv0.cond _ (key 512 le_rfl)

/-! ## The second loop -/

section
variable (V : Valuation τ sig (Elt Ideal))

theorem step1_dist {x : Fin 8 → Fin 512 → Fin 3 → ℝ} {d : Fin 8 → Fin 512 → ℝ} {t : Fin 8 → Fin 512}
    (hx : Is3 (V (Proc.devRef (τ := τ) .tc main_v114_0) : S8x512x3.Idx → EReal) x)
    (hd : Is2 (V (Proc.devRef (τ := τ) .tc main_v114_2) : S8x512.Idx → EReal) d)
    (ht : ∀ i, (V (Proc.devRef (τ := τ) .tc main_v114_3) : S8.Idx → BitVec 32) (ix1 i) = BitVec.ofNat 32 (t i).val) :
    Is2 (StableHlo.after body1 V (Proc.devRef (τ := τ) .tc main_v114_2) : S8x512.Idx → EReal)
      (fun i n => min (d i n) (gap (x i n) (x i (t i)))) := by
  intro i n
  after_results
  rw [gather_rows_fun (d := gather_S8x512x3_S8x1x1_S8x1x3_2_1_0_0_1_2_113) (by decide) rfl (fun a _ => t a) (by norm_num) (hn := ?_)]
  · simp only [id_eq]
    pointwise
    simp only [hx i, hd i, ← EReal.coe_sub, ← EReal.coe_mul, coe_sum, coe_min]
    rfl
  · intro a s
    pointwise
    rw [ht]
    exact wrap_of_nonneg (by omega) _

theorem step1_far {d : Fin 8 → Fin 512 → ℝ}
    (hd : Is2 (StableHlo.after body1 V (Proc.devRef (τ := τ) .tc main_v114_2) : S8x512.Idx → EReal) d) (i : Fin 8) :
    (StableHlo.after body1 V (Proc.devRef (τ := τ) .tc main_v114_3) : S8.Idx → BitVec 32) (ix1 i) = BitVec.ofNat 32 (firstMax (d i)).val := by
  have e : StableHlo.after body1 V (Proc.devRef (τ := τ) .tc main_v114_3) = fun j => (Host.argReduce (F := Ideal) (φ := .f32) reducer_argmax_f32_i32
      (StableHlo.after body1 V (Proc.devRef (τ := τ) .tc main_v114_2) : S8x512.Idx → EReal) (iotaInDim S8x512 32 1) (constant (F := Ideal) S_ .f32 0xFF800000#32)
      (constantI S_ 32 0#32) reducesTo_S8x512_S8_d1 h_S_ j).2 := by
    after_results
    rfl
  rw [e]
  exact argmax_row _ _ _ _ _ _ (by norm_num) d hd (fun a n => by pointwise) (fun _ => ofBits_bot) i

theorem step1_out (k : ℕ) (hk : k < 128) (hc : V (Proc.devRef (τ := τ) .tc main_v114_1) = fun _ => BitVec.ofNat 32 k) (r : Fin 128) (i : Fin 8) :
    (StableHlo.after body1 V (Proc.devRef (τ := τ) .tc main_v114_4) : S128x8.Idx → BitVec 32) (ix2 r i)
      = if r.val = k then (V (Proc.devRef (τ := τ) .tc main_v114_3) : S8.Idx → BitVec 32) (ix1 i)
        else (V (Proc.devRef (τ := τ) .tc main_v114_4) : S128x8.Idx → BitVec 32) (ix2 r i) := by
  after_results_simp_entrywise
  simp only [id_eq]
  refine (update_row (R := 128) (B := 8) (V (Proc.devRef (τ := τ) .tc main_v114_4) : S128x8.Idx → BitVec 32)
    (broadcastInDim S1x8 ![1] bcast_S8_S1x8_1 (V (Proc.devRef (τ := τ) .tc main_v114_3) : S8.Idx → BitVec 32)) _ updateFits_S128x8_S1x8 k hk ?_ ?_ r i).trans ?_
  · show (V (Proc.devRef (τ := τ) .tc main_v114_1) (Shape.Idx.first h_S_) : BitVec 32).toInt = k
    rw [hc]
    exact toInt_ofNat (by omega)
  · rfl
  · split
    · show broadcastInDim S1x8 ![1] bcast_S8_S1x8_1 (V (Proc.devRef (τ := τ) .tc main_v114_3) : S8.Idx → BitVec 32) (ix2 0 i) = _
      pointwise
    · rfl

/-- The state before a trip: the points, `k` steps' distances and index, and `k` rows of indices. -/
def Inv1 (x : Fin 8 → Fin 512 → Fin 3 → ℝ) (k : ℕ) : Prop :=
  Is3 (V (Proc.devRef (τ := τ) .tc main_v114_0) : S8x512x3.Idx → EReal) x
  ∧ Is2 (V (Proc.devRef (τ := τ) .tc main_v114_2) : S8x512.Idx → EReal) (fun i => (fps (x i) k).1)
  ∧ (∀ i, (V (Proc.devRef (τ := τ) .tc main_v114_3) : S8.Idx → BitVec 32) (ix1 i) = BitVec.ofNat 32 (far (x i) k).val)
  ∧ Chosen (V (Proc.devRef (τ := τ) .tc main_v114_4) : S128x8.Idx → BitVec 32) (fun i => far (x i)) k

theorem Inv1.cond {x : Fin 8 → Fin 512 → Fin 3 → ℝ} {k : ℕ} (h : Inv1 V x k) : Inv1 (StableHlo.after cond1 V) x k := by
  unfold Inv1
  rw [after_of_writes_sub cond1 V cond1_writes (r := main_v114_0) (by decide), after_of_writes_sub cond1 V cond1_writes (r := main_v114_2) (by decide),
    after_of_writes_sub cond1 V cond1_writes (r := main_v114_3) (by decide), after_of_writes_sub cond1 V cond1_writes (r := main_v114_4) (by decide)]
  exact h

theorem Inv1.body {x : Fin 8 → Fin 512 → Fin 3 → ℝ} {k : ℕ} (hk : k < 128) (hc : V (Proc.devRef (τ := τ) .tc main_v114_1) = fun _ => BitVec.ofNat 32 k)
    (h : Inv1 V x k) : Inv1 (StableHlo.after body1 V) x (k + 1) := by
  obtain ⟨hx, hd, hf, ho⟩ := h
  have hd' := step1_dist V hx hd hf
  refine ⟨?_, hd', fun i => step1_far V hd' i, ho.step hf fun r i => step1_out V k hk hc r i⟩
  rw [after_of_writes_sub body1 V body1_writes (r := main_v114_0) (by decide)]
  exact hx

end

/-- After the loop every row of the indices is written. -/
theorem loop1 (W : Dev nD → Valuation τ sig (Elt Ideal)) (c : Dev nD) {x : Fin 8 → Fin 512 → Fin 3 → ℝ}
    (h0 : ∀ c, W c (Proc.devRef .tc main_v114_1) = fun _ => (0#32 : BitVec 32)) (h : Inv1 (W c) x 0) :
    Inv1 ((L₁ (F := Ideal)).out W c) x 128 := by
  have key : ∀ k ≤ 128, Inv1 (atTrip cond1 [body1] W k c) x k := by
    intro k
    induction k with
    | zero => exact fun _ => h
    | succ k ih =>
      intro hk
      show Inv1 (StableHlo.after body1 (StableHlo.after cond1 (atTrip cond1 [body1] W k c))) x (k + 1)
      refine Inv1.body _ (by omega) ?_ (Inv1.cond _ (ih (by omega)))
      rw [ctr1_cond, ctr1 W h0 c k]
      funext _
      exact iv_eq0 k
  exact Inv1.cond _ (key 128 le_rfl)

end Cert.Proof.Ref

end
-- ==== Proof.RefMid.lean ====
/-
  The reference's first level read as reals: the chosen points, their features, the distances and the nearest points, the
  linear map of each pair, its normalisation and the maximum over the neighbours.
-/
module

public import proofs.«01_k».proof.Proof.RefPre

@[expose] public section

set_option maxRecDepth 16384

noncomputable section

namespace Cert.Proof.Ref

open Idealize.ShloMosaic
open Cert.ReferenceIdeal Cert.ReferenceIdeal.Gen Cert.Proof.Spec Cert.Proof.Reals Cert.Proof.HostOps Cert.Proof.Select
open TcCoe StableHlo

variable (V : Valuation τ sig (Elt Ideal))

theorem mid0_idx {t : Fin 8 → Fin 512 → Fin 2048} (ht : ∀ s i, (V (Proc.devRef (τ := τ) .tc main_v38_4) : S512x8.Idx → BitVec 32) (ix2 s i) = BitVec.ofNat 32 (t i s).val)
    (i : Fin 8) (s : Fin 512) : (StableHlo.after mid0 V (Proc.devRef (τ := τ) .tc main_v39) : S8x512.Idx → BitVec 32) (ix2 i s) = BitVec.ofNat 32 (t i s).val := by
  after_results
  pointwise
  exact ht s i

theorem mid0_pts {x : Fin 8 → Fin 2048 → Fin 3 → ℝ} {t : Fin 8 → Fin 512 → Fin 2048}
    (hx : Is3 (V (Proc.devRef (τ := τ) .tc main_v5) : S8x2048x3.Idx → EReal) x)
    (ht : ∀ s i, (V (Proc.devRef (τ := τ) .tc main_v38_4) : S512x8.Idx → BitVec 32) (ix2 s i) = BitVec.ofNat 32 (t i s).val) :
    Is3 (StableHlo.after mid0 V (Proc.devRef (τ := τ) .tc main_v46) : S8x512x3.Idx → EReal) (fun i s j => x i (t i s) j) := by
  intro i s j
  after_results
  rw [gather_rows_fun (d := gather_S8x2048x3_S8x512x1_S8x512x3_2_1_0_0_1_2_113) (by decide) rfl t (by norm_num) (hn := ?_)]
  · exact hx i _ j
  · intro a s
    pointwise
    rw [ht]
    exact wrap_of_nonneg (by omega) _

theorem mid1_ctr {h : Fin 8 → Fin 2048 → Fin 128 → ℝ} {t : Fin 8 → Fin 512 → Fin 2048}
    (hh : Is3 (V (Proc.devRef (τ := τ) .tc main_v34) : S8x2048x128.Idx → EReal) h)
    (ht : ∀ i s, (V (Proc.devRef (τ := τ) .tc main_v39) : S8x512.Idx → BitVec 32) (ix2 i s) = BitVec.ofNat 32 (t i s).val) :
    Is3 (StableHlo.after mid1 V (Proc.devRef (τ := τ) .tc main_v53) : S8x512x128.Idx → EReal) (fun i s j => h i (t i s) j) := by
  intro i s j
  after_results
  rw [gather_rows_fun (d := gather_S8x2048x128_S8x512x1_S8x512x128_2_1_0_0_1_2_11128) (by decide) rfl t (by norm_num) (hn := ?_)]
  · exact hh i _ j
  · intro a s
    pointwise
    rw [ht]
    exact wrap_of_nonneg (by omega) _

theorem mid2_dist {x : Fin 8 → Fin 2048 → Fin 3 → ℝ} {p : Fin 8 → Fin 512 → Fin 3 → ℝ}
    (hx : Is3 (V (Proc.devRef (τ := τ) .tc main_v5) : S8x2048x3.Idx → EReal) x) (hp : Is3 (V (Proc.devRef (τ := τ) .tc main_v46) : S8x512x3.Idx → EReal) p) :
    Is3 (StableHlo.after mid2 V (Proc.devRef (τ := τ) .tc main_v66) : S8x512x2048.Idx → EReal) (fun i s n => sqdist (p i s) (x i n)) := by
  intro i s n
  after_results
  pointwise
  simp only [hx i, hp i, ofBits_two, ← EReal.coe_mul, coe_sum, ← EReal.coe_add, ← EReal.coe_sub]
  rfl

theorem mid3_rank {d : Fin 8 → Fin 512 → Fin 2048 → ℝ} (hd : Is3 (V (Proc.devRef (τ := τ) .tc main_v66) : S8x512x2048.Idx → EReal) d) (i : Fin 8) (s : Fin 512) (k : Fin 2048) :
    (StableHlo.after mid3 V (Proc.devRef (τ := τ) .tc main_v67) : S8x512x2048.Idx → BitVec 32) (ix3 i s k) = BitVec.ofNat 32 (near (d i s) k).val := by
  after_results
  refine (sort_near _ _ i s (d i s) (hd i s) k).trans ?_
  pointwise

theorem mid4_nbr {t : Fin 8 → Fin 512 → ℕ → Fin 2048}
    (ht : ∀ i s k, (V (Proc.devRef (τ := τ) .tc main_v67) : S8x512x2048.Idx → BitVec 32) (ix3 i s k) = BitVec.ofNat 32 (t i s k.val).val) (i : Fin 8) (s : Fin 512) (k : Fin 32) :
    (StableHlo.after mid4 V (Proc.devRef (τ := τ) .tc main_v68) : S8x512x32.Idx → BitVec 32) (ix3 i s k) = BitVec.ofNat 32 (t i s k.val).val := by
  after_results
  pointwise
  exact ht i s _

theorem mid5_pair {h : Fin 8 → Fin 2048 → Fin 128 → ℝ} {q : Fin 8 → Fin 512 → Fin 128 → ℝ} {t : Fin 8 → Fin 512 → Fin 32 → Fin 2048}
    (hh : Is3 (V (Proc.devRef (τ := τ) .tc main_v34) : S8x2048x128.Idx → EReal) h) (hq : Is3 (V (Proc.devRef (τ := τ) .tc main_v53) : S8x512x128.Idx → EReal) q)
    (ht : ∀ i s k, (V (Proc.devRef (τ := τ) .tc main_v68) : S8x512x32.Idx → BitVec 32) (ix3 i s k) = BitVec.ofNat 32 (t i s k).val) :
    Is4 (StableHlo.after mid5 V (Proc.devRef (τ := τ) .tc main_v81) : S8x512x32x256.Idx → EReal) (fun i s k c => pair (h i (t i s k)) (q i s) c) := by
  intro i s k c
  after_results
  rw [gather_groups_fun (d := gather_S8x2048x128_S8x512x32x1_S8x512x32x128_3_1_0_0_1_3_11128) (by decide) rfl t (by norm_num) (hn := ?_)]
  · pointwise
    unfold pair
    split
    · exact (congrArg₂ (· - ·) (hh i _ _) (hq i s _)).trans (EReal.coe_sub _ _).symm
    · exact hq i s _
  · intro a s k
    pointwise
    rw [ht]
    exact wrap_of_nonneg (by omega) _

theorem mid6_lin {y : Fin 8 → Fin 512 → Fin 32 → Fin 256 → ℝ} {w : Fin 128 → Fin 256 → ℝ}
    (hy : Is4 (V (Proc.devRef (τ := τ) .tc main_v81) : S8x512x32x256.Idx → EReal) y) (hw : Is2 (V (Proc.devRef (τ := τ) .tc main_arg5) : S128x256.Idx → EReal) w) :
    Is4 (StableHlo.after mid6 V (Proc.devRef (τ := τ) .tc main_v82) : S8x512x32x128.Idx → EReal) (fun i s k o => ∑ c, y i s k c * w o c) := by
  intro i s k o
  after_results
  pointwise
  simp only [hy i s k, hw o, ← EReal.coe_mul, coe_sum]

theorem mid7_norm {y : Fin 8 → Fin 512 → Fin 32 → Fin 128 → ℝ} {g b : Fin 128 → ℝ}
    (hy : Is4 (V (Proc.devRef (τ := τ) .tc main_v82) : S8x512x32x128.Idx → EReal) y)
    (hg : Is1 (V (Proc.devRef (τ := τ) .tc main_arg6) : S128.Idx → EReal) g) (hb : Is1 (V (Proc.devRef (τ := τ) .tc main_arg7) : S128.Idx → EReal) b) :
    Is4 (StableHlo.after mid7 V (Proc.devRef (τ := τ) .tc main_v107) : S8x512x32x128.Idx → EReal)
      (fun i s k o => bn (mean3 (fun i s k => y i s k o) (cnt 8 512 32)) (var3 (fun i s k => y i s k o) (cnt 8 512 32)) (g o) (b o) (y i s k o)) := by
  intro i s k o
  have hc : cnt 8 512 32 = 131072 := by unfold cnt; norm_num
  have hm : Ideal.div (∑ a, ∑ b, ∑ c, (y a b c o : EReal)) (Ideal.ofBits .f32 1207959552#32) = (mean3 (fun i s k => y i s k o) (cnt 8 512 32) : EReal) := by
    rw [hc]
    simp only [coe_sum, ofBits_131072]
    rw [div_coe _ (by norm_num)]
    rfl
  have hv : Ideal.div (∑ a, ∑ b, ∑ c, ((y a b c o : EReal) - (mean3 (fun i s k => y i s k o) (cnt 8 512 32) : EReal)) * ((y a b c o : EReal) - (mean3 (fun i s k => y i s k o) (cnt 8 512 32) : EReal))) (Ideal.ofBits .f32 1207959552#32)
      = (var3 (fun i s k => y i s k o) (cnt 8 512 32) : EReal) := by
    simp only [← EReal.coe_sub, ← EReal.coe_mul, coe_sum, ofBits_131072]
    rw [div_coe _ (by norm_num)]
    unfold var3
    rw [hc]
    rfl
  after_results
  pointwise
  simp only [sum_r4_a012]
  pointwise
  simp only [sum_r4_a012, zero_add]
  simp only [hy _, hg o, hb o, hm, hv, ofBits_eps]
  exact bn_coe0 (var3_nonneg _ (by rw [hc]; norm_num))

theorem mid8_most {y : Fin 8 → Fin 512 → Fin 32 → Fin 128 → ℝ} (hy : Is4 (V (Proc.devRef (τ := τ) .tc main_v107) : S8x512x32x128.Idx → EReal) y) :
    Is3 (StableHlo.after mid8 V (Proc.devRef (τ := τ) .tc main_v110) : S8x512x128.Idx → EReal) (fun i s o => most fun k => relu (y i s k o)) := by
  intro i s o
  after_results
  pointwise
  rw [ofBits_bot, ← fold_max]
  congr 1
  funext k
  rw [hy i s k o, ← EReal.coe_zero, coe_max]
  rfl

end Cert.Proof.Ref

end
-- ==== Proof.RefPost.lean ====
/-
  The reference's second level read as reals: the chosen points, their features, the distances and the nearest points, the
  linear map of each pair, its normalisation and the maximum over the neighbours.
-/
module

public import proofs.«01_k».proof.Proof.RefPre

@[expose] public section

set_option maxRecDepth 16384

noncomputable section

namespace Cert.Proof.Ref

open Idealize.ShloMosaic
open Cert.ReferenceIdeal Cert.ReferenceIdeal.Gen Cert.Proof.Spec Cert.Proof.Reals Cert.Proof.HostOps Cert.Proof.Select
open TcCoe StableHlo

variable (V : Valuation τ sig (Elt Ideal))

theorem post0_idx {t : Fin 8 → Fin 128 → Fin 512} (ht : ∀ s i, (V (Proc.devRef (τ := τ) .tc main_v114_4) : S128x8.Idx → BitVec 32) (ix2 s i) = BitVec.ofNat 32 (t i s).val)
    (i : Fin 8) (s : Fin 128) : (StableHlo.after post0 V (Proc.devRef (τ := τ) .tc main_v115) : S8x128.Idx → BitVec 32) (ix2 i s) = BitVec.ofNat 32 (t i s).val := by
  after_results
  pointwise
  exact ht s i

theorem post0_pts {x : Fin 8 → Fin 512 → Fin 3 → ℝ} {t : Fin 8 → Fin 128 → Fin 512}
    (hx : Is3 (V (Proc.devRef (τ := τ) .tc main_v46) : S8x512x3.Idx → EReal) x)
    (ht : ∀ s i, (V (Proc.devRef (τ := τ) .tc main_v114_4) : S128x8.Idx → BitVec 32) (ix2 s i) = BitVec.ofNat 32 (t i s).val) :
    Is3 (StableHlo.after post0 V (Proc.devRef (τ := τ) .tc main_v122) : S8x128x3.Idx → EReal) (fun i s j => x i (t i s) j) := by
  intro i s j
  after_results
  rw [gather_rows_fun (d := gather_S8x512x3_S8x128x1_S8x128x3_2_1_0_0_1_2_113) (by decide) rfl t (by norm_num) (hn := ?_)]
  · exact hx i _ j
  · intro a s
    pointwise
    rw [ht]
    exact wrap_of_nonneg (by omega) _

theorem post1_ctr {h : Fin 8 → Fin 512 → Fin 128 → ℝ} {t : Fin 8 → Fin 128 → Fin 512}
    (hh : Is3 (V (Proc.devRef (τ := τ) .tc main_v110) : S8x512x128.Idx → EReal) h)
    (ht : ∀ i s, (V (Proc.devRef (τ := τ) .tc main_v115) : S8x128.Idx → BitVec 32) (ix2 i s) = BitVec.ofNat 32 (t i s).val) :
    Is3 (StableHlo.after post1 V (Proc.devRef (τ := τ) .tc main_v129) : S8x128x128.Idx → EReal) (fun i s j => h i (t i s) j) := by
  intro i s j
  after_results
  rw [gather_rows_fun (d := gather_S8x512x128_S8x128x1_S8x128x128_2_1_0_0_1_2_11128) (by decide) rfl t (by norm_num) (hn := ?_)]
  · exact hh i _ j
  · intro a s
    pointwise
    rw [ht]
    exact wrap_of_nonneg (by omega) _

theorem post2_dist {x : Fin 8 → Fin 512 → Fin 3 → ℝ} {p : Fin 8 → Fin 128 → Fin 3 → ℝ}
    (hx : Is3 (V (Proc.devRef (τ := τ) .tc main_v46) : S8x512x3.Idx → EReal) x) (hp : Is3 (V (Proc.devRef (τ := τ) .tc main_v122) : S8x128x3.Idx → EReal) p) :
    Is3 (StableHlo.after post2 V (Proc.devRef (τ := τ) .tc main_v142) : S8x128x512.Idx → EReal) (fun i s n => sqdist (p i s) (x i n)) := by
  intro i s n
  after_results
  pointwise
  simp only [hx i, hp i, ofBits_two, ← EReal.coe_mul, coe_sum, ← EReal.coe_add, ← EReal.coe_sub]
  rfl

theorem post3_rank {d : Fin 8 → Fin 128 → Fin 512 → ℝ} (hd : Is3 (V (Proc.devRef (τ := τ) .tc main_v142) : S8x128x512.Idx → EReal) d) (i : Fin 8) (s : Fin 128) (k : Fin 512) :
    (StableHlo.after post3 V (Proc.devRef (τ := τ) .tc main_v143) : S8x128x512.Idx → BitVec 32) (ix3 i s k) = BitVec.ofNat 32 (near (d i s) k).val := by
  after_results
  refine (sort_near _ _ i s (d i s) (hd i s) k).trans ?_
  pointwise

theorem post4_nbr {t : Fin 8 → Fin 128 → ℕ → Fin 512}
    (ht : ∀ i s k, (V (Proc.devRef (τ := τ) .tc main_v143) : S8x128x512.Idx → BitVec 32) (ix3 i s k) = BitVec.ofNat 32 (t i s k.val).val) (i : Fin 8) (s : Fin 128) (k : Fin 16) :
    (StableHlo.after post4 V (Proc.devRef (τ := τ) .tc main_v144) : S8x128x16.Idx → BitVec 32) (ix3 i s k) = BitVec.ofNat 32 (t i s k.val).val := by
  after_results
  pointwise
  exact ht i s _

theorem post5_pair {h : Fin 8 → Fin 512 → Fin 128 → ℝ} {q : Fin 8 → Fin 128 → Fin 128 → ℝ} {t : Fin 8 → Fin 128 → Fin 16 → Fin 512}
    (hh : Is3 (V (Proc.devRef (τ := τ) .tc main_v110) : S8x512x128.Idx → EReal) h) (hq : Is3 (V (Proc.devRef (τ := τ) .tc main_v129) : S8x128x128.Idx → EReal) q)
    (ht : ∀ i s k, (V (Proc.devRef (τ := τ) .tc main_v144) : S8x128x16.Idx → BitVec 32) (ix3 i s k) = BitVec.ofNat 32 (t i s k).val) :
    Is4 (StableHlo.after post5 V (Proc.devRef (τ := τ) .tc main_v157) : S8x128x16x256.Idx → EReal) (fun i s k c => pair (h i (t i s k)) (q i s) c) := by
  intro i s k c
  after_results
  rw [gather_groups_fun (d := gather_S8x512x128_S8x128x16x1_S8x128x16x128_3_1_0_0_1_3_11128) (by decide) rfl t (by norm_num) (hn := ?_)]
  · pointwise
    unfold pair
    split
    · exact (congrArg₂ (· - ·) (hh i _ _) (hq i s _)).trans (EReal.coe_sub _ _).symm
    · exact hq i s _
  · intro a s k
    pointwise
    rw [ht]
    exact wrap_of_nonneg (by omega) _

theorem post6_lin {y : Fin 8 → Fin 128 → Fin 16 → Fin 256 → ℝ} {w : Fin 128 → Fin 256 → ℝ}
    (hy : Is4 (V (Proc.devRef (τ := τ) .tc main_v157) : S8x128x16x256.Idx → EReal) y) (hw : Is2 (V (Proc.devRef (τ := τ) .tc main_arg8) : S128x256.Idx → EReal) w) :
    Is4 (StableHlo.after post6 V (Proc.devRef (τ := τ) .tc main_v158) : S8x128x16x128.Idx → EReal) (fun i s k o => ∑ c, y i s k c * w o c) := by
  intro i s k o
  after_results
  pointwise
  simp only [hy i s k, hw o, ← EReal.coe_mul, coe_sum]

theorem post7_norm {y : Fin 8 → Fin 128 → Fin 16 → Fin 128 → ℝ} {g b : Fin 128 → EReal}
    (hy : Is4 (V (Proc.devRef (τ := τ) .tc main_v158) : S8x128x16x128.Idx → EReal) y)
    (hg : Ex1 (V (Proc.devRef (τ := τ) .tc main_arg9) : S128.Idx → EReal) g) (hb : Ex1 (V (Proc.devRef (τ := τ) .tc main_arg10) : S128.Idx → EReal) b) :
    Ex4 (StableHlo.after post7 V (Proc.devRef (τ := τ) .tc main_v183) : S8x128x16x128.Idx → EReal)
      (fun i s k o => ebn (mean3 (fun i s k => y i s k o) (cnt 8 128 16)) (var3 (fun i s k => y i s k o) (cnt 8 128 16)) (g o) (b o) (y i s k o)) := by
  intro i s k o
  have hc : cnt 8 128 16 = 16384 := by unfold cnt; norm_num
  have hm : Ideal.div (∑ a, ∑ b, ∑ c, (y a b c o : EReal)) (Ideal.ofBits .f32 1182793728#32) = (mean3 (fun i s k => y i s k o) (cnt 8 128 16) : EReal) := by
    rw [hc]
    simp only [coe_sum, ofBits_16384]
    rw [div_coe _ (by norm_num)]
    rfl
  have hv : Ideal.div (∑ a, ∑ b, ∑ c, ((y a b c o : EReal) - (mean3 (fun i s k => y i s k o) (cnt 8 128 16) : EReal)) * ((y a b c o : EReal) - (mean3 (fun i s k => y i s k o) (cnt 8 128 16) : EReal))) (Ideal.ofBits .f32 1182793728#32)
      = (var3 (fun i s k => y i s k o) (cnt 8 128 16) : EReal) := by
    simp only [← EReal.coe_sub, ← EReal.coe_mul, coe_sum, ofBits_16384]
    rw [div_coe _ (by norm_num)]
    unfold var3
    rw [hc]
    rfl
  after_results
  pointwise
  simp only [sum_r4_a012]
  pointwise
  simp only [sum_r4_a012, zero_add]
  simp only [hy _, hg o, hb o, hm, hv, ofBits_eps]
  exact ebn_coe0 (var3_nonneg _ (by rw [hc]; norm_num))

theorem post8_most {y : Fin 8 → Fin 128 → Fin 16 → Fin 128 → EReal} (hy : Ex4 (V (Proc.devRef (τ := τ) .tc main_v183) : S8x128x16x128.Idx → EReal) y) :
    Ex3 (StableHlo.after post8 V (Proc.devRef (τ := τ) .tc main_v186) : S8x128x128.Idx → EReal) (fun i s o => Finset.univ.fold max (⊥ : EReal) fun k => max (y i s k o) 0) := by
  intro i s o
  after_results
  pointwise
  rw [ofBits_bot]
  congr 1
  funext k
  rw [hy i s k o]

end Cert.Proof.Ref

end
-- ==== Proof.RefVal.lean ====
/-
  The reference's two results as real functions of its arguments.
-/
module

public import proofs.«01_k».proof.Proof.RefLoop
public import proofs.«01_k».proof.Proof.RefMid
public import proofs.«01_k».proof.Proof.RefPost

@[expose] public section

set_option maxRecDepth 16384

noncomputable section

namespace Cert.Proof

open Idealize.ShloMosaic
open Cert.Proof.Spec

theorem Ex1.of_eq {a : ℕ} {v v' : (⟨1, ![a]⟩ : Shape).Idx → EReal} {f : Fin a → EReal} (e : v' = v) (h : Ex1 v f) : Ex1 v' f := e ▸ h
theorem Is1.of_eq {a : ℕ} {v v' : (⟨1, ![a]⟩ : Shape).Idx → EReal} {f : Fin a → ℝ} (e : v' = v) (h : Is1 v f) : Is1 v' f := e ▸ h
theorem Is2.of_eq {a b : ℕ} {v v' : (⟨2, ![a, b]⟩ : Shape).Idx → EReal} {f : Fin a → Fin b → ℝ} (e : v' = v) (h : Is2 v f) : Is2 v' f := e ▸ h
theorem Is3.of_eq {a b c : ℕ} {v v' : (⟨3, ![a, b, c]⟩ : Shape).Idx → EReal} {f : Fin a → Fin b → Fin c → ℝ} (e : v' = v) (h : Is3 v f) : Is3 v' f := e ▸ h

/-- The arguments as reals, the last normalisation's factor and addend as extended reals. -/
structure Args where
  x : Fin 8 → Fin 2048 → Fin 3 → ℝ
  f : Fin 8 → Fin 2048 → Fin 3 → ℝ
  w : Fin 128 → Fin 6 → ℝ
  g : Fin 128 → ℝ
  b : Fin 128 → ℝ
  w0 : Fin 128 → Fin 256 → ℝ
  g0 : Fin 128 → ℝ
  b0 : Fin 128 → ℝ
  w1 : Fin 128 → Fin 256 → ℝ
  g1 : Fin 128 → EReal
  b1 : Fin 128 → EReal

namespace Args
variable (A : Args)

/-- The centred points and their first features, … -/
def pts0 : Fin 8 → Fin 2048 → Fin 3 → ℝ := centred A.x
def feat0 : Fin 8 → Fin 2048 → Fin 128 → ℝ := hid A.x A.f A.w A.g A.b
/-- … the points of the first level and their features, … -/
def pts1 : Fin 8 → Fin 512 → Fin 3 → ℝ := pts 512 A.pts0
def feat1 : Fin 8 → Fin 512 → Fin 128 → ℝ := feat 512 32 A.pts0 A.feat0 A.w0 A.g0 A.b0
/-- … and the features of the second. -/
def feat2 : Fin 8 → Fin 128 → Fin 128 → EReal := efeat 128 16 A.pts1 A.feat1 A.w1 A.g1 A.b1

end Args

namespace Ref

open Cert.ReferenceIdeal Cert.ReferenceIdeal.Gen Cert.Proof.Reals Cert.Proof.HostOps Cert.Proof.Select Cert.Proof.TwoLoops
open TcCoe StableHlo

/-- The argument buffers hold these reals. -/
structure Holds (V : Valuation τ sig (Elt Ideal)) (A : Args) : Prop where
  x : Is3 (V (Proc.devRef (τ := τ) .tc main_arg0) : S8x2048x3.Idx → EReal) A.x
  f : Is3 (V (Proc.devRef (τ := τ) .tc main_arg1) : S8x2048x3.Idx → EReal) A.f
  w : Is2 (V (Proc.devRef (τ := τ) .tc main_arg2) : S128x6.Idx → EReal) A.w
  g : Is1 (V (Proc.devRef (τ := τ) .tc main_arg3) : S128.Idx → EReal) A.g
  b : Is1 (V (Proc.devRef (τ := τ) .tc main_arg4) : S128.Idx → EReal) A.b
  w0 : Is2 (V (Proc.devRef (τ := τ) .tc main_arg5) : S128x256.Idx → EReal) A.w0
  g0 : Is1 (V (Proc.devRef (τ := τ) .tc main_arg6) : S128.Idx → EReal) A.g0
  b0 : Is1 (V (Proc.devRef (τ := τ) .tc main_arg7) : S128.Idx → EReal) A.b0
  w1 : Is2 (V (Proc.devRef (τ := τ) .tc main_arg8) : S128x256.Idx → EReal) A.w1
  g1 : Ex1 (V (Proc.devRef (τ := τ) .tc main_arg9) : S128.Idx → EReal) A.g1
  b1 : Ex1 (V (Proc.devRef (τ := τ) .tc main_arg10) : S128.Idx → EReal) A.b1

/-- Operations that leave the arguments leave what they hold. -/
theorem Holds.of_args {V W : Valuation τ sig (Elt Ideal)} {A : Args} (h : Holds V A)
    (e : ∀ a ∈ argRefs, W (Proc.devRef .tc a) = V (Proc.devRef .tc a)) : Holds W A where
  x := h.x.of_eq (e _ (by decide))
  f := h.f.of_eq (e _ (by decide))
  w := h.w.of_eq (e _ (by decide))
  g := h.g.of_eq (e _ (by decide))
  b := h.b.of_eq (e _ (by decide))
  w0 := h.w0.of_eq (e _ (by decide))
  g0 := h.g0.of_eq (e _ (by decide))
  b0 := h.b0.of_eq (e _ (by decide))
  w1 := h.w1.of_eq (e _ (by decide))
  g1 := h.g1.of_eq (e _ (by decide))
  b1 := h.b1.of_eq (e _ (by decide))

variable {V : Valuation τ sig (Elt Ideal)} {A : Args}

/-- A buffer a stretch does not write. -/
theorem kp {ops : List (HloOp τ sig (Elt Ideal))} {W : List (Ref sig .tc)} (hW : ops.Forall fun op => op.writes ⊆ (W.map (Proc.devRef (τ := τ) .tc)).toFinset)
    {V : Valuation τ sig (Elt Ideal)} {r : Ref sig .tc} (h : r ∉ W) : after ops V (Proc.devRef .tc r) = V (Proc.devRef .tc r) :=
  after_of_writes_sub ops V hW h

theorem Holds.pre0 (h : Holds V A) : Holds (after pre0 V) A := h.of_args fun a ha => keep_args pre0_writes (by decide) a ha V
theorem Holds.pre1 (h : Holds V A) : Holds (after pre1 V) A := h.of_args fun a ha => keep_args pre1_writes (by decide) a ha V

/-! ## Before the first loop -/

theorem pre_eq (V : Valuation τ sig (Elt Ideal)) : afterL preI V = after pre3 (after pre2 (after pre1 (after pre0 V))) := rfl
theorem mid_eq (V : Valuation τ sig (Elt Ideal)) :
    afterL midI V = after mid9 (after mid8 (after mid7 (after mid6 (after mid5 (after mid4 (after mid3 (after mid2 (after mid1 (after mid0 V))))))))) := rfl
theorem post_eq (V : Valuation τ sig (Elt Ideal)) :
    afterL postI V = after post8 (after post7 (after post6 (after post5 (after post4 (after post3 (after post2 (after post1 (after post0 V)))))))) := rfl

theorem pre_v2 (h : Holds V A) : Is2 (afterL preI V (Proc.devRef (τ := τ) .tc main_v2) : S8x3.Idx → EReal) (center A.x) := by
  rw [pre_eq]
  exact (pre0_v2 V h.x).of_eq ((kp pre3_writes (by decide)).trans ((kp pre2_writes (by decide)).trans (kp pre1_writes (by decide))))

theorem pre_v5 (h : Holds V A) : Is3 (afterL preI V (Proc.devRef (τ := τ) .tc main_v5) : S8x2048x3.Idx → EReal) A.pts0 := by
  rw [pre_eq]
  exact (pre0_v5 V h.x).of_eq ((kp pre3_writes (by decide)).trans ((kp pre2_writes (by decide)).trans (kp pre1_writes (by decide))))

theorem pre_v34 (h : Holds V A) : Is3 (afterL preI V (Proc.devRef (τ := τ) .tc main_v34) : S8x2048x128.Idx → EReal) A.feat0 := by
  rw [pre_eq]
  exact (pre2_v34 _ (pre1_v7 _ (pre0_v5 V h.x) h.pre0.f h.pre0.w) h.pre0.pre1.g h.pre0.pre1.b).of_eq (kp pre3_writes (by decide))

theorem pre_inv (h : Holds V A) : Inv0 (afterL preI V) A.pts0 0 := by
  have hv := pre_v5 h
  rw [pre_eq] at hv ⊢
  have e : Is3 (after pre2 (after pre1 (after pre0 V)) (Proc.devRef (τ := τ) .tc main_v5) : S8x2048x3.Idx → EReal) A.pts0 :=
    hv.of_eq (kp pre3_writes (by decide)).symm
  generalize after pre2 (after pre1 (after pre0 V)) = X at e
  refine ⟨?_, ?_, ?_, fun r i hr => absurd hr (Nat.not_lt_zero _)⟩
  · intro i n c
    after_results
    exact e i n c
  · intro i n
    after_results
    simp only [id_eq]
    pointwise
    exact ofBits_huge
  · intro i
    after_results
    simp only [id_eq]
    pointwise
    rfl

/-! ## The first loop -/

theorem out0_keep (W : Dev nD → Valuation τ sig (Elt Ideal)) (c : Dev nD) {r : Ref sig .tc} (hc : r ∉ cond0_W) (hb : r ∉ body0_W) :
    (L₀ (F := Ideal)).out W c (Proc.devRef .tc r) = W c (Proc.devRef .tc r) :=
  (kp cond0_writes hc).trans (atTrip_keep _ _ W c (fun _ => kp cond0_writes hc) (fun _ => kp body0_writes hb) _)
theorem out1_keep (W : Dev nD → Valuation τ sig (Elt Ideal)) (c : Dev nD) {r : Ref sig .tc} (hc : r ∉ cond1_W) (hb : r ∉ body1_W) :
    (L₁ (F := Ideal)).out W c (Proc.devRef .tc r) = W c (Proc.devRef .tc r) :=
  (kp cond1_writes hc).trans (atTrip_keep _ _ W c (fun _ => kp cond1_writes hc) (fun _ => kp body1_writes hb) _)

/-! ## The first level -/

section
variable {x : Fin 8 → Fin 2048 → Fin 3 → ℝ} {h : Fin 8 → Fin 2048 → Fin 128 → ℝ} {w : Fin 128 → Fin 256 → ℝ} {g b : Fin 128 → ℝ}

theorem midI_pts (hx : Is3 (V (Proc.devRef (τ := τ) .tc main_v5) : S8x2048x3.Idx → EReal) x)
    (ht : Chosen (V (Proc.devRef (τ := τ) .tc main_v38_4) : S512x8.Idx → BitVec 32) (fun i => far (x i)) 512) :
    Is3 (after mid0 V (Proc.devRef (τ := τ) .tc main_v46) : S8x512x3.Idx → EReal) (pts 512 x) :=
  mid0_pts V hx (t := fun i s => far (x i) s) fun s i => ht s i s.isLt

theorem midI_nbr (hx : Is3 (V (Proc.devRef (τ := τ) .tc main_v5) : S8x2048x3.Idx → EReal) x)
    (ht : Chosen (V (Proc.devRef (τ := τ) .tc main_v38_4) : S512x8.Idx → BitVec 32) (fun i => far (x i)) 512) (i : Fin 8) (s : Fin 512) (k : Fin 32) :
    (after mid4 (after mid3 (after mid2 (after mid1 (after mid0 V)))) (Proc.devRef (τ := τ) .tc main_v68) : S8x512x32.Idx → BitVec 32) (ix3 i s k)
      = BitVec.ofNat 32 (nbr (x i) s k).val :=
  mid4_nbr _ (t := fun i s k => nbr (x i) s k) (fun i s k => mid3_rank _ (mid2_dist _ (hx.of_eq ((kp mid1_writes (by decide)).trans (kp mid0_writes (by decide))))
    ((midI_pts hx ht).of_eq (kp mid1_writes (by decide)))) i s k) i s k

theorem midI_val (hx : Is3 (V (Proc.devRef (τ := τ) .tc main_v5) : S8x2048x3.Idx → EReal) x) (hh : Is3 (V (Proc.devRef (τ := τ) .tc main_v34) : S8x2048x128.Idx → EReal) h)
    (ht : Chosen (V (Proc.devRef (τ := τ) .tc main_v38_4) : S512x8.Idx → BitVec 32) (fun i => far (x i)) 512) (hw : Is2 (V (Proc.devRef (τ := τ) .tc main_arg5) : S128x256.Idx → EReal) w) :
    Is4 (after mid6 (after mid5 (after mid4 (after mid3 (after mid2 (after mid1 (after mid0 V)))))) (Proc.devRef (τ := τ) .tc main_v82) : S8x512x32x128.Idx → EReal) (val 512 32 x h w) := by
  have hctr : Is3 (after mid1 (after mid0 V) (Proc.devRef (τ := τ) .tc main_v53) : S8x512x128.Idx → EReal) (fun i s j => h i (far (x i) s) j) :=
    mid1_ctr _ (t := fun i s => far (x i) s) (hh.of_eq (kp mid0_writes (by decide))) fun i s => mid0_idx V (t := fun i s => far (x i) s) (fun s i => ht s i s.isLt) i s
  refine mid6_lin _ (mid5_pair _ (t := fun i s k => nbr (x i) s k) (hh.of_eq ?_) (hctr.of_eq ?_) fun i s k => midI_nbr hx ht i s k) (hw.of_eq ?_)
  · exact (kp mid4_writes (by decide)).trans ((kp mid3_writes (by decide)).trans ((kp mid2_writes (by decide)).trans ((kp mid1_writes (by decide)).trans (kp mid0_writes (by decide)))))
  · exact (kp mid4_writes (by decide)).trans ((kp mid3_writes (by decide)).trans (kp mid2_writes (by decide)))
  · exact (kp mid5_writes (by decide)).trans ((kp mid4_writes (by decide)).trans ((kp mid3_writes (by decide)).trans ((kp mid2_writes (by decide)).trans ((kp mid1_writes (by decide)).trans (kp mid0_writes (by decide))))))

theorem midI_feat (hx : Is3 (V (Proc.devRef (τ := τ) .tc main_v5) : S8x2048x3.Idx → EReal) x) (hh : Is3 (V (Proc.devRef (τ := τ) .tc main_v34) : S8x2048x128.Idx → EReal) h)
    (ht : Chosen (V (Proc.devRef (τ := τ) .tc main_v38_4) : S512x8.Idx → BitVec 32) (fun i => far (x i)) 512) (hw : Is2 (V (Proc.devRef (τ := τ) .tc main_arg5) : S128x256.Idx → EReal) w)
    (hg : Is1 (V (Proc.devRef (τ := τ) .tc main_arg6) : S128.Idx → EReal) g) (hb : Is1 (V (Proc.devRef (τ := τ) .tc main_arg7) : S128.Idx → EReal) b) :
    Is3 (after mid8 (after mid7 (after mid6 (after mid5 (after mid4 (after mid3 (after mid2 (after mid1 (after mid0 V)))))))) (Proc.devRef (τ := τ) .tc main_v110) : S8x512x128.Idx → EReal)
      (feat 512 32 x h w g b) := by
  refine mid8_most _ (mid7_norm _ (midI_val hx hh ht hw) (hg.of_eq ?_) (hb.of_eq ?_))
  · exact (kp mid6_writes (by decide)).trans ((kp mid5_writes (by decide)).trans ((kp mid4_writes (by decide)).trans ((kp mid3_writes (by decide)).trans ((kp mid2_writes (by decide)).trans ((kp mid1_writes (by decide)).trans (kp mid0_writes (by decide)))))))
  · exact (kp mid6_writes (by decide)).trans ((kp mid5_writes (by decide)).trans ((kp mid4_writes (by decide)).trans ((kp mid3_writes (by decide)).trans ((kp mid2_writes (by decide)).trans ((kp mid1_writes (by decide)).trans (kp mid0_writes (by decide)))))))

end

/-! ## The second level -/

section
variable {x : Fin 8 → Fin 512 → Fin 3 → ℝ} {h : Fin 8 → Fin 512 → Fin 128 → ℝ} {w : Fin 128 → Fin 256 → ℝ} {g b : Fin 128 → ℝ}

theorem postI_pts (hx : Is3 (V (Proc.devRef (τ := τ) .tc main_v46) : S8x512x3.Idx → EReal) x)
    (ht : Chosen (V (Proc.devRef (τ := τ) .tc main_v114_4) : S128x8.Idx → BitVec 32) (fun i => far (x i)) 128) :
    Is3 (after post0 V (Proc.devRef (τ := τ) .tc main_v122) : S8x128x3.Idx → EReal) (pts 128 x) :=
  post0_pts V hx (t := fun i s => far (x i) s) fun s i => ht s i s.isLt

theorem postI_nbr (hx : Is3 (V (Proc.devRef (τ := τ) .tc main_v46) : S8x512x3.Idx → EReal) x)
    (ht : Chosen (V (Proc.devRef (τ := τ) .tc main_v114_4) : S128x8.Idx → BitVec 32) (fun i => far (x i)) 128) (i : Fin 8) (s : Fin 128) (k : Fin 16) :
    (after post4 (after post3 (after post2 (after post1 (after post0 V)))) (Proc.devRef (τ := τ) .tc main_v144) : S8x128x16.Idx → BitVec 32) (ix3 i s k)
      = BitVec.ofNat 32 (nbr (x i) s k).val :=
  post4_nbr _ (t := fun i s k => nbr (x i) s k) (fun i s k => post3_rank _ (post2_dist _ (hx.of_eq ((kp post1_writes (by decide)).trans (kp post0_writes (by decide))))
    ((postI_pts hx ht).of_eq (kp post1_writes (by decide)))) i s k) i s k

theorem postI_val (hx : Is3 (V (Proc.devRef (τ := τ) .tc main_v46) : S8x512x3.Idx → EReal) x) (hh : Is3 (V (Proc.devRef (τ := τ) .tc main_v110) : S8x512x128.Idx → EReal) h)
    (ht : Chosen (V (Proc.devRef (τ := τ) .tc main_v114_4) : S128x8.Idx → BitVec 32) (fun i => far (x i)) 128) (hw : Is2 (V (Proc.devRef (τ := τ) .tc main_arg8) : S128x256.Idx → EReal) w) :
    Is4 (after post6 (after post5 (after post4 (after post3 (after post2 (after post1 (after post0 V)))))) (Proc.devRef (τ := τ) .tc main_v158) : S8x128x16x128.Idx → EReal) (val 128 16 x h w) := by
  have hctr : Is3 (after post1 (after post0 V) (Proc.devRef (τ := τ) .tc main_v129) : S8x128x128.Idx → EReal) (fun i s j => h i (far (x i) s) j) :=
    post1_ctr _ (t := fun i s => far (x i) s) (hh.of_eq (kp post0_writes (by decide))) fun i s => post0_idx V (t := fun i s => far (x i) s) (fun s i => ht s i s.isLt) i s
  refine post6_lin _ (post5_pair _ (t := fun i s k => nbr (x i) s k) (hh.of_eq ?_) (hctr.of_eq ?_) fun i s k => postI_nbr hx ht i s k) (hw.of_eq ?_)
  · exact (kp post4_writes (by decide)).trans ((kp post3_writes (by decide)).trans ((kp post2_writes (by decide)).trans ((kp post1_writes (by decide)).trans (kp post0_writes (by decide)))))
  · exact (kp post4_writes (by decide)).trans ((kp post3_writes (by decide)).trans (kp post2_writes (by decide)))
  · exact (kp post5_writes (by decide)).trans ((kp post4_writes (by decide)).trans ((kp post3_writes (by decide)).trans ((kp post2_writes (by decide)).trans ((kp post1_writes (by decide)).trans (kp post0_writes (by decide))))))

theorem postI_feat {g b : Fin 128 → EReal} (hx : Is3 (V (Proc.devRef (τ := τ) .tc main_v46) : S8x512x3.Idx → EReal) x) (hh : Is3 (V (Proc.devRef (τ := τ) .tc main_v110) : S8x512x128.Idx → EReal) h)
    (ht : Chosen (V (Proc.devRef (τ := τ) .tc main_v114_4) : S128x8.Idx → BitVec 32) (fun i => far (x i)) 128) (hw : Is2 (V (Proc.devRef (τ := τ) .tc main_arg8) : S128x256.Idx → EReal) w)
    (hg : Ex1 (V (Proc.devRef (τ := τ) .tc main_arg9) : S128.Idx → EReal) g) (hb : Ex1 (V (Proc.devRef (τ := τ) .tc main_arg10) : S128.Idx → EReal) b) :
    Ex3 (after post8 (after post7 (after post6 (after post5 (after post4 (after post3 (after post2 (after post1 (after post0 V)))))))) (Proc.devRef (τ := τ) .tc main_v186) : S8x128x128.Idx → EReal)
      (efeat 128 16 x h w g b) := by
  refine post8_most _ (post7_norm _ (postI_val hx hh ht hw) (hg.of_eq ?_) (hb.of_eq ?_))
  · exact (kp post6_writes (by decide)).trans ((kp post5_writes (by decide)).trans ((kp post4_writes (by decide)).trans ((kp post3_writes (by decide)).trans ((kp post2_writes (by decide)).trans ((kp post1_writes (by decide)).trans (kp post0_writes (by decide)))))))
  · exact (kp post6_writes (by decide)).trans ((kp post5_writes (by decide)).trans ((kp post4_writes (by decide)).trans ((kp post3_writes (by decide)).trans ((kp post2_writes (by decide)).trans ((kp post1_writes (by decide)).trans (kp post0_writes (by decide)))))))

end

/-! ## Between the levels -/

theorem mid_inv {x : Fin 8 → Fin 512 → Fin 3 → ℝ} (hx : Is3 (V (Proc.devRef (τ := τ) .tc main_v46) : S8x512x3.Idx → EReal) x) : Inv1 (after mid9 V) x 0 := by
  refine ⟨?_, ?_, ?_, fun r i hr => absurd hr (Nat.not_lt_zero _)⟩
  · intro i n c
    after_results
    exact hx i n c
  · intro i n
    after_results
    simp only [id_eq]
    pointwise
    exact ofBits_huge
  · intro i
    after_results
    simp only [id_eq]
    pointwise
    rfl

/-- What the second level starts from. -/
theorem mid_pts {x : Fin 8 → Fin 2048 → Fin 3 → ℝ} (hx : Is3 (V (Proc.devRef (τ := τ) .tc main_v5) : S8x2048x3.Idx → EReal) x)
    (ht : Chosen (V (Proc.devRef (τ := τ) .tc main_v38_4) : S512x8.Idx → BitVec 32) (fun i => far (x i)) 512) :
    Is3 (after mid8 (after mid7 (after mid6 (after mid5 (after mid4 (after mid3 (after mid2 (after mid1 (after mid0 V)))))))) (Proc.devRef (τ := τ) .tc main_v46) : S8x512x3.Idx → EReal)
      (pts 512 x) :=
  (midI_pts hx ht).of_eq ((kp mid8_writes (by decide)).trans ((kp mid7_writes (by decide)).trans ((kp mid6_writes (by decide)).trans ((kp mid5_writes (by decide)).trans
    ((kp mid4_writes (by decide)).trans ((kp mid3_writes (by decide)).trans ((kp mid2_writes (by decide)).trans (kp mid1_writes (by decide)))))))))

/-! ## The results -/

section
variable (m : (ℓ : Loc nD τ sig) → Buf (Elt Ideal) ℓ) (c : Dev nD)

theorem in_eq : in₁ (L₀ (F := Ideal)) preI midI m c
    = after mid9 (after mid8 (after mid7 (after mid6 (after mid5 (after mid4 (after mid3 (after mid2 (after mid1 (after mid0 ((L₀ (F := Ideal)).out (in₀ preI m) c)))))))))) :=
  mid_eq _
theorem fin_eq : fin (L₀ (F := Ideal)) L₁ preI midI postI m c
    = after post8 (after post7 (after post6 (after post5 (after post4 (after post3 (after post2 (after post1 (after post0 ((L₁ (F := Ideal)).out (in₁ L₀ preI midI m) c))))))))) :=
  post_eq _

theorem fin_v2 (h : Holds (launchContents m c) A) :
    Is2 (fin (L₀ (F := Ideal)) L₁ preI midI postI m c (Proc.devRef (τ := τ) .tc main_v2) : S8x3.Idx → EReal) (center A.x) := by
  refine (pre_v2 h).of_eq ?_
  have e2 : ∀ X : Valuation τ sig (Elt Ideal), afterL postI X (Proc.devRef .tc main_v2) = X (Proc.devRef .tc main_v2) := fun X => (congrFun (post_eq X) _).trans
    ((kp post8_writes (by decide)).trans ((kp post7_writes (by decide)).trans ((kp post6_writes (by decide)).trans ((kp post5_writes (by decide)).trans
      ((kp post4_writes (by decide)).trans ((kp post3_writes (by decide)).trans ((kp post2_writes (by decide)).trans ((kp post1_writes (by decide)).trans (kp post0_writes (by decide))))))))))
  have e1 : ∀ X : Valuation τ sig (Elt Ideal), afterL midI X (Proc.devRef .tc main_v2) = X (Proc.devRef .tc main_v2) := fun X => (congrFun (mid_eq X) _).trans
    ((kp mid9_writes (by decide)).trans ((kp mid8_writes (by decide)).trans ((kp mid7_writes (by decide)).trans ((kp mid6_writes (by decide)).trans ((kp mid5_writes (by decide)).trans
      ((kp mid4_writes (by decide)).trans ((kp mid3_writes (by decide)).trans ((kp mid2_writes (by decide)).trans ((kp mid1_writes (by decide)).trans (kp mid0_writes (by decide)))))))))))
  exact (e2 _).trans ((out1_keep _ c (by decide) (by decide)).trans ((e1 _).trans (out0_keep _ c (by decide) (by decide))))

theorem fin_v186 (h : Holds (launchContents m c) A) :
    Ex3 (fin (L₀ (F := Ideal)) L₁ preI midI postI m c (Proc.devRef (τ := τ) .tc main_v186) : S8x128x128.Idx → EReal) A.feat2 := by
  have i0 : Inv0 ((L₀ (F := Ideal)).out (in₀ preI m) c) A.pts0 512 := loop0 (in₀ preI m) c (fun c => start₀ _) (pre_inv h)
  have x0 : Is3 ((L₀ (F := Ideal)).out (in₀ preI m) c (Proc.devRef (τ := τ) .tc main_v5) : S8x2048x3.Idx → EReal) A.pts0 :=
    (pre_v5 h).of_eq (out0_keep _ c (by decide) (by decide))
  have h0 : Is3 ((L₀ (F := Ideal)).out (in₀ preI m) c (Proc.devRef (τ := τ) .tc main_v34) : S8x2048x128.Idx → EReal) A.feat0 :=
    (pre_v34 h).of_eq (out0_keep _ c (by decide) (by decide))
  have A0 : Holds ((L₀ (F := Ideal)).out (in₀ preI m) c) A := h.of_args fun a ha => (out₀_args _ c a ha).trans (in₀_args m c a ha)
  have A1 : Holds ((L₁ (F := Ideal)).out (in₁ L₀ preI midI m) c) A := h.of_args fun a ha => (out₁_args _ c a ha).trans (in₁_args m c a ha)
  have x1 : Is3 (in₁ (L₀ (F := Ideal)) preI midI m c (Proc.devRef (τ := τ) .tc main_v46) : S8x512x3.Idx → EReal) A.pts1 := by
    rw [in_eq]
    exact (mid_pts x0 i0.2.2.2).of_eq (kp mid9_writes (by decide))
  have h1 : Is3 (in₁ (L₀ (F := Ideal)) preI midI m c (Proc.devRef (τ := τ) .tc main_v110) : S8x512x128.Idx → EReal) A.feat1 := by
    rw [in_eq]
    exact (midI_feat x0 h0 i0.2.2.2 A0.w0 A0.g0 A0.b0).of_eq (kp mid9_writes (by decide))
  have i1 : Inv1 ((L₁ (F := Ideal)).out (in₁ L₀ preI midI m) c) A.pts1 128 :=
    loop1 (in₁ L₀ preI midI m) c (fun c => start₁ _) (by
      rw [in_eq]
      exact mid_inv (mid_pts x0 i0.2.2.2))
  rw [fin_eq]
  exact postI_feat (x1.of_eq (out1_keep _ c (by decide) (by decide))) (h1.of_eq (out1_keep _ c (by decide) (by decide))) i1.2.2.2 A1.w1 A1.g1 A1.b1

end

end Ref

end Cert.Proof

end
-- ==== Proof.Pre.lean ====
/-
  The precondition read back: the arguments are reals, the two levels' factors not negative.
-/
module

public import proofs.«01_k».proof.Pre_finite_inputs
public import proofs.«01_k».proof.Proof.RefVal
public import Idealize.ShloMosaic.Lib.ReduceAll

@[expose] public section

set_option maxRecDepth 16384

noncomputable section

namespace Cert.Proof

open Idealize.ShloMosaic
open Cert.Pre_finite_inputs Cert.Pre_finite_inputs.Facts Cert.Proof.Reals Cert.Proof.Spec

/-- The precondition's shape relations hold. -/
theorem preFacts : Cert.Pre_finite_inputs.Facts where
  bcast_S_S8x2048x3 := by decide
  reducesTo_S8x2048x3_S_d0_1_2 := by decide
  h_S_ := by decide
  bcast_S_S128x6 := by decide
  reducesTo_S128x6_S_d0_1 := by decide
  bcast_S_S128 := by decide
  reducesTo_S128_S_d0 := by decide
  bcast_S_S128x256 := by decide
  reducesTo_S128x256_S_d0_1 := by decide

namespace Pre

/-- An extended real of finite magnitude is a real. -/
theorem real_of_lt {y : EReal} (h : max y (-y) < ⊤) : ∃ r : ℝ, y = (r : EReal) := by
  induction y using EReal.rec with
  | bot => simp at h
  | coe r => exact ⟨r, rfl⟩
  | top => simp at h

theorem ofBool_one {b : Bool} (h : BitVec.ofBool b = 1#1) : b = true := by revert h; cases b <;> decide

theorem finite_at {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .olt (Host.absf x) (broadcastInDim s ![] hb (constant (F := Ideal) S_ .f32 0x7F800000#32))) (constantI S_ 1 1#1) hr hu ix0 = 1#1)
    (i : s.Idx) : ∃ r : ℝ, (x i : EReal) = (r : EReal) := by
  have e : BitVec.ofBool (decide (max (x i : EReal) (-(x i : EReal)) < Ideal.ofBits .f32 0x7F800000#32)) = 1#1 := Host.reduce_andi_all _ _ _ _ _ h i
  rw [ofBits_top] at e
  exact real_of_lt (of_decide_eq_true (ofBool_one e))

theorem nonneg_at {s : Shape} {axes : List (Fin s.rank)} (x : FVec Ideal s .f32) (hb : S_.BroadcastsInDim s (![] : Fin 0 → Fin s.rank)) (hr : s.ReducesTo axes S_) (hu : 0 < S_.numel)
    (h : Host.reduce IntOp.andi (cmpf .oge x (broadcastInDim s ![] hb (constant (F := Ideal) S_ .f32 0x00000000#32))) (constantI S_ 1 1#1) hr hu ix0 = 1#1)
    (i : s.Idx) : (0 : EReal) ≤ x i := by
  have e : BitVec.ofBool (decide ((x i : EReal) ≥ Ideal.ofBits .f32 0x00000000#32)) = 1#1 := Host.reduce_andi_all _ _ _ _ _ h i
  have z : Ideal.ofBits .f32 0x00000000#32 = (0 : EReal) := by simp [Ideal.ofBits, Ideal.ieee]
  rw [z] at e
  exact of_decide_eq_true (ofBool_one e)

theorem and_at {x y : IVec S_ 1} (h : andi x y ix0 = 1#1) : x ix0 = 1#1 ∧ y ix0 = 1#1 := IntOp.andi_eq_one.1 h

theorem real1 {a : ℕ} {v : (⟨1, ![a]⟩ : Shape).Idx → EReal} (h : ∀ i, ∃ r : ℝ, v i = (r : EReal)) : ∃ f, Is1 v f :=
  ⟨fun i => (h (ix1 i)).choose, fun i => (h (ix1 i)).choose_spec⟩
theorem real2 {a b : ℕ} {v : (⟨2, ![a, b]⟩ : Shape).Idx → EReal} (h : ∀ i, ∃ r : ℝ, v i = (r : EReal)) : ∃ f, Is2 v f :=
  ⟨fun i j => (h (ix2 i j)).choose, fun i j => (h (ix2 i j)).choose_spec⟩
theorem real3 {a b c : ℕ} {v : (⟨3, ![a, b, c]⟩ : Shape).Idx → EReal} (h : ∀ i, ∃ r : ℝ, v i = (r : EReal)) : ∃ f, Is3 v f :=
  ⟨fun i j k => (h (ix3 i j k)).choose, fun i j k => (h (ix3 i j k)).choose_spec⟩

/-- Eleven arrays hold these values, the factors of both levels not negative. -/
structure Reads (A : Args) (a0 a1 : S8x2048x3.Idx → EReal) (a2 : S128x6.Idx → EReal) (a3 a4 : S128.Idx → EReal) (a5 : S128x256.Idx → EReal) (a6 a7 : S128.Idx → EReal)
    (a8 : S128x256.Idx → EReal) (a9 a10 : S128.Idx → EReal) : Prop where
  x : Is3 a0 A.x
  f : Is3 a1 A.f
  w : Is2 a2 A.w
  g : Is1 a3 A.g
  b : Is1 a4 A.b
  w0 : Is2 a5 A.w0
  g0 : Is1 a6 A.g0
  b0 : Is1 a7 A.b0
  w1 : Is2 a8 A.w1
  g1 : Ex1 a9 A.g1
  b1 : Ex1 a10 A.b1
  p0 : ∀ o, 0 ≤ A.g0 o
  p1 : ∀ o, 0 ≤ A.g1 o

variable [Facts]

/-- Arrays that satisfy the precondition are arrays of reals, the last normalisation's two aside. -/
theorem decode (a0 a1 : FVec Ideal S8x2048x3 .f32) (a2 : FVec Ideal S128x6 .f32) (a3 a4 : FVec Ideal S128 .f32) (a5 : FVec Ideal S128x256 .f32) (a6 a7 : FVec Ideal S128 .f32)
    (a8 : FVec Ideal S128x256 .f32) (a9 a10 : FVec Ideal S128 .f32) (h : fn (F := Ideal) a0 a1 a2 a3 a4 a5 a6 a7 a8 a9 a10 ix0 = 1#1) :
    ∃ A : Args, Reads A a0 a1 a2 a3 a4 a5 a6 a7 a8 a9 a10 := by
  unfold fn fn_part1 fn_part2 fn_part3 at h
  dsimp only at h
  obtain ⟨h, p1⟩ := and_at h
  obtain ⟨h, p0⟩ := and_at h
  obtain ⟨h, h8⟩ := and_at h
  obtain ⟨h, h7⟩ := and_at h
  obtain ⟨h, h6⟩ := and_at h
  obtain ⟨h, h5⟩ := and_at h
  obtain ⟨h, h4⟩ := and_at h
  obtain ⟨h, h3⟩ := and_at h
  obtain ⟨h, h2⟩ := and_at h
  obtain ⟨h0, h1⟩ := and_at h
  obtain ⟨x, hx⟩ := real3 (finite_at a0 _ _ _ h0)
  obtain ⟨f, hf⟩ := real3 (finite_at a1 _ _ _ h1)
  obtain ⟨w, hw⟩ := real2 (finite_at a2 _ _ _ h2)
  obtain ⟨g, hg⟩ := real1 (finite_at a3 _ _ _ h3)
  obtain ⟨b, hb⟩ := real1 (finite_at a4 _ _ _ h4)
  obtain ⟨w0, hw0⟩ := real2 (finite_at a5 _ _ _ h5)
  obtain ⟨g0, hg0⟩ := real1 (finite_at a6 _ _ _ h6)
  obtain ⟨b0, hb0⟩ := real1 (finite_at a7 _ _ _ h7)
  obtain ⟨w1, hw1⟩ := real2 (finite_at a8 _ _ _ h8)
  refine ⟨⟨x, f, w, g, b, w0, g0, b0, w1, fun o => a9 (ix1 o), fun o => a10 (ix1 o)⟩, hx, hf, hw, hg, hb, hw0, hg0, hb0, hw1, fun _ => rfl, fun _ => rfl, fun o => ?_, fun o => ?_⟩
  · have e := nonneg_at a6 _ _ _ p0 (ix1 o)
    rw [hg0 o] at e
    exact EReal.coe_nonneg.1 e
  · exact nonneg_at a9 _ _ _ p1 (ix1 o)

end Pre

end Cert.Proof

end
-- ==== Proof.KerRun.lean ====
/-
  The idealised kernel's run, with its two results: each ends at what the chain of stretches and kernels computes.
-/
module

public import proofs.«01_k».proof.Proof.Gen.KernelIdeal.Frame

@[expose] public section

set_option maxRecDepth 16384

noncomputable section

namespace Cert.Proof.Ker

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F] [Named F] [∀ e, Nonempty (Elt F e)]

/-- The kits' resource algebra. -/
local notation "𝕄" => MT nD τ sig Unit (Elt F) ℕ (UR sig nD τ) ℕ

set_option backward.isDefEq.respectTransparency.types false in
/-- Every buffer outside the kernels ends at its value in the last valuation of the chain. -/
theorem run (m : (ℓ : Loc nD τ sig) → Buf (Elt F) ℓ) (ρ : Dev nD → PrngReg) :
    θ_run defs (onTc (τ := τ) (main (F := F))) ⟨m, fun _ => 0, ρ⟩
      (fun r => (∀ c : Dev nD, ∀ b ∈ Pipeline.ucRefs τ sig, r.2.mem (((c : Thread nD τ)).1, b) = W12 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h hz => ⟨h, funext fun g => hz g (.inr (no_unscoped g.2))⟩)

end Cert.Proof.Ker

end
-- ==== Proof.Lanes.lean ====
/-
  Words that number the lanes of a row: a lane picked by its number, the first lane with a property, and the maximum
  and minimum of a row.
-/
module

public import proofs.«01_k».proof.Proof.Reals
public import Idealize.ShloMosaic.Lib.SortNet.Extract

@[expose] public section

noncomputable section

namespace Cert.Proof.Lanes

open Idealize.ShloMosaic Cert.Proof.Select Cert.Proof.Spec Cert.Proof.Reals
open scoped BigOperators

/-- The lane's number as a word. -/
abbrev word {N : ℕ} (n : Fin N) : BitVec 32 := BitVec.ofNat 32 n.val

section
variable {N : ℕ}

theorem word_toInt (hN : N ≤ 2048) (n : Fin N) : (word n).toInt = (n.val : ℤ) := by
  have := n.isLt
  unfold word
  rw [BitVec.toInt_eq_toNat_of_lt (by rw [BitVec.toNat_ofNat]; omega), BitVec.toNat_ofNat]
  norm_cast
  exact Nat.mod_eq_of_lt (by omega)

theorem word_inj (hN : N ≤ 2048) {a b : Fin N} (h : word a = word b) : a = b := by
  have := congrArg BitVec.toInt h
  rw [word_toInt hN, word_toInt hN] at this
  exact Fin.ext (by exact_mod_cast this)

/-- Comparing two numbers for equality. -/
theorem cmpi_word (hN : N ≤ 2048) (a b : Fin N) : IntOp.cmpi .eq (word a) (word b) = BitVec.ofBool (decide (a = b)) := by
  by_cases h : a = b
  · subst h; simp [IntOp.cmpi]
  · have : word a ≠ word b := fun e => h (word_inj hN e)
    rw [decide_eq_false h]
    show BitVec.ofBool (word a == word b) = _
    rw [beq_eq_false_iff_ne.2 this]

theorem select_ofBool {α : Type} (p : Prop) [Decidable p] (x y : α) : Scalar.select (BitVec.ofBool (decide p)) x y = if p then x else y := by
  by_cases h : p <;> simp [Scalar.select, h]

/-- A lane picked by its number out of a masked sum. -/
theorem pick (hN : N ≤ 2048) (v : Fin N → EReal) (t : Fin N) :
    ∑ x : Fin N, Scalar.select (IntOp.cmpi .eq (BitVec.ofNat 32 x.val) (word t)) (v x) 0 = v t := by
  rw [Finset.sum_eq_single t]
  · rw [cmpi_word hN, select_ofBool, if_pos rfl]
  · intro b _ hb
    rw [cmpi_word hN, select_ofBool, if_neg hb]
  · simp

/-- A truth value as a number. -/
theorem flag (p : Prop) [Decidable p] : FloatOps.sitofp (F := Ideal) FTy.f32 (BitVec.setWidth 32 (BitVec.ofBool (decide p))) = if p then 1 else 0 := by
  show ((((BitVec.setWidth 32 (BitVec.ofBool (decide p))).toInt : ℝ)) : EReal) = _
  by_cases h : p <;> simp [h]

/-- A row picked by a one-hot row of numbers. -/
theorem pick_flag (v : Fin N → EReal) (t : Fin N) :
    ∑ x : Fin N, FloatOps.sitofp (F := Ideal) FTy.f32 (BitVec.setWidth 32 (BitVec.ofBool (decide (x = t)))) * v x = v t := by
  rw [Finset.sum_eq_single t]
  · rw [flag, if_pos rfl, one_mul]
  · intro b _ hb
    rw [flag, if_neg hb, zero_mul]
  · simp

theorem pick_hot (hN : N ≤ 2048) (v : Fin N → EReal) (t : Fin N) :
    ∑ x : Fin N, FloatOps.sitofp (F := Ideal) FTy.f32 (BitVec.setWidth 32 (IntOp.cmpi .eq (BitVec.ofNat 32 x.val) (word t))) * v x = v t := by
  have e := fun x : Fin N => cmpi_word hN x t
  simp only [e]
  exact pick_flag v t

/-- The least of the numbers of the lanes with a property, others counting as `M`, is the first such lane. -/
theorem first (hN : N ≤ 2048) {M : BitVec 32} (hM : (N : ℤ) ≤ M.toInt) (p : Fin N → Prop) [DecidablePred p] (t : Fin N) (ht : p t)
    (hlt : ∀ x < t, ¬ p x) :
    Finset.univ.fold IntOp.minsi 2147483647#32 (fun x : Fin N => if p x then BitVec.ofNat 32 x.val else M) = word t := by
  apply BitVec.eq_of_toInt_eq
  rw [word_toInt hN, ← Finset.fold_hom (op' := min) (m := BitVec.toInt) (fun x y => SortNet.toInt_minsi x y)]
  have htN := t.isLt
  apply le_antisymm
  · rw [Finset.fold_min_le]
    refine .inr ⟨t, Finset.mem_univ _, ?_⟩
    rw [if_pos ht]
    exact (word_toInt hN t).le
  · rw [Finset.le_fold_min]
    refine ⟨?_, fun x _ => ?_⟩
    · have : (2147483647#32 : BitVec 32).toInt = 2147483647 := by decide
      omega
    · by_cases hx : p x
      · rw [if_pos hx]
        refine le_of_le_of_eq ?_ (word_toInt hN x).symm
        exact_mod_cast not_lt.1 fun h => hlt x h hx
      · rw [if_neg hx]; omega

/-- A number made a float and back. -/
theorem round_trip (hN : N ≤ 2048) (t : Fin N) :
    FloatOps.fptosi (F := Ideal) (φ := .f32) 32 (FloatOps.sitofp (F := Ideal) FTy.f32 (word t)) = word t := by
  show Ideal.fptosi 32 ((((word t).toInt : ℝ)) : EReal) = word t
  have := t.isLt
  rw [word_toInt hN, Ideal.fptosi, Ideal.toIntClamped_coe, if_pos (by positivity)]
  simp only [Int.floor_intCast]
  rw [min_eq_right (by norm_num; omega), max_eq_right (by norm_num)]
  simp [word]

/-- The first lane at a row's maximum. -/
theorem first_max [NeZero N] (hN : N ≤ 2048) {M : BitVec 32} (hM : (N : ℤ) ≤ M.toInt) (d : Fin N → ℝ) :
    Finset.univ.fold IntOp.minsi 2147483647#32
      (fun x : Fin N => if (d x : EReal) = Finset.univ.fold max (Ideal.ofBits .f32 4286578688#32) (fun x => (d x : EReal)) then BitVec.ofNat 32 x.val else M)
      = word (firstMax d) := by
  rw [ofBits_bot, fold_max]
  refine first hN hM _ _ rfl fun x hx e => ?_
  exact absurd (EReal.coe_eq_coe_iff.1 e) (firstMax_lt d x hx).ne

/-- The first lane at a row's minimum. -/
theorem first_min [NeZero N] (hN : N ≤ 2048) {M : BitVec 32} (hM : (N : ℤ) ≤ M.toInt) (d : Fin N → EReal) :
    Finset.univ.fold IntOp.minsi 2147483647#32
      (fun x : Fin N => if d x = Finset.univ.fold min (Ideal.ofBits .f32 2139095040#32) d then BitVec.ofNat 32 x.val else M)
      = word (firstMin d) := by
  have e : Finset.univ.fold min (⊤ : EReal) d = d (firstMin d) := by
    apply le_antisymm
    · rw [Finset.fold_min_le]
      exact .inr ⟨_, Finset.mem_univ _, le_rfl⟩
    · rw [Finset.le_fold_min]
      exact ⟨le_top, fun k _ => (firstMin_spec d).1 k⟩
  rw [ofBits_top, e]
  exact first hN hM _ _ rfl fun x hx e => absurd e ((firstMin_spec d).2 x hx).ne'

end

end Cert.Proof.Lanes

end
-- ==== Proof.KerHost.lean ====
/-
  The host operations between the kernel's calls, read as reals: the rows of each normalisation, the transposed coordinates, the
  indices, the two halves of each level's map.
-/
module

public import proofs.«01_k».proof.Proof.Gen.KernelIdeal.Launch
public import proofs.«01_k».proof.Proof.RefPre
public import proofs.«01_k».proof.Proof.Lanes
public import Idealize.ShloMosaic.Lib.StableHlo.RunRead

@[expose] public section

set_option maxRecDepth 16384

noncomputable section

namespace Cert.Proof.Ker

open Idealize.ShloMosaic
open Cert.KernelIdeal Cert.KernelIdeal.Gen Cert.Proof.Spec Cert.Proof.Reals Cert.Proof.HostOps Cert.Proof.Lanes
open TcCoe StableHlo
open scoped BigOperators

variable (V : Valuation τ sig (Elt Ideal))

theorem host0_v0 {w : Fin 128 → Fin 6 → ℝ} (hw : Is2 (V (Proc.devRef (τ := τ) .tc main_arg2) : S128x6.Idx → EReal) w) (j : Fin 6) (o : Fin 128) :
    (StableHlo.after hostOps0 V (Proc.devRef (τ := τ) .tc main_v0) : S6x128.Idx → EReal) (ix2 j o) = (w o j : EReal) := by
  after_results
  pointwise
  exact hw o j

theorem host1_v2 {q : Fin 8 → Fin 3 → ℝ} (hq : ∀ i a j, (V (Proc.devRef (τ := τ) .tc main_v1_0) : S8x1x3.Idx → EReal) (ix3 i a j) = (q i j : EReal)) :
    Is2 (StableHlo.after hostOps1 V (Proc.devRef (τ := τ) .tc main_v2) : S8x3.Idx → EReal) q := by
  intro i j
  after_results
  pointwise
  exact hq _ _ _

theorem host1_v21 {q : Fin 8 → Fin 2048 → Fin 3 → ℝ} (hq : Is3 (V (Proc.devRef (τ := τ) .tc main_v1_1) : S8x2048x3.Idx → EReal) q) (i : Fin 8) (j : Fin 3) (n : Fin 2048) :
    (StableHlo.after hostOps1 V (Proc.devRef (τ := τ) .tc main_v21) : S8x3x2048.Idx → EReal) (ix3 i j n) = (q i n j : EReal) := by
  after_results
  pointwise
  exact hq _ _ _

theorem host3_v50 {q : Fin 8 → Fin 512 → Fin 3 → ℝ} (hq : Is3 (V (Proc.devRef (τ := τ) .tc main_v31_1) : S8x512x3.Idx → EReal) q) (i : Fin 8) (j : Fin 3) (n : Fin 512) :
    (StableHlo.after hostOps3 V (Proc.devRef (τ := τ) .tc main_v50) : S8x3x512.Idx → EReal) (ix3 i j n) = (q i n j : EReal) := by
  after_results
  pointwise
  exact hq _ _ _

theorem host2_v24 {t : Fin 8 → Fin 512 → Fin 2048} (ht : ∀ s i, (V (Proc.devRef (τ := τ) .tc main_v22) : S512x8.Idx → BitVec 32) (ix2 s i) = word (t i s)) (i : Fin 8) (s : Fin 512) (a : Fin 1) :
    (StableHlo.after hostOps2 V (Proc.devRef (τ := τ) .tc main_v24) : S8x512x1.Idx → BitVec 32) (ix3 i s a) = word (t i s) := by
  after_results
  pointwise
  exact ht _ _

theorem host4_v53 {t : Fin 8 → Fin 128 → Fin 512} (ht : ∀ s i, (V (Proc.devRef (τ := τ) .tc main_v51) : S128x8.Idx → BitVec 32) (ix2 s i) = word (t i s)) (i : Fin 8) (s : Fin 128) (a : Fin 1) :
    (StableHlo.after hostOps4 V (Proc.devRef (τ := τ) .tc main_v53) : S8x128x1.Idx → BitVec 32) (ix3 i s a) = word (t i s) := by
  after_results
  pointwise
  exact ht _ _

theorem host2_v26 {w : Fin 128 → Fin 256 → ℝ} (hw : Is2 (V (Proc.devRef (τ := τ) .tc main_arg5) : S128x256.Idx → EReal) w) (c o : Fin 128) :
    (StableHlo.after hostOps2 V (Proc.devRef (τ := τ) .tc main_v26) : S128x128.Idx → EReal) (ix2 c o) = (w o ⟨c.val, by omega⟩ : EReal) := by
  after_results
  pointwise
  rw [hw]

theorem host2_v30 {w : Fin 128 → Fin 256 → ℝ} (hw : Is2 (V (Proc.devRef (τ := τ) .tc main_arg5) : S128x256.Idx → EReal) w) (c o : Fin 128) :
    (StableHlo.after hostOps2 V (Proc.devRef (τ := τ) .tc main_v30) : S128x128.Idx → EReal) (ix2 c o)
      = ((w o ⟨128 + c.val, by omega⟩ - w o ⟨c.val, by omega⟩ : ℝ) : EReal) := by
  after_results
  pointwise
  rw [hw, hw, ← EReal.coe_sub]

theorem host4_v55 {w : Fin 128 → Fin 256 → ℝ} (hw : Is2 (V (Proc.devRef (τ := τ) .tc main_arg8) : S128x256.Idx → EReal) w) (c o : Fin 128) :
    (StableHlo.after hostOps4 V (Proc.devRef (τ := τ) .tc main_v55) : S128x128.Idx → EReal) (ix2 c o) = (w o ⟨c.val, by omega⟩ : EReal) := by
  after_results
  pointwise
  rw [hw]

theorem host4_v59 {w : Fin 128 → Fin 256 → ℝ} (hw : Is2 (V (Proc.devRef (τ := τ) .tc main_arg8) : S128x256.Idx → EReal) w) (c o : Fin 128) :
    (StableHlo.after hostOps4 V (Proc.devRef (τ := τ) .tc main_v59) : S128x128.Idx → EReal) (ix2 c o)
      = ((w o ⟨128 + c.val, by omega⟩ - w o ⟨c.val, by omega⟩ : ℝ) : EReal) := by
  after_results
  pointwise
  rw [hw, hw, ← EReal.coe_sub]

/-- The rows of a normalisation: the mean, the reciprocal of the square root of the variance plus the constant, the factor and the
    addend. -/
def Rows (R : S4x128.Idx → EReal) (m v : Fin 128 → ℝ) (g b : Fin 128 → EReal) : Prop :=
  ∀ o, R (ix2 0 o) = (m o : EReal) ∧ R (ix2 1 o) = (((Real.sqrt (v o + eps))⁻¹ : ℝ) : EReal) ∧ R (ix2 2 o) = g o ∧ R (ix2 3 o) = b o

/-- The mean, and the mean square less the squared mean. -/
theorem moments {s q : Fin 8 → ℝ} {n m v : ℝ} (hn : n ≠ 0) (hm : (∑ i, s i) / n = m) (hv : (∑ i, q i) / n - m * m = v) (h0 : 0 ≤ v) :
    Ideal.div ((∑ i, s i : ℝ) : EReal) (n : EReal) = (m : EReal)
      ∧ Ideal.rsqrt (Ideal.div ((∑ i, q i : ℝ) : EReal) (n : EReal) - (m : EReal) * (m : EReal) + (eps : EReal)) = (((Real.sqrt (v + eps))⁻¹ : ℝ) : EReal) := by
  rw [div_coe _ hn, div_coe _ hn, hm, ← EReal.coe_mul, ← EReal.coe_sub, hv, ← EReal.coe_add]
  exact ⟨rfl, rsqrt_coe (add_pos_of_nonneg_of_pos h0 eps_pos)⟩

theorem host1_v20 {s q : Fin 8 → Fin 128 → ℝ} {m v g b : Fin 128 → ℝ}
    (hs : ∀ i a o, (V (Proc.devRef (τ := τ) .tc main_v1_3) : S8x1x128.Idx → EReal) (ix3 i a o) = (s i o : EReal))
    (hq : ∀ i a o, (V (Proc.devRef (τ := τ) .tc main_v1_4) : S8x1x128.Idx → EReal) (ix3 i a o) = (q i o : EReal))
    (hg : Is1 (V (Proc.devRef (τ := τ) .tc main_arg3) : S128.Idx → EReal) g) (hb : Is1 (V (Proc.devRef (τ := τ) .tc main_arg4) : S128.Idx → EReal) b)
    (hm : ∀ o, (∑ i, s i o) / 16384 = m o) (hv : ∀ o, (∑ i, q i o) / 16384 - m o * m o = v o) (h0 : ∀ o, 0 ≤ v o) :
    Rows (StableHlo.after hostOps1 V (Proc.devRef (τ := τ) .tc main_v20) : S4x128.Idx → EReal) m v (fun o => (g o : EReal)) (fun o => (b o : EReal)) := by
  intro o
  have e := moments (n := 16384) (by norm_num) (hm o) (hv o) (h0 o)
  refine ⟨?_, ?_, ?_, ?_⟩ <;> (after_results; pointwise; after_results_simp_entrywise; pointwise; try simp only [hs, hq, coe_sum, ofBits_16384, ofBits_eps])
  · exact e.1
  · rw [e.1]
    exact e.2
  · exact hg o
  · exact hb o

theorem host3_v49 {s q : Fin 8 → Fin 128 → ℝ} {m v g b : Fin 128 → ℝ}
    (hs : ∀ i a o, (V (Proc.devRef (τ := τ) .tc main_v31_2) : S8x1x128.Idx → EReal) (ix3 i a o) = (s i o : EReal))
    (hq : ∀ i a o, (V (Proc.devRef (τ := τ) .tc main_v31_3) : S8x1x128.Idx → EReal) (ix3 i a o) = (q i o : EReal))
    (hg : Is1 (V (Proc.devRef (τ := τ) .tc main_arg6) : S128.Idx → EReal) g) (hb : Is1 (V (Proc.devRef (τ := τ) .tc main_arg7) : S128.Idx → EReal) b)
    (hm : ∀ o, (∑ i, s i o) / 131072 = m o) (hv : ∀ o, (∑ i, q i o) / 131072 - m o * m o = v o) (h0 : ∀ o, 0 ≤ v o) :
    Rows (StableHlo.after hostOps3 V (Proc.devRef (τ := τ) .tc main_v49) : S4x128.Idx → EReal) m v (fun o => (g o : EReal)) (fun o => (b o : EReal)) := by
  intro o
  have e := moments (n := 131072) (by norm_num) (hm o) (hv o) (h0 o)
  refine ⟨?_, ?_, ?_, ?_⟩ <;> (after_results; pointwise; after_results_simp_entrywise; pointwise; try simp only [hs, hq, coe_sum, ofBits_131072, ofBits_eps])
  · exact e.1
  · rw [e.1]
    exact e.2
  · exact hg o
  · exact hb o

theorem host5_v78 {s q : Fin 8 → Fin 128 → ℝ} {m v : Fin 128 → ℝ} {g b : Fin 128 → EReal}
    (hs : ∀ i a o, (V (Proc.devRef (τ := τ) .tc main_v60_2) : S8x1x128.Idx → EReal) (ix3 i a o) = (s i o : EReal))
    (hq : ∀ i a o, (V (Proc.devRef (τ := τ) .tc main_v60_3) : S8x1x128.Idx → EReal) (ix3 i a o) = (q i o : EReal))
    (hg : Ex1 (V (Proc.devRef (τ := τ) .tc main_arg9) : S128.Idx → EReal) g) (hb : Ex1 (V (Proc.devRef (τ := τ) .tc main_arg10) : S128.Idx → EReal) b)
    (hm : ∀ o, (∑ i, s i o) / 16384 = m o) (hv : ∀ o, (∑ i, q i o) / 16384 - m o * m o = v o) (h0 : ∀ o, 0 ≤ v o) :
    Rows (StableHlo.after hostOps5 V (Proc.devRef (τ := τ) .tc main_v78) : S4x128.Idx → EReal) m v g b := by
  intro o
  have e := moments (n := 16384) (by norm_num) (hm o) (hv o) (h0 o)
  refine ⟨?_, ?_, ?_, ?_⟩ <;> (after_results; pointwise; after_results_simp_entrywise; pointwise; try simp only [hs, hq, coe_sum, ofBits_16384, ofBits_eps])
  · exact e.1
  · rw [e.1]
    exact e.2
  · exact hg o
  · exact hb o

end Cert.Proof.Ker

end
-- ==== Proof.KerLin.lean ====
/-
  The first call's block, read as reals: the centre, the centred points, the first linear map and its sums.
-/
module

public import proofs.«01_k».proof.Proof.Gen.KernelIdeal.Skeleton
public import proofs.«01_k».proof.Proof.RefPre

@[expose] public section

set_option maxRecDepth 16384

noncomputable section

namespace Cert.Proof.Ker

open Idealize.ShloMosaic
open Cert.KernelIdeal Cert.KernelIdeal.Gen Cert.Proof.Spec Cert.Proof.Reals
open scoped BigOperators

variable {v0 v2 : S1x2048x3.Idx → EReal} {v11 : S6x128.Idx → EReal} {p q : Fin 2048 → Fin 3 → ℝ} {w : Fin 128 → Fin 6 → ℝ}

/-- One example's centre … -/
def mid1 (p : Fin 2048 → Fin 3 → ℝ) (j : Fin 3) : ℝ := (∑ n, p n j) / 2048
/-- … and its linear map. -/
def lin1 (p q : Fin 2048 → Fin 3 → ℝ) (w : Fin 128 → Fin 6 → ℝ) (n : Fin 2048) (o : Fin 128) : ℝ :=
  ∑ j : Fin 3, (p n j - mid1 p j) * w o (Fin.castAdd 3 j) + ∑ j : Fin 3, q n j * w o (Fin.natAdd 3 j)

theorem pay6 (h0 : ∀ a n j, v0 (ix3 a n j) = (p n j : EReal)) (a b : Fin 1) (j : Fin 3) :
    k0_pay6 (F := Ideal) v0 (ix3 a b j) = (mid1 p j : EReal) := by
  unfold k0_pay6 k0_pay3 k0_pay2
  pointwise
  simp only [h0, coe_sum, ofBits_2048]
  rw [div_coe _ (by norm_num)]
  rfl

theorem pay4 (h0 : ∀ a n j, v0 (ix3 a n j) = (p n j : EReal)) (n : Fin 2048) (j : Fin 3) :
    k0_pay4 (F := Ideal) v0 (ix2 n j) = ((p n j - mid1 p j : ℝ) : EReal) := by
  unfold k0_pay4 k0_pay3 k0_pay2
  pointwise
  simp only [h0, coe_sum, ofBits_2048]
  rw [div_coe _ (by norm_num), ← EReal.coe_sub]
  rfl

theorem pay7 (h0 : ∀ a n j, v0 (ix3 a n j) = (p n j : EReal)) (a : Fin 1) (n : Fin 2048) (j : Fin 3) :
    k0_pay7 (F := Ideal) v0 (ix3 a n j) = ((p n j - mid1 p j : ℝ) : EReal) := by
  unfold k0_pay7
  pointwise
  exact pay4 h0 n j

theorem pay5 (h0 : ∀ a n j, v0 (ix3 a n j) = (p n j : EReal)) (h2 : ∀ a n j, v2 (ix3 a n j) = (q n j : EReal))
    (hw : ∀ j o, v11 (ix2 j o) = (w o j : EReal)) (n : Fin 2048) (o : Fin 128) :
    k0_pay5 (F := Ideal) v0 v2 v11 (ix2 n o) = (lin1 p q w n o : EReal) := by
  unfold k0_pay5
  pointwise
  simp only [pay4 h0, h2, hw, ← EReal.coe_mul, coe_sum, ← EReal.coe_add]
  rfl

theorem pay8 (h0 : ∀ a n j, v0 (ix3 a n j) = (p n j : EReal)) (h2 : ∀ a n j, v2 (ix3 a n j) = (q n j : EReal))
    (hw : ∀ j o, v11 (ix2 j o) = (w o j : EReal)) (a : Fin 1) (n : Fin 2048) (o : Fin 128) :
    k0_pay8 (F := Ideal) v0 v2 v11 (ix3 a n o) = (lin1 p q w n o : EReal) := by
  unfold k0_pay8
  pointwise
  exact pay5 h0 h2 hw n o

theorem pay9 (h0 : ∀ a n j, v0 (ix3 a n j) = (p n j : EReal)) (h2 : ∀ a n j, v2 (ix3 a n j) = (q n j : EReal))
    (hw : ∀ j o, v11 (ix2 j o) = (w o j : EReal)) (a b : Fin 1) (o : Fin 128) :
    k0_pay9 (F := Ideal) v0 v2 v11 (ix3 a b o) = ((∑ n, lin1 p q w n o : ℝ) : EReal) := by
  unfold k0_pay9
  pointwise
  simp only [pay5 h0 h2 hw, coe_sum]

theorem pay10 (h0 : ∀ a n j, v0 (ix3 a n j) = (p n j : EReal)) (h2 : ∀ a n j, v2 (ix3 a n j) = (q n j : EReal))
    (hw : ∀ j o, v11 (ix2 j o) = (w o j : EReal)) (a b : Fin 1) (o : Fin 128) :
    k0_pay1 (F := Ideal) (k0_pay10 v0 v2 v11) (ix3 a b o) = ((∑ n, lin1 p q w n o * lin1 p q w n o : ℝ) : EReal) := by
  unfold k0_pay1 k0_pay10
  pointwise
  simp only [pay5 h0 h2 hw, ← EReal.coe_mul, coe_sum]

end Cert.Proof.Ker

end
-- ==== Proof.Region0.lean ====
/-
  The first call's arrays: the centres, the centred points, the first linear map and its sums, from the points and features.
-/
module

public import proofs.«01_k».proof.Proof.Gen.KernelIdeal.Frame
public import proofs.«01_k».proof.Proof.KerLin
public import Idealize.ShloMosaic.Lib.Pipeline.ValueKit

@[expose] public section

set_option maxRecDepth 16384

noncomputable section

namespace Cert.Proof.Ker

open Idealize.ShloMosaic Idealize.ShloMosaic.TcCoe
open Idealize.SL Idealize.SL.RA
open Cert.KernelIdeal Cert.KernelIdeal.Gen Cert.Proof.Spec Cert.Proof.Reals
open scoped BigOperators

variable (V : (c : Dev nD) → (b : Ref sig .tc) → b.ty.Contents (Elt Ideal)) (c : Dev nD)
variable {x f : Fin 8 → Fin 2048 → Fin 3 → ℝ} {w : Fin 128 → Fin 6 → ℝ}

theorem mid1_eq (x : Fin 8 → Fin 2048 → Fin 3 → ℝ) (i : Fin 8) (j : Fin 3) : mid1 (x i) j = center x i j := by
  unfold mid1 center
  norm_num

theorem lin1_eq (x f : Fin 8 → Fin 2048 → Fin 3 → ℝ) (w : Fin 128 → Fin 6 → ℝ) (i : Fin 8) (n : Fin 2048) (o : Fin 128) :
    lin1 (x i) (f i) w n o = lin x f w i n o := by
  unfold lin lin1
  rw [show (∑ j, six x f i n j * w o j) = ∑ j : Fin (3 + 3), six x f i n j * w o j from rfl, Fin.sum_univ_add]
  simp only [mid1_eq]
  congr 1

/-- A grid point as an example's index. -/
def pt0 (t : Fin cfg0.N) : Fin 8 := ⟨t.val, t.isLt⟩

theorem idx0_0 : ∀ t : Fin cfg0.N, win0_0.index t = ![(pt0 t).val, 0, 0] := (by decide +kernel : ∀ t : Fin grid0.N, win0_0.index t = ![t.val, 0, 0])
theorem idx0_1 : ∀ t : Fin cfg0.N, win0_1.index t = ![(pt0 t).val, 0, 0] := (by decide +kernel : ∀ t : Fin grid0.N, win0_1.index t = ![t.val, 0, 0])
theorem idx0_2 : ∀ t : Fin cfg0.N, win0_2.index t = ![0, 0] := (by decide +kernel : ∀ t : Fin grid0.N, win0_2.index t = ![0, 0])
theorem idx0_3 : ∀ t : Fin cfg0.N, win0_3.index t = ![(pt0 t).val, 0, 0] := (by decide +kernel : ∀ t : Fin grid0.N, win0_3.index t = ![t.val, 0, 0])
theorem idx0_4 : ∀ t : Fin cfg0.N, win0_4.index t = ![(pt0 t).val, 0, 0] := (by decide +kernel : ∀ t : Fin grid0.N, win0_4.index t = ![t.val, 0, 0])
theorem idx0_5 : ∀ t : Fin cfg0.N, win0_5.index t = ![(pt0 t).val, 0, 0] := (by decide +kernel : ∀ t : Fin grid0.N, win0_5.index t = ![t.val, 0, 0])
theorem idx0_6 : ∀ t : Fin cfg0.N, win0_6.index t = ![(pt0 t).val, 0, 0] := (by decide +kernel : ∀ t : Fin grid0.N, win0_6.index t = ![t.val, 0, 0])
theorem idx0_7 : ∀ t : Fin cfg0.N, win0_7.index t = ![(pt0 t).val, 0, 0] := (by decide +kernel : ∀ t : Fin grid0.N, win0_7.index t = ![t.val, 0, 0])

theorem blk0_0 (t : Fin cfg0.N) (a : Fin 1) (n : Fin 2048) (j : Fin 3) :
    (iblk0 V c 0 t : S1x2048x3.Idx → EReal) (ix3 a n j) = (V c main_arg0 : S8x2048x3.Idx → EReal) (ix3 (pt0 t) n j) := by
  blk_simp [iblk0]
  refine congrArg (V c main_arg0 : S8x2048x3.Idx → EReal) ?_
  blk_ext [idx0_0 t]
theorem blk0_1 (t : Fin cfg0.N) (a : Fin 1) (n : Fin 2048) (j : Fin 3) :
    (iblk0 V c 1 t : S1x2048x3.Idx → EReal) (ix3 a n j) = (V c main_arg1 : S8x2048x3.Idx → EReal) (ix3 (pt0 t) n j) := by
  blk_simp [iblk0]
  refine congrArg (V c main_arg1 : S8x2048x3.Idx → EReal) ?_
  blk_ext [idx0_1 t]
theorem blk0_2 (t : Fin cfg0.N) (j : Fin 6) (o : Fin 128) :
    (iblk0 V c 2 t : S6x128.Idx → EReal) (ix2 j o) = (V c main_v0 : S6x128.Idx → EReal) (ix2 j o) := by
  blk_simp [iblk0]
  refine congrArg (V c main_v0 : S6x128.Idx → EReal) ?_
  blk_ext [idx0_2 t]

/-- The first result: each example's centre. -/
theorem reg0_3 (hx : Is3 (V c main_arg0 : S8x2048x3.Idx → EReal) x) :
    Is3 ((dat0 V c).arrAt 3 cfg0.N : S8x1x3.Idx → EReal) (fun i _ j => center x i j) := by
  have h : ((dat0 V c).arrAt 3 cfg0.N : S8x1x3.Idx → EReal) = fun i => (center x (i 0) (i 2) : EReal) := by
    refine (dat0 V c).arrAt_eq_of_covers 3 _ (by decide +kernel) fun t hf y => ?_
    blk_simp
    rw [after0_3]
    frame_out
    have e : ((View.whole main_v1_0).slice (win0_3.rect t)).emb y = (ix3 (pt0 t) (y 1) (y 2) : S8x1x3.Idx) := by blk_ext [idx0_3 t]
    rw [e, show y = ix3 (y 0) (y 1) (y 2) from eq_ix3 y]
    refine (pay6 (p := x (pt0 t)) (fun a n j => (blk0_0 V c t a n j).trans (hx _ _ _)) _ _ _).trans ?_
    exact congrArg Real.toEReal (mid1_eq x (pt0 t) (y 2))
  intro i a j
  exact congrFun h (ix3 i a j)

/-- The second: the centred points. -/
theorem reg0_4 (hx : Is3 (V c main_arg0 : S8x2048x3.Idx → EReal) x) :
    Is3 ((dat0 V c).arrAt 4 cfg0.N : S8x2048x3.Idx → EReal) (centred x) := by
  have h : ((dat0 V c).arrAt 4 cfg0.N : S8x2048x3.Idx → EReal) = fun i => (centred x (i 0) (i 1) (i 2) : EReal) := by
    refine (dat0 V c).arrAt_eq_of_covers 4 _ (by decide +kernel) fun t hf y => ?_
    blk_simp
    rw [after0_4]
    frame_out
    have e : ((View.whole main_v1_1).slice (win0_4.rect t)).emb y = (ix3 (pt0 t) (y 1) (y 2) : S8x2048x3.Idx) := by blk_ext [idx0_4 t]
    rw [e, show y = ix3 (y 0) (y 1) (y 2) from eq_ix3 y]
    refine (pay7 (p := x (pt0 t)) (fun a n j => (blk0_0 V c t a n j).trans (hx _ _ _)) _ _ _).trans ?_
    exact congrArg Real.toEReal (congrArg (x (pt0 t) (y 1) (y 2) - ·) (mid1_eq x (pt0 t) (y 2)))
  intro i a j
  exact congrFun h (ix3 i a j)

/-- The third: the linear map. -/
theorem reg0_5 (hx : Is3 (V c main_arg0 : S8x2048x3.Idx → EReal) x) (hf : Is3 (V c main_arg1 : S8x2048x3.Idx → EReal) f)
    (hw : ∀ j o, (V c main_v0 : S6x128.Idx → EReal) (ix2 j o) = (w o j : EReal)) :
    Is3 ((dat0 V c).arrAt 5 cfg0.N : S8x2048x128.Idx → EReal) (lin x f w) := by
  have h : ((dat0 V c).arrAt 5 cfg0.N : S8x2048x128.Idx → EReal) = fun i => (lin x f w (i 0) (i 1) (i 2) : EReal) := by
    refine (dat0 V c).arrAt_eq_of_covers 5 _ (by decide +kernel) fun t _ y => ?_
    blk_simp
    rw [after0_5]
    frame_out
    have e : ((View.whole main_v1_2).slice (win0_5.rect t)).emb y = (ix3 (pt0 t) (y 1) (y 2) : S8x2048x128.Idx) := by blk_ext [idx0_5 t]
    rw [e, show y = ix3 (y 0) (y 1) (y 2) from eq_ix3 y]
    refine (pay8 (p := x (pt0 t)) (q := f (pt0 t)) (w := w) (fun a n j => (blk0_0 V c t a n j).trans (hx _ _ _))
      (fun a n j => (blk0_1 V c t a n j).trans (hf _ _ _)) (fun j o => (blk0_2 V c t j o).trans (hw _ _)) _ _ _).trans ?_
    exact congrArg Real.toEReal (lin1_eq x f w (pt0 t) (y 1) (y 2))
  intro i a j
  exact congrFun h (ix3 i a j)

/-- The fourth: each example's sums of the linear map. -/
theorem reg0_6 (hx : Is3 (V c main_arg0 : S8x2048x3.Idx → EReal) x) (hf : Is3 (V c main_arg1 : S8x2048x3.Idx → EReal) f)
    (hw : ∀ j o, (V c main_v0 : S6x128.Idx → EReal) (ix2 j o) = (w o j : EReal)) :
    Is3 ((dat0 V c).arrAt 6 cfg0.N : S8x1x128.Idx → EReal) (fun i _ o => ∑ n, lin x f w i n o) := by
  have h : ((dat0 V c).arrAt 6 cfg0.N : S8x1x128.Idx → EReal) = fun i => ((∑ n, lin x f w (i 0) n (i 2) : ℝ) : EReal) := by
    refine (dat0 V c).arrAt_eq_of_covers 6 _ (by decide +kernel) fun t _ y => ?_
    blk_simp
    rw [after0_6]
    frame_out
    have e : ((View.whole main_v1_3).slice (win0_6.rect t)).emb y = (ix3 (pt0 t) (y 1) (y 2) : S8x1x128.Idx) := by blk_ext [idx0_6 t]
    rw [e, show y = ix3 (y 0) (y 1) (y 2) from eq_ix3 y]
    refine (pay9 (p := x (pt0 t)) (q := f (pt0 t)) (w := w) (fun a n j => (blk0_0 V c t a n j).trans (hx _ _ _))
      (fun a n j => (blk0_1 V c t a n j).trans (hf _ _ _)) (fun j o => (blk0_2 V c t j o).trans (hw _ _)) _ _ _).trans ?_
    exact congrArg Real.toEReal (Finset.sum_congr rfl fun n _ => lin1_eq x f w (pt0 t) n (y 2))
  intro i a j
  exact congrFun h (ix3 i a j)

/-- The fifth: and of its squares. -/
theorem reg0_7 (hx : Is3 (V c main_arg0 : S8x2048x3.Idx → EReal) x) (hf : Is3 (V c main_arg1 : S8x2048x3.Idx → EReal) f)
    (hw : ∀ j o, (V c main_v0 : S6x128.Idx → EReal) (ix2 j o) = (w o j : EReal)) :
    Is3 ((dat0 V c).arrAt 7 cfg0.N : S8x1x128.Idx → EReal) (fun i _ o => ∑ n, lin x f w i n o * lin x f w i n o) := by
  have h : ((dat0 V c).arrAt 7 cfg0.N : S8x1x128.Idx → EReal) = fun i => ((∑ n, lin x f w (i 0) n (i 2) * lin x f w (i 0) n (i 2) : ℝ) : EReal) := by
    refine (dat0 V c).arrAt_eq_of_covers 7 _ (by decide +kernel) fun t _ y => ?_
    blk_simp
    rw [after0_7]
    frame_out
    have e : ((View.whole main_v1_4).slice (win0_7.rect t)).emb y = (ix3 (pt0 t) (y 1) (y 2) : S8x1x128.Idx) := by blk_ext [idx0_7 t]
    rw [e, show y = ix3 (y 0) (y 1) (y 2) from eq_ix3 y]
    refine (pay10 (p := x (pt0 t)) (q := f (pt0 t)) (w := w) (fun a n j => (blk0_0 V c t a n j).trans (hx _ _ _))
      (fun a n j => (blk0_1 V c t a n j).trans (hf _ _ _)) (fun j o => (blk0_2 V c t j o).trans (hw _ _)) _ _ _).trans ?_
    exact congrArg Real.toEReal (Finset.sum_congr rfl fun n _ => congrArg₂ (· * ·) (lin1_eq x f w (pt0 t) n (y 2)) (lin1_eq x f w (pt0 t) n (y 2)))
  intro i a j
  exact congrFun h (ix3 i a j)

end Cert.Proof.Ker

end
-- ==== Proof.KerFps.lean ====
/-
  Farthest-point sampling, step by step, read as reals and lane numbers.
-/
module

public import proofs.«01_k».proof.Proof.Gen.KernelIdeal.Skeleton
public import proofs.«01_k».proof.Proof.Lanes
public import proofs.«01_k».proof.Proof.RefPre

@[expose] public section

set_option maxRecDepth 16384

noncomputable section

namespace Cert.Proof.Ker

open Idealize.ShloMosaic
open Cert.KernelIdeal Cert.KernelIdeal.Gen Cert.Proof.Select Cert.Proof.Spec Cert.Proof.Reals Cert.Proof.Lanes
open scoped BigOperators

/-- The distance after a step, over the extended reals. -/
theorem step_coe {N : ℕ} [NeZero N] (p : Fin N → Fin 3 → ℝ) (k : ℕ) (n : Fin N) :
    min ((fps p k).1 n : EReal)
      (((p n 0 : EReal) - p (far p k) 0) * ((p n 0 : EReal) - p (far p k) 0) + ((p n 1 : EReal) - p (far p k) 1) * ((p n 1 : EReal) - p (far p k) 1)
        + ((p n 2 : EReal) - p (far p k) 2) * ((p n 2 : EReal) - p (far p k) 2))
      = ((fps p (k + 1)).1 n : EReal) := by
  simp only [← EReal.coe_sub, ← EReal.coe_mul, ← EReal.coe_add, coe_min]
  congr 1
  show _ = min ((fps p k).1 n) (gap (p n) (p (fps p k).2))
  rw [gap, Fin.sum_univ_three]
  rfl

/-! ## Sampling from 2048 points -/

namespace Fps0

section
variable {v0 v2 v4 : S8x1x2048.Idx → EReal} {d : S8x2048.Idx → EReal} {f : S8x1.Idx → BitVec 32} {x : Fin 8 → Fin 2048 → Fin 3 → ℝ} {k : ℕ}

theorem pay1 (i : Fin 8) (n : Fin 2048) : k1_pay1 (F := Ideal) (ix2 i n) = ((fps (x i) 0).1 n : EReal) := by
  unfold k1_pay1
  pointwise
  exact ofBits_huge

theorem pay2 (i : Fin 8) (a : Fin 1) : k1_pay2 (ix2 i a) = word (far (x i) 0) := by
  unfold k1_pay2
  pointwise
  rfl

theorem pay3 (hf : ∀ i a, f (ix2 i a) = word (far (x i) k)) (a : Fin 1) (i : Fin 8) : k1_pay3 (F := Ideal) f (ix2 a i) = word (far (x i) k) := by
  unfold k1_pay3
  pointwise
  rw [hf]
  exact round_trip (by norm_num) _

theorem pay4 (h0 : ∀ i a n, v0 (ix3 i a n) = (x i n 0 : EReal)) (h2 : ∀ i a n, v2 (ix3 i a n) = (x i n 1 : EReal)) (h4 : ∀ i a n, v4 (ix3 i a n) = (x i n 2 : EReal))
    (hd : ∀ i n, d (ix2 i n) = ((fps (x i) k).1 n : EReal)) (hf : ∀ i a, f (ix2 i a) = word (far (x i) k)) (i : Fin 8) (n : Fin 2048) :
    k1_pay4 (F := Ideal) v0 v2 v4 d f (ix2 i n) = ((fps (x i) (k + 1)).1 n : EReal) := by
  unfold k1_pay4
  pointwise
  simp only [h0, h2, h4, hd, hf]
  have e := fun j : Fin 3 => pick (by norm_num) (fun n => (x i n j : EReal)) (far (x i) k)
  simp only [e]
  exact step_coe (x i) k n

theorem pay5 (h0 : ∀ i a n, v0 (ix3 i a n) = (x i n 0 : EReal)) (h2 : ∀ i a n, v2 (ix3 i a n) = (x i n 1 : EReal)) (h4 : ∀ i a n, v4 (ix3 i a n) = (x i n 2 : EReal))
    (hd : ∀ i n, d (ix2 i n) = ((fps (x i) k).1 n : EReal)) (hf : ∀ i a, f (ix2 i a) = word (far (x i) k)) (i : Fin 8) (a : Fin 1) :
    k1_pay5 (F := Ideal) v0 v2 v4 d f (ix2 i a) = word (far (x i) (k + 1)) := by
  unfold k1_pay5
  pointwise
  simp only [pay4 h0 h2 h4 hd hf]
  exact first_max (by norm_num) (by decide) _

end

end Fps0

/-! ## Sampling from 512 points -/

namespace Fps1

section
variable {v0 v2 v4 : S8x1x512.Idx → EReal} {d : S8x512.Idx → EReal} {f : S8x1.Idx → BitVec 32} {x : Fin 8 → Fin 512 → Fin 3 → ℝ} {k : ℕ}

theorem pay1 (i : Fin 8) (n : Fin 512) : k3_pay1 (F := Ideal) (ix2 i n) = ((fps (x i) 0).1 n : EReal) := by
  unfold k3_pay1
  pointwise
  exact ofBits_huge

theorem pay2 (i : Fin 8) (a : Fin 1) : k3_pay2 (ix2 i a) = word (far (x i) 0) := by
  unfold k3_pay2
  pointwise
  rfl

theorem pay3 (hf : ∀ i a, f (ix2 i a) = word (far (x i) k)) (a : Fin 1) (i : Fin 8) : k3_pay3 (F := Ideal) f (ix2 a i) = word (far (x i) k) := by
  unfold k3_pay3
  pointwise
  rw [hf]
  exact round_trip (by norm_num) _

theorem pay4 (h0 : ∀ i a n, v0 (ix3 i a n) = (x i n 0 : EReal)) (h2 : ∀ i a n, v2 (ix3 i a n) = (x i n 1 : EReal)) (h4 : ∀ i a n, v4 (ix3 i a n) = (x i n 2 : EReal))
    (hd : ∀ i n, d (ix2 i n) = ((fps (x i) k).1 n : EReal)) (hf : ∀ i a, f (ix2 i a) = word (far (x i) k)) (i : Fin 8) (n : Fin 512) :
    k3_pay4 (F := Ideal) v0 v2 v4 d f (ix2 i n) = ((fps (x i) (k + 1)).1 n : EReal) := by
  unfold k3_pay4
  pointwise
  simp only [h0, h2, h4, hd, hf]
  have e := fun j : Fin 3 => pick (by norm_num) (fun n => (x i n j : EReal)) (far (x i) k)
  simp only [e]
  exact step_coe (x i) k n

theorem pay5 (h0 : ∀ i a n, v0 (ix3 i a n) = (x i n 0 : EReal)) (h2 : ∀ i a n, v2 (ix3 i a n) = (x i n 1 : EReal)) (h4 : ∀ i a n, v4 (ix3 i a n) = (x i n 2 : EReal))
    (hd : ∀ i n, d (ix2 i n) = ((fps (x i) k).1 n : EReal)) (hf : ∀ i a, f (ix2 i a) = word (far (x i) k)) (i : Fin 8) (a : Fin 1) :
    k3_pay5 (F := Ideal) v0 v2 v4 d f (ix2 i a) = word (far (x i) (k + 1)) := by
  unfold k3_pay5
  pointwise
  simp only [pay4 h0 h2 h4 hd hf]
  exact first_max (by norm_num) (by decide) _

end

end Fps1

end Cert.Proof.Ker

end
-- ==== Proof.Region1.lean ====
/-
  The second call's array: the indices that farthest-point sampling chooses among 2048 points, from the coordinates.
-/
module

public import proofs.«01_k».proof.Proof.Gen.KernelIdeal.Frame
public import proofs.«01_k».proof.Proof.KerFps
public import Idealize.ShloMosaic.Lib.Pipeline.ValueKit

@[expose] public section

set_option maxRecDepth 16384

noncomputable section

namespace Cert.Proof.Ker.Fps0

open Idealize.ShloMosaic Idealize.ShloMosaic.TcCoe
open Idealize.SL Idealize.SL.RA
open Cert.KernelIdeal Cert.KernelIdeal.Gen Cert.Proof.Spec Cert.Proof.Reals Cert.Proof.Lanes

section Trips

variable (𝒱 : Variants) (c : Dev nD) (bd : Option 𝒱.V) (arg0 : Memref sig .tc .vmem S8x3x2048 .f32) (harg0 : arg0.IsWhole)
  (arg1 : Memref sig .tc .vmem S512x8 .i32) (harg1 : arg1.IsWhole) (v0 v2 v4 : Vec Ideal S8x1x2048 .f32)

/-- What a trip yields. -/
theorem tripR_eq (k : Fin k1_t1_loop.trips) (acc : FVec Ideal S8x2048 .f32 × IVec S8x1 32) :
    tripR_k1_t1 (F := Ideal) 𝒱 c bd arg0 harg0 arg1 harg1 v0 v2 v4 k acc
      = (k1_pay4 (F := Ideal) v0 v2 v4 acc.1 acc.2, k1_pay5 (F := Ideal) v0 v2 v4 acc.1 acc.2) := by
  unfold tripR_k1_t1 trip_k1_t1
  rfl

/-- What a trip stores: one row. -/
theorem tripL_eq (k : Fin k1_t1_loop.trips) (acc : FVec Ideal S8x2048 .f32 × IVec S8x1 32) :
    tripL_k1_t1 (F := Ideal) 𝒱 c bd arg0 harg0 arg1 harg1 v0 v2 v4 k acc
      = [⟨Rect.unit (s := S512x8) (k1_off1 k) S1x8.size (k1_off1_inb k), k1_pay3 (F := Ideal) acc.2⟩] := by
  unfold tripL_k1_t1 trip_k1_t1
  rfl

/-- The row a trip stores at. -/
theorem off_eq (k : Fin k1_t1_loop.trips) : k1_off1 k 0 = k.val ∧ k1_off1 k 1 = 0 := by
  have r : k.val < 512 := Nat.lt_of_lt_of_le k.isLt k1_t1_abs.2.1
  have h0 : Affine.IsInt 0#32 (0) := Affine.ofNat _ (by omega)
  have h1 : Affine.IsInt 1#32 (1) := Affine.ofNat _ (by omega)
  have h : Affine.IsInt _ ((k.val : Int)) := Affine.indexCast (Affine.iv h0 h1 k.val (by omega))
  exact ⟨by exact_mod_cast Affine.toNat_of h (by omega), rfl⟩

/-- The index chosen at each step, as the array holds it. -/
def rows (x : Fin 8 → Fin 2048 → Fin 3 → ℝ) : S512x8.Idx → BitVec 32 := fun y => word (far (x (y 1)) (y 0).val)

variable {v0 v2 v4} {x : Fin 8 → Fin 2048 → Fin 3 → ℝ}

/-- Before every trip the carried distances and index are the sampling's, and every stored row holds the index of its step. -/
theorem state (h0 : ∀ i a n, v0 (ix3 i a n) = (x i n 0 : EReal)) (h2 : ∀ i a n, v2 (ix3 i a n) = (x i n 1 : EReal))
    (h4 : ∀ i a n, v4 (ix3 i a n) = (x i n 2 : EReal)) : ∀ k : ℕ, k ≤ k1_t1_loop.trips →
    (∀ i n, (st_k1_t1 (F := Ideal) 𝒱 c bd arg0 harg0 arg1 harg1 v0 v2 v4 (k1_pay1, k1_pay2) k).1.1 (ix2 i n) = ((fps (x i) k).1 n : EReal))
      ∧ (∀ i a, (st_k1_t1 (F := Ideal) 𝒱 c bd arg0 harg0 arg1 harg1 v0 v2 v4 (k1_pay1, k1_pay2) k).1.2 (ix2 i a) = word (far (x i) k))
      ∧ ∀ p ∈ (st_k1_t1 (F := Ideal) 𝒱 c bd arg0 harg0 arg1 harg1 v0 v2 v4 (k1_pay1, k1_pay2) k).2,
          ∀ y : p.1.shape.Idx, p.2 y = rows x (p.1.emb y)
  | 0, _ => by
    have e : st_k1_t1 (F := Ideal) 𝒱 c bd arg0 harg0 arg1 harg1 v0 v2 v4 (k1_pay1, k1_pay2) 0 = ((k1_pay1, k1_pay2), []) := by rw [st_k1_t1.eq_1]
    rw [e]
    refine ⟨fun i n => pay1 i n, fun i a => pay2 i a, fun p hp => ?_⟩
    exact absurd hp List.not_mem_nil
  | k + 1, hk => by
    obtain ⟨hd, hf, hp⟩ := state h0 h2 h4 k (Nat.le_of_succ_le hk)
    have e := st_k1_t1_succ (F := Ideal) 𝒱 c bd arg0 harg0 arg1 harg1 v0 v2 v4 (k1_pay1, k1_pay2) ⟨k, hk⟩
    rw [tripR_eq, tripL_eq] at e
    rw [e]
    have h5 := fun i a => pay5 (k := k) h0 h2 h4 hd hf i a
    refine ⟨fun i n => pay4 h0 h2 h4 hd hf i n, ?_, fun p hq => ?_⟩
    · intro i a
      dsimp only
      exact h5 i a
    rcases List.mem_append.1 hq with hq | hq
    · obtain rfl := List.mem_singleton.1 hq
      intro y
      obtain ⟨o0, o1⟩ := off_eq ⟨k, hk⟩
      have e0 : (((Rect.unit (s := S512x8) (k1_off1 ⟨k, hk⟩) S1x8.size (k1_off1_inb ⟨k, hk⟩)).emb y) 0).val = k := by
        have e : (y 0).val = 0 := Nat.lt_one_iff.1 (y 0).isLt
        exact congrArg₂ (fun a b => a + 1 * b) o0 e
      have e1 : ((Rect.unit (s := S512x8) (k1_off1 ⟨k, hk⟩) S1x8.size (k1_off1_inb ⟨k, hk⟩)).emb y) 1 = (y 1 : Fin 8) := by
        apply Fin.ext
        exact (congrArg (fun a => a + 1 * (y 1).val) o1).trans ((Nat.zero_add _).trans (Nat.one_mul _))
      unfold rows
      rw [e0, e1]
      exact (congrArg _ (eq_ix2 (y : S1x8.Idx))).trans (pay3 hf (y 0) (y 1))
    · exact hp p hq

end Trips

variable (V : (c : Dev nD) → (b : Ref sig .tc) → b.ty.Contents (Elt Ideal)) (c : Dev nD)
variable {x : Fin 8 → Fin 2048 → Fin 3 → ℝ}

/-- The one point of the call's grid. -/
def pt1 : Fin cfg1.N := ⟨0, by decide⟩

theorem idx1_0 : ∀ t : Fin cfg1.N, win1_0.index t = ![0, 0, 0] := by decide +kernel

theorem blk1_0 (t : Fin cfg1.N) (i : Fin 8) (j : Fin 3) (n : Fin 2048) :
    (iblk1 V c 0 t : S8x3x2048.Idx → EReal) (ix3 i j n) = (V c main_v21 : S8x3x2048.Idx → EReal) (ix3 i j n) := by
  blk_simp [iblk1]
  refine congrArg (V c main_v21 : S8x3x2048.Idx → EReal) ?_
  blk_ext [idx1_0 t]

/-- What the body leaves in its buffer. -/
theorem out_eq (arg0 : Memref sig .tc .vmem S8x3x2048 .f32) (harg0 : arg0.IsWhole)
    (arg1 : Memref sig .tc .vmem S512x8 .i32) (harg1 : arg1.IsWhole) {X : Vec Ideal S8x3x2048 .f32}
    (hX : ∀ i j n, X (ix3 i j n) = (x i n j : EReal)) :
    out1_A_1 (F := Ideal) c arg0 harg0 arg1 harg1 X = rows x := by
  funext y
  unfold out1_A_1
  refine VO1_1.read_writes_apply_of_pieces VO1_1.junk (rows x) _ ?_ y (cover1_A_1 c arg0 harg0 arg1 harg1 X y)
  unfold kernelRun1_A
  refine (state Variants.none c none arg0 harg0 arg1 harg1 ?_ ?_ ?_ _ le_rfl).2.2 <;> intro i a n <;>
    rw [View.readAt_eq_ld, Memref.IsWhole.read_unread] <;> pointwise <;> rw [hX]

/-- The indices chosen. -/
theorem reg1_1 (hx : ∀ i j n, (V c main_v21 : S8x3x2048.Idx → EReal) (ix3 i j n) = (x i n j : EReal)) (s : Fin 512) (i : Fin 8) :
    ((dat1 V c).arrAt 1 cfg1.N : S512x8.Idx → BitVec 32) (ix2 s i) = word (far (x i) s.val) := by
  have h : ((dat1 V c).arrAt 1 cfg1.N : S512x8.Idx → BitVec 32) = rows x := by
    refine (dat1 V c).arrAt_eq_of_after_last 1 pt1 (by decide +kernel) (rows x) fun y => ?_
    blk_simp
    rw [after1_1]
    unfold outsAt1
    rw [out_eq c _ _ _ _ (x := x) fun i j n => (blk1_0 V c pt1 i j n).trans (hx i j n)]
  exact congrFun h (ix2 s i)

end Cert.Proof.Ker.Fps0

end
-- ==== Proof.KerGroup.lean ====
/-
  The grouping call's values, read as reals: features, chosen points, distances, and the rounds over the nearest points.
-/
module

public import proofs.«01_k».proof.Proof.Gen.KernelIdeal.Skeleton
public import proofs.«01_k».proof.Proof.Lanes
public import proofs.«01_k».proof.Proof.RefPre

@[expose] public section

set_option maxRecDepth 16384

noncomputable section

namespace Cert.Proof.Ker

open Idealize.ShloMosaic
open Cert.KernelIdeal Cert.KernelIdeal.Gen Cert.Proof.Select Cert.Proof.Spec Cert.Proof.Reals Cert.Proof.Lanes
open scoped BigOperators

/-- Normalisation by the root's reciprocal, and relu, over the extended reals. -/
theorem relu_bn_coe (x m v g b : ℝ) :
    max ((g : EReal) * (((x : EReal) - m) * (((Real.sqrt (v + eps))⁻¹ : ℝ) : EReal)) + b) 0 = (relu (bn m v g b x) : EReal) := by
  rw [← EReal.coe_sub, ← EReal.coe_mul, ← EReal.coe_mul, ← EReal.coe_add, ← EReal.coe_zero, coe_max]
  rfl

theorem relu_ebn_coe (x m v : ℝ) (g b : EReal) :
    max (g * (((x : EReal) - m) * (((Real.sqrt (v + eps))⁻¹ : ℝ) : EReal)) + b) 0 = max (ebn m v g b x) 0 := by
  rw [← EReal.coe_sub, ← EReal.coe_mul]
  rfl

/-- Three columns side by side. -/
theorem three (q : Fin 3 → ℝ) (j : Fin 3) :
    (if h : j.val < 1 then (q 0 : EReal) else if h : j.val - 1 < 1 then (q 1 : EReal) else (q 2 : EReal)) = (q j : EReal) := by
  fin_cases j <;> rfl

/-- The squared distance by norms and inner product, over the extended reals. -/
theorem sqdist_coe (p q : Fin 3 → ℝ) :
    (p 0 : EReal) * p 0 + (p 1 : EReal) * p 1 + (p 2 : EReal) * p 2 + ((q 0 : EReal) * q 0 + (q 1 : EReal) * q 1 + (q 2 : EReal) * q 2)
      - Ideal.ofBits .f32 1073741824#32 * ∑ j, (p j : EReal) * (q j : EReal) = (sqdist p q : EReal) := by
  rw [ofBits_two]
  simp only [← EReal.coe_mul, coe_sum, ← EReal.coe_add, ← EReal.coe_sub]
  rw [sqdist, Fin.sum_univ_three (fun j => p j * p j), Fin.sum_univ_three (fun j => q j * q j)]

theorem named_far : (Named.named (F := Ideal) (φ := .f32) κ "far" 2137108966#32 : EReal) = ⊤ := IdealRules.named_const.ideal_named_scalar _ _ _ _ rfl
theorem named_low : (Named.named (F := Ideal) (φ := .f32) κ "low" 4284592614#32 : EReal) = ⊥ := IdealRules.named_const.ideal_named_scalar _ _ _ _ rfl

/-- The greatest of the first `k` values; minus infinity at first. -/
def upTo (f : ℕ → ℝ) : ℕ → EReal
  | 0 => ⊥
  | k + 1 => max (upTo f k) (f k)

theorem upTo_eq (f : ℕ → ℝ) (K : ℕ) [NeZero K] : upTo f K = (most (fun k : Fin K => f k) : EReal) := by
  have h : ∀ k, ∀ z : EReal, upTo f k ≤ z ↔ ∀ j < k, (f j : EReal) ≤ z := by
    intro k z
    induction k with
    | zero => simp [upTo]
    | succ k ih =>
      rw [upTo, max_le_iff, ih, Nat.forall_lt_succ_right]
  apply le_antisymm
  · rw [h]
    exact fun j hj => EReal.coe_le_coe_iff.2 (le_most (fun k : Fin K => f k) ⟨j, hj⟩)
  · exact (h K _).1 le_rfl _ (firstMax fun k : Fin K => f k).isLt

/-! ## Groups around 512 of 2048 points -/

namespace Grp0

section
variable {v0 : S1x2048x128.Idx → EReal} {v2 v4 v6 v8 : S1x128.Idx → EReal} {v20 : S128x128.Idx → EReal}
  {v22 v25 : S2048x128.Idx → EReal} {v26 v28 v30 : S1x1x2048.Idx → EReal} {v27 v29 v31 : S1x2048.Idx → EReal} {v32 : S1x512x1.Idx → BitVec 32} {v34 : S512x2048.Idx → BitVec 32} {v51 : S512x128.Idx → EReal}
  {v64 : S1x3x2048.Idx → EReal} {acc : S512x128.Idx → EReal} {d : S512x2048.Idx → EReal}
  {y : Fin 2048 → Fin 128 → ℝ} {m v g b : Fin 128 → ℝ} {p : Fin 2048 → Fin 3 → ℝ} {t : Fin 512 → Fin 2048} {k : ℕ}

/-- The features: normalised, scaled, shifted, relu. -/
theorem pay13 (h0 : ∀ a n o, v0 (ix3 a n o) = (y n o : EReal)) (hm : ∀ a o, v2 (ix2 a o) = (m o : EReal))
    (hr : ∀ a o, v4 (ix2 a o) = (((Real.sqrt (v o + eps))⁻¹ : ℝ) : EReal)) (hg : ∀ a o, v6 (ix2 a o) = (g o : EReal)) (hb : ∀ a o, v8 (ix2 a o) = (b o : EReal))
    (n : Fin 2048) (o : Fin 128) : k2_pay13 (F := Ideal) v0 v2 v4 v6 v8 (ix2 n o) = (relu (bn (m o) (v o) (g o) (b o) (y n o)) : EReal) := by
  unfold k2_pay13
  pointwise
  rw [h0, hm, hr, hg, hb]
  exact relu_bn_coe _ _ _ _ _

/-- The features through a linear map. -/
theorem pay14 {W : Fin 128 → Fin 128 → ℝ} (h0 : ∀ a n o, v0 (ix3 a n o) = (y n o : EReal)) (hm : ∀ a o, v2 (ix2 a o) = (m o : EReal))
    (hr : ∀ a o, v4 (ix2 a o) = (((Real.sqrt (v o + eps))⁻¹ : ℝ) : EReal)) (hg : ∀ a o, v6 (ix2 a o) = (g o : EReal)) (hb : ∀ a o, v8 (ix2 a o) = (b o : EReal))
    (hW : ∀ c o, v20 (ix2 c o) = (W c o : EReal)) (n : Fin 2048) (o : Fin 128) :
    k2_pay14 (F := Ideal) v0 v2 v4 v6 v8 v20 (ix2 n o) = ((∑ c, relu (bn (m c) (v c) (g c) (b c) (y n c)) * W c o : ℝ) : EReal) := by
  unfold k2_pay14
  pointwise
  simp only [pay13 h0 hm hr hg hb, hW, ← EReal.coe_mul, coe_sum]
theorem pay15 {W : Fin 128 → Fin 128 → ℝ} (h0 : ∀ a n o, v0 (ix3 a n o) = (y n o : EReal)) (hm : ∀ a o, v2 (ix2 a o) = (m o : EReal))
    (hr : ∀ a o, v4 (ix2 a o) = (((Real.sqrt (v o + eps))⁻¹ : ℝ) : EReal)) (hg : ∀ a o, v6 (ix2 a o) = (g o : EReal)) (hb : ∀ a o, v8 (ix2 a o) = (b o : EReal))
    (hW : ∀ c o, v20 (ix2 c o) = (W c o : EReal)) (n : Fin 2048) (o : Fin 128) :
    k2_pay15 (F := Ideal) v0 v2 v4 v6 v8 v20 (ix2 n o) = ((∑ c, relu (bn (m c) (v c) (g c) (b c) (y n c)) * W c o : ℝ) : EReal) := by
  unfold k2_pay15
  pointwise
  simp only [pay13 h0 hm hr hg hb, hW, ← EReal.coe_mul, coe_sum]

/-- The rows of coordinates. -/
theorem pay16 (h : ∀ a b n, v26 (ix3 a b n) = (p n 0 : EReal)) (a : Fin 1) (n : Fin 2048) : k2_pay16 (F := Ideal) v26 (ix2 a n) = (p n 0 : EReal) := by
  unfold k2_pay16
  pointwise
  exact h _ _ _
theorem pay17 (h : ∀ a b n, v28 (ix3 a b n) = (p n 1 : EReal)) (a : Fin 1) (n : Fin 2048) : k2_pay17 (F := Ideal) v28 (ix2 a n) = (p n 1 : EReal) := by
  unfold k2_pay17
  pointwise
  exact h _ _ _
theorem pay18 (h : ∀ a b n, v30 (ix3 a b n) = (p n 2 : EReal)) (a : Fin 1) (n : Fin 2048) : k2_pay18 (F := Ideal) v30 (ix2 a n) = (p n 2 : EReal) := by
  unfold k2_pay18
  pointwise
  exact h _ _ _

/-- The chosen points' coordinates. -/
theorem pay20 (h : ∀ a n, v27 (ix2 a n) = (p n 0 : EReal)) (ht : ∀ a s b, v32 (ix3 a s b) = word (t s)) (s : Fin 512) (a : Fin 1) :
    k2_pay20 (F := Ideal) v27 v32 (ix2 s a) = (p (t s) 0 : EReal) := by
  unfold k2_pay20 k2_pay19
  pointwise
  simp only [h, ht]
  exact pick_hot (by norm_num) (fun n => (p n 0 : EReal)) (t s)
theorem pay21 (h : ∀ a n, v29 (ix2 a n) = (p n 1 : EReal)) (ht : ∀ a s b, v32 (ix3 a s b) = word (t s)) (s : Fin 512) (a : Fin 1) :
    k2_pay21 (F := Ideal) v29 v32 (ix2 s a) = (p (t s) 1 : EReal) := by
  unfold k2_pay21 k2_pay19
  pointwise
  simp only [h, ht]
  exact pick_hot (by norm_num) (fun n => (p n 1 : EReal)) (t s)
theorem pay22 (h : ∀ a n, v31 (ix2 a n) = (p n 2 : EReal)) (ht : ∀ a s b, v32 (ix3 a s b) = word (t s)) (s : Fin 512) (a : Fin 1) :
    k2_pay22 (F := Ideal) v31 v32 (ix2 s a) = (p (t s) 2 : EReal) := by
  unfold k2_pay22 k2_pay19
  pointwise
  simp only [h, ht]
  exact pick_hot (by norm_num) (fun n => (p n 2 : EReal)) (t s)

/-- The centre's share of the map, gathered. -/
theorem pay23 {C : Fin 2048 → Fin 128 → ℝ} (h : ∀ n o, v25 (ix2 n o) = (C n o : EReal)) (ht : ∀ a s b, v32 (ix3 a s b) = word (t s)) (s : Fin 512) (o : Fin 128) :
    k2_pay23 (F := Ideal) v25 v32 (ix2 s o) = (C (t s) o : EReal) := by
  unfold k2_pay23 k2_pay19
  pointwise
  simp only [h, ht]
  exact pick_hot (by norm_num) (fun n => (C n o : EReal)) (t s)

theorem pay24 (h27 : ∀ a n, v27 (ix2 a n) = (p n 0 : EReal)) (h29 : ∀ a n, v29 (ix2 a n) = (p n 1 : EReal)) (h31 : ∀ a n, v31 (ix2 a n) = (p n 2 : EReal))
    (ht : ∀ a s b, v32 (ix3 a s b) = word (t s)) (s : Fin 512) (j : Fin 3) : k2_pay24 (F := Ideal) v27 v29 v31 v32 (ix2 s j) = (p (t s) j : EReal) := by
  unfold k2_pay24
  pointwise
  simp only [pay20 h27 ht, pay21 h29 ht, pay22 h31 ht]
  exact three (p (t s)) j

theorem pay26 (h27 : ∀ a n, v27 (ix2 a n) = (p n 0 : EReal)) (h29 : ∀ a n, v29 (ix2 a n) = (p n 1 : EReal)) (h31 : ∀ a n, v31 (ix2 a n) = (p n 2 : EReal))
    (ht : ∀ a s b, v32 (ix3 a s b) = word (t s)) (a : Fin 1) (s : Fin 512) (j : Fin 3) : k2_pay26 (F := Ideal) v27 v29 v31 v32 (ix3 a s j) = (p (t s) j : EReal) := by
  unfold k2_pay26
  pointwise
  exact pay24 h27 h29 h31 ht s j

/-- The squared distances to the chosen points. -/
theorem pay25 (h27 : ∀ a n, v27 (ix2 a n) = (p n 0 : EReal)) (h29 : ∀ a n, v29 (ix2 a n) = (p n 1 : EReal)) (h31 : ∀ a n, v31 (ix2 a n) = (p n 2 : EReal))
    (ht : ∀ a s b, v32 (ix3 a s b) = word (t s)) (h64 : ∀ a j n, v64 (ix3 a j n) = (p n j : EReal)) (s : Fin 512) (n : Fin 2048) :
    k2_pay25 (F := Ideal) v27 v29 v31 v32 v64 (ix2 s n) = (sqdist (p (t s)) (p n) : EReal) := by
  unfold k2_pay25
  pointwise
  simp only [pay20 h27 ht, pay21 h29 ht, pay22 h31 ht, pay24 h27 h29 h31 ht, h27, h29, h31, h64]
  exact sqdist_coe _ _

/-! One round: the nearest point not yet taken. -/

variable {D : Fin 512 → Fin 2048 → ℝ}

theorem pay4 (hl : ∀ s n, v34 (ix2 s n) = word n) (hd : ∀ s n, d (ix2 s n) = struck (D s) k n) (s : Fin 512) (n : Fin 2048) :
    k2_pay4 (F := Ideal) v34 d (ix2 s n) = BitVec.ofBool (decide (n = near (D s) k)) := by
  unfold k2_pay4
  pointwise
  simp only [hl, hd]
  have e := first_min (by norm_num) (M := 2048#32) (by decide) (struck (D s) k)
  exact (congrArg (IntOp.cmpi .eq (word n)) e).trans (cmpi_word (by norm_num) _ _)

theorem pay9 (hl : ∀ s n, v34 (ix2 s n) = word n) (hd : ∀ s n, d (ix2 s n) = struck (D s) k n) (s : Fin 512) (n : Fin 2048) :
    k2_pay9 (F := Ideal) v34 d (ix2 s n) = struck (D s) (k + 1) n := by
  unfold k2_pay9
  pointwise
  rw [pay4 hl hd, select_ofBool, hd, named_far, struck_succ]

theorem pay5 {A C : Fin 2048 → Fin 128 → ℝ} (hl : ∀ s n, v34 (ix2 s n) = word n) (hd : ∀ s n, d (ix2 s n) = struck (D s) k n) (hA : ∀ n o, v22 (ix2 n o) = (A n o : EReal))
    (hC : ∀ s o, v51 (ix2 s o) = (C (t s) o : EReal)) (s : Fin 512) (o : Fin 128) :
    k2_pay5 (F := Ideal) v22 v34 v51 d (ix2 s o) = ((A (near (D s) k) o + C (t s) o : ℝ) : EReal) := by
  unfold k2_pay5
  pointwise
  simp only [pay4 hl hd, hA, hC]
  rw [EReal.coe_add]
  refine congrArg (fun z : EReal => z + ((C (t s) o : ℝ) : EReal)) ?_
  exact pick_flag (fun n => (A n o : EReal)) _

theorem pay6 {A C : Fin 2048 → Fin 128 → ℝ} (hl : ∀ s n, v34 (ix2 s n) = word n) (hd : ∀ s n, d (ix2 s n) = struck (D s) k n) (hA : ∀ n o, v22 (ix2 n o) = (A n o : EReal))
    (hC : ∀ s o, v51 (ix2 s o) = (C (t s) o : EReal)) (ha : ∀ s o, acc (ix2 s o) = upTo (fun k => A (near (D s) k) o + C (t s) o) k) (s : Fin 512) (o : Fin 128) :
    k2_pay6 (F := Ideal) v22 v34 v51 d acc (ix2 s o) = upTo (fun k => A (near (D s) k) o + C (t s) o) (k + 1) := by
  unfold k2_pay6
  pointwise
  rw [pay5 hl hd hA hC, ha]
  rfl

theorem pay7 {A C : Fin 2048 → Fin 128 → ℝ} (hl : ∀ s n, v34 (ix2 s n) = word n) (hd : ∀ s n, d (ix2 s n) = struck (D s) k n) (hA : ∀ n o, v22 (ix2 n o) = (A n o : EReal))
    (hC : ∀ s o, v51 (ix2 s o) = (C (t s) o : EReal)) (ha : ∀ s o, acc (ix2 s o) = ((∑ k ∈ Finset.range k, (A (near (D s) k) o + C (t s) o) : ℝ) : EReal)) (s : Fin 512) (o : Fin 128) :
    k2_pay7 (F := Ideal) v22 v34 v51 d acc (ix2 s o) = ((∑ k ∈ Finset.range (k + 1), (A (near (D s) k) o + C (t s) o) : ℝ) : EReal) := by
  unfold k2_pay7
  pointwise
  rw [pay5 hl hd hA hC, ha, Finset.sum_range_succ, ← EReal.coe_add]

theorem pay8 {A C : Fin 2048 → Fin 128 → ℝ} (hl : ∀ s n, v34 (ix2 s n) = word n) (hd : ∀ s n, d (ix2 s n) = struck (D s) k n) (hA : ∀ n o, v22 (ix2 n o) = (A n o : EReal))
    (hC : ∀ s o, v51 (ix2 s o) = (C (t s) o : EReal))
    (ha : ∀ s o, acc (ix2 s o) = ((∑ k ∈ Finset.range k, (A (near (D s) k) o + C (t s) o) * (A (near (D s) k) o + C (t s) o) : ℝ) : EReal)) (s : Fin 512) (o : Fin 128) :
    k2_pay8 (F := Ideal) v22 v34 v51 d acc (ix2 s o) = ((∑ k ∈ Finset.range (k + 1), (A (near (D s) k) o + C (t s) o) * (A (near (D s) k) o + C (t s) o) : ℝ) : EReal) := by
  unfold k2_pay8
  pointwise
  rw [pay5 hl hd hA hC, ha, Finset.sum_range_succ, ← EReal.coe_mul, ← EReal.coe_add]

/-! The rounds begin, and what is left of them. -/

theorem pay1 (f : ℕ → ℝ) (s : Fin 512) (o : Fin 128) : k2_pay1 (F := Ideal) (ix2 s o) = upTo f 0 := by
  unfold k2_pay1
  pointwise
  exact named_low
theorem pay2 (s : Fin 512) (o : Fin 128) : k2_pay2 (F := Ideal) (ix2 s o) = 0 := by
  unfold k2_pay2
  pointwise
theorem pay3 (s : Fin 512) (o : Fin 128) : k2_pay3 (F := Ideal) (ix2 s o) = 0 := by
  unfold k2_pay3
  pointwise

theorem pay10 (a : Fin 1) (s : Fin 512) (o : Fin 128) : k2_pay10 (F := Ideal) acc (ix3 a s o) = acc (ix2 s o) := by
  unfold k2_pay10
  pointwise
theorem pay11 {f : Fin 512 → Fin 128 → ℝ} (h : ∀ s o, acc (ix2 s o) = (f s o : EReal)) (a b : Fin 1) (o : Fin 128) :
    k2_pay11 (F := Ideal) acc (ix3 a b o) = ((∑ s, f s o : ℝ) : EReal) := by
  unfold k2_pay11
  pointwise
  simp only [h, coe_sum]
theorem pay12 {f : Fin 512 → Fin 128 → ℝ} (h : ∀ s o, acc (ix2 s o) = (f s o : EReal)) (a b : Fin 1) (o : Fin 128) :
    k2_pay12 (F := Ideal) acc (ix3 a b o) = ((∑ s, f s o : ℝ) : EReal) := by
  unfold k2_pay12
  pointwise
  simp only [h, coe_sum]

end

end Grp0

/-! ## Groups around 128 of 512 points -/

namespace Grp1

section
variable {v0 : S1x512x128.Idx → EReal} {v2 v4 v6 v8 : S1x128.Idx → EReal} {v20 : S128x128.Idx → EReal}
  {v22 v25 : S512x128.Idx → EReal} {v26 v28 v30 : S1x1x512.Idx → EReal} {v27 v29 v31 : S1x512.Idx → EReal} {v32 : S1x128x1.Idx → BitVec 32} {v34 : S128x512.Idx → BitVec 32} {v51 : S128x128.Idx → EReal}
  {v64 : S1x3x512.Idx → EReal} {acc : S128x128.Idx → EReal} {d : S128x512.Idx → EReal}
  {y : Fin 512 → Fin 128 → ℝ} {m v g b : Fin 128 → ℝ} {p : Fin 512 → Fin 3 → ℝ} {t : Fin 128 → Fin 512} {k : ℕ}

/-- The features: normalised, scaled, shifted, relu. -/
theorem pay13 (h0 : ∀ a n o, v0 (ix3 a n o) = (y n o : EReal)) (hm : ∀ a o, v2 (ix2 a o) = (m o : EReal))
    (hr : ∀ a o, v4 (ix2 a o) = (((Real.sqrt (v o + eps))⁻¹ : ℝ) : EReal)) (hg : ∀ a o, v6 (ix2 a o) = (g o : EReal)) (hb : ∀ a o, v8 (ix2 a o) = (b o : EReal))
    (n : Fin 512) (o : Fin 128) : k4_pay13 (F := Ideal) v0 v2 v4 v6 v8 (ix2 n o) = (relu (bn (m o) (v o) (g o) (b o) (y n o)) : EReal) := by
  unfold k4_pay13
  pointwise
  rw [h0, hm, hr, hg, hb]
  exact relu_bn_coe _ _ _ _ _

/-- The features through a linear map. -/
theorem pay14 {W : Fin 128 → Fin 128 → ℝ} (h0 : ∀ a n o, v0 (ix3 a n o) = (y n o : EReal)) (hm : ∀ a o, v2 (ix2 a o) = (m o : EReal))
    (hr : ∀ a o, v4 (ix2 a o) = (((Real.sqrt (v o + eps))⁻¹ : ℝ) : EReal)) (hg : ∀ a o, v6 (ix2 a o) = (g o : EReal)) (hb : ∀ a o, v8 (ix2 a o) = (b o : EReal))
    (hW : ∀ c o, v20 (ix2 c o) = (W c o : EReal)) (n : Fin 512) (o : Fin 128) :
    k4_pay14 (F := Ideal) v0 v2 v4 v6 v8 v20 (ix2 n o) = ((∑ c, relu (bn (m c) (v c) (g c) (b c) (y n c)) * W c o : ℝ) : EReal) := by
  unfold k4_pay14
  pointwise
  simp only [pay13 h0 hm hr hg hb, hW, ← EReal.coe_mul, coe_sum]
theorem pay15 {W : Fin 128 → Fin 128 → ℝ} (h0 : ∀ a n o, v0 (ix3 a n o) = (y n o : EReal)) (hm : ∀ a o, v2 (ix2 a o) = (m o : EReal))
    (hr : ∀ a o, v4 (ix2 a o) = (((Real.sqrt (v o + eps))⁻¹ : ℝ) : EReal)) (hg : ∀ a o, v6 (ix2 a o) = (g o : EReal)) (hb : ∀ a o, v8 (ix2 a o) = (b o : EReal))
    (hW : ∀ c o, v20 (ix2 c o) = (W c o : EReal)) (n : Fin 512) (o : Fin 128) :
    k4_pay15 (F := Ideal) v0 v2 v4 v6 v8 v20 (ix2 n o) = ((∑ c, relu (bn (m c) (v c) (g c) (b c) (y n c)) * W c o : ℝ) : EReal) := by
  unfold k4_pay15
  pointwise
  simp only [pay13 h0 hm hr hg hb, hW, ← EReal.coe_mul, coe_sum]

/-- The rows of coordinates. -/
theorem pay16 (h : ∀ a b n, v26 (ix3 a b n) = (p n 0 : EReal)) (a : Fin 1) (n : Fin 512) : k4_pay16 (F := Ideal) v26 (ix2 a n) = (p n 0 : EReal) := by
  unfold k4_pay16
  pointwise
  exact h _ _ _
theorem pay17 (h : ∀ a b n, v28 (ix3 a b n) = (p n 1 : EReal)) (a : Fin 1) (n : Fin 512) : k4_pay17 (F := Ideal) v28 (ix2 a n) = (p n 1 : EReal) := by
  unfold k4_pay17
  pointwise
  exact h _ _ _
theorem pay18 (h : ∀ a b n, v30 (ix3 a b n) = (p n 2 : EReal)) (a : Fin 1) (n : Fin 512) : k4_pay18 (F := Ideal) v30 (ix2 a n) = (p n 2 : EReal) := by
  unfold k4_pay18
  pointwise
  exact h _ _ _

/-- The chosen points' coordinates. -/
theorem pay20 (h : ∀ a n, v27 (ix2 a n) = (p n 0 : EReal)) (ht : ∀ a s b, v32 (ix3 a s b) = word (t s)) (s : Fin 128) (a : Fin 1) :
    k4_pay20 (F := Ideal) v27 v32 (ix2 s a) = (p (t s) 0 : EReal) := by
  unfold k4_pay20 k4_pay19
  pointwise
  simp only [h, ht]
  exact pick_hot (by norm_num) (fun n => (p n 0 : EReal)) (t s)
theorem pay21 (h : ∀ a n, v29 (ix2 a n) = (p n 1 : EReal)) (ht : ∀ a s b, v32 (ix3 a s b) = word (t s)) (s : Fin 128) (a : Fin 1) :
    k4_pay21 (F := Ideal) v29 v32 (ix2 s a) = (p (t s) 1 : EReal) := by
  unfold k4_pay21 k4_pay19
  pointwise
  simp only [h, ht]
  exact pick_hot (by norm_num) (fun n => (p n 1 : EReal)) (t s)
theorem pay22 (h : ∀ a n, v31 (ix2 a n) = (p n 2 : EReal)) (ht : ∀ a s b, v32 (ix3 a s b) = word (t s)) (s : Fin 128) (a : Fin 1) :
    k4_pay22 (F := Ideal) v31 v32 (ix2 s a) = (p (t s) 2 : EReal) := by
  unfold k4_pay22 k4_pay19
  pointwise
  simp only [h, ht]
  exact pick_hot (by norm_num) (fun n => (p n 2 : EReal)) (t s)

/-- The centre's share of the map, gathered. -/
theorem pay23 {C : Fin 512 → Fin 128 → ℝ} (h : ∀ n o, v25 (ix2 n o) = (C n o : EReal)) (ht : ∀ a s b, v32 (ix3 a s b) = word (t s)) (s : Fin 128) (o : Fin 128) :
    k4_pay23 (F := Ideal) v25 v32 (ix2 s o) = (C (t s) o : EReal) := by
  unfold k4_pay23 k4_pay19
  pointwise
  simp only [h, ht]
  exact pick_hot (by norm_num) (fun n => (C n o : EReal)) (t s)

theorem pay24 (h27 : ∀ a n, v27 (ix2 a n) = (p n 0 : EReal)) (h29 : ∀ a n, v29 (ix2 a n) = (p n 1 : EReal)) (h31 : ∀ a n, v31 (ix2 a n) = (p n 2 : EReal))
    (ht : ∀ a s b, v32 (ix3 a s b) = word (t s)) (s : Fin 128) (j : Fin 3) : k4_pay24 (F := Ideal) v27 v29 v31 v32 (ix2 s j) = (p (t s) j : EReal) := by
  unfold k4_pay24
  pointwise
  simp only [pay20 h27 ht, pay21 h29 ht, pay22 h31 ht]
  exact three (p (t s)) j

theorem pay26 (h27 : ∀ a n, v27 (ix2 a n) = (p n 0 : EReal)) (h29 : ∀ a n, v29 (ix2 a n) = (p n 1 : EReal)) (h31 : ∀ a n, v31 (ix2 a n) = (p n 2 : EReal))
    (ht : ∀ a s b, v32 (ix3 a s b) = word (t s)) (a : Fin 1) (s : Fin 128) (j : Fin 3) : k4_pay26 (F := Ideal) v27 v29 v31 v32 (ix3 a s j) = (p (t s) j : EReal) := by
  unfold k4_pay26
  pointwise
  exact pay24 h27 h29 h31 ht s j

/-- The squared distances to the chosen points. -/
theorem pay25 (h27 : ∀ a n, v27 (ix2 a n) = (p n 0 : EReal)) (h29 : ∀ a n, v29 (ix2 a n) = (p n 1 : EReal)) (h31 : ∀ a n, v31 (ix2 a n) = (p n 2 : EReal))
    (ht : ∀ a s b, v32 (ix3 a s b) = word (t s)) (h64 : ∀ a j n, v64 (ix3 a j n) = (p n j : EReal)) (s : Fin 128) (n : Fin 512) :
    k4_pay25 (F := Ideal) v27 v29 v31 v32 v64 (ix2 s n) = (sqdist (p (t s)) (p n) : EReal) := by
  unfold k4_pay25
  pointwise
  simp only [pay20 h27 ht, pay21 h29 ht, pay22 h31 ht, pay24 h27 h29 h31 ht, h27, h29, h31, h64]
  exact sqdist_coe _ _

/-! One round: the nearest point not yet taken. -/

variable {D : Fin 128 → Fin 512 → ℝ}

theorem pay4 (hl : ∀ s n, v34 (ix2 s n) = word n) (hd : ∀ s n, d (ix2 s n) = struck (D s) k n) (s : Fin 128) (n : Fin 512) :
    k4_pay4 (F := Ideal) v34 d (ix2 s n) = BitVec.ofBool (decide (n = near (D s) k)) := by
  unfold k4_pay4
  pointwise
  simp only [hl, hd]
  have e := first_min (by norm_num) (M := 512#32) (by decide) (struck (D s) k)
  exact (congrArg (IntOp.cmpi .eq (word n)) e).trans (cmpi_word (by norm_num) _ _)

theorem pay9 (hl : ∀ s n, v34 (ix2 s n) = word n) (hd : ∀ s n, d (ix2 s n) = struck (D s) k n) (s : Fin 128) (n : Fin 512) :
    k4_pay9 (F := Ideal) v34 d (ix2 s n) = struck (D s) (k + 1) n := by
  unfold k4_pay9
  pointwise
  rw [pay4 hl hd, select_ofBool, hd, named_far, struck_succ]

theorem pay5 {A C : Fin 512 → Fin 128 → ℝ} (hl : ∀ s n, v34 (ix2 s n) = word n) (hd : ∀ s n, d (ix2 s n) = struck (D s) k n) (hA : ∀ n o, v22 (ix2 n o) = (A n o : EReal))
    (hC : ∀ s o, v51 (ix2 s o) = (C (t s) o : EReal)) (s : Fin 128) (o : Fin 128) :
    k4_pay5 (F := Ideal) v22 v34 v51 d (ix2 s o) = ((A (near (D s) k) o + C (t s) o : ℝ) : EReal) := by
  unfold k4_pay5
  pointwise
  simp only [pay4 hl hd, hA, hC]
  rw [EReal.coe_add]
  refine congrArg (fun z : EReal => z + ((C (t s) o : ℝ) : EReal)) ?_
  exact pick_flag (fun n => (A n o : EReal)) _

theorem pay6 {A C : Fin 512 → Fin 128 → ℝ} (hl : ∀ s n, v34 (ix2 s n) = word n) (hd : ∀ s n, d (ix2 s n) = struck (D s) k n) (hA : ∀ n o, v22 (ix2 n o) = (A n o : EReal))
    (hC : ∀ s o, v51 (ix2 s o) = (C (t s) o : EReal)) (ha : ∀ s o, acc (ix2 s o) = upTo (fun k => A (near (D s) k) o + C (t s) o) k) (s : Fin 128) (o : Fin 128) :
    k4_pay6 (F := Ideal) v22 v34 v51 d acc (ix2 s o) = upTo (fun k => A (near (D s) k) o + C (t s) o) (k + 1) := by
  unfold k4_pay6
  pointwise
  rw [pay5 hl hd hA hC, ha]
  rfl

theorem pay7 {A C : Fin 512 → Fin 128 → ℝ} (hl : ∀ s n, v34 (ix2 s n) = word n) (hd : ∀ s n, d (ix2 s n) = struck (D s) k n) (hA : ∀ n o, v22 (ix2 n o) = (A n o : EReal))
    (hC : ∀ s o, v51 (ix2 s o) = (C (t s) o : EReal)) (ha : ∀ s o, acc (ix2 s o) = ((∑ k ∈ Finset.range k, (A (near (D s) k) o + C (t s) o) : ℝ) : EReal)) (s : Fin 128) (o : Fin 128) :
    k4_pay7 (F := Ideal) v22 v34 v51 d acc (ix2 s o) = ((∑ k ∈ Finset.range (k + 1), (A (near (D s) k) o + C (t s) o) : ℝ) : EReal) := by
  unfold k4_pay7
  pointwise
  rw [pay5 hl hd hA hC, ha, Finset.sum_range_succ, ← EReal.coe_add]

theorem pay8 {A C : Fin 512 → Fin 128 → ℝ} (hl : ∀ s n, v34 (ix2 s n) = word n) (hd : ∀ s n, d (ix2 s n) = struck (D s) k n) (hA : ∀ n o, v22 (ix2 n o) = (A n o : EReal))
    (hC : ∀ s o, v51 (ix2 s o) = (C (t s) o : EReal))
    (ha : ∀ s o, acc (ix2 s o) = ((∑ k ∈ Finset.range k, (A (near (D s) k) o + C (t s) o) * (A (near (D s) k) o + C (t s) o) : ℝ) : EReal)) (s : Fin 128) (o : Fin 128) :
    k4_pay8 (F := Ideal) v22 v34 v51 d acc (ix2 s o) = ((∑ k ∈ Finset.range (k + 1), (A (near (D s) k) o + C (t s) o) * (A (near (D s) k) o + C (t s) o) : ℝ) : EReal) := by
  unfold k4_pay8
  pointwise
  rw [pay5 hl hd hA hC, ha, Finset.sum_range_succ, ← EReal.coe_mul, ← EReal.coe_add]

/-! The rounds begin, and what is left of them. -/

theorem pay1 (f : ℕ → ℝ) (s : Fin 128) (o : Fin 128) : k4_pay1 (F := Ideal) (ix2 s o) = upTo f 0 := by
  unfold k4_pay1
  pointwise
  exact named_low
theorem pay2 (s : Fin 128) (o : Fin 128) : k4_pay2 (F := Ideal) (ix2 s o) = 0 := by
  unfold k4_pay2
  pointwise
theorem pay3 (s : Fin 128) (o : Fin 128) : k4_pay3 (F := Ideal) (ix2 s o) = 0 := by
  unfold k4_pay3
  pointwise

theorem pay10 (a : Fin 1) (s : Fin 128) (o : Fin 128) : k4_pay10 (F := Ideal) acc (ix3 a s o) = acc (ix2 s o) := by
  unfold k4_pay10
  pointwise
theorem pay11 {f : Fin 128 → Fin 128 → ℝ} (h : ∀ s o, acc (ix2 s o) = (f s o : EReal)) (a b : Fin 1) (o : Fin 128) :
    k4_pay11 (F := Ideal) acc (ix3 a b o) = ((∑ s, f s o : ℝ) : EReal) := by
  unfold k4_pay11
  pointwise
  simp only [h, coe_sum]
theorem pay12 {f : Fin 128 → Fin 128 → ℝ} (h : ∀ s o, acc (ix2 s o) = (f s o : EReal)) (a b : Fin 1) (o : Fin 128) :
    k4_pay12 (F := Ideal) acc (ix3 a b o) = ((∑ s, f s o : ℝ) : EReal) := by
  unfold k4_pay12
  pointwise
  simp only [h, coe_sum]

end

end Grp1

end Cert.Proof.Ker

end
-- ==== Proof.Region2.lean ====
/-
  The third call's arrays: around each of the 512 chosen points the 32 nearest of 2048, and of the map of their features the largest
  value, the sum and the sum of squares.
-/
module

public import proofs.«01_k».proof.Proof.Gen.KernelIdeal.Frame
public import proofs.«01_k».proof.Proof.KerGroup
public import Idealize.ShloMosaic.Lib.Pipeline.ValueKit

@[expose] public section

set_option maxRecDepth 16384

noncomputable section

namespace Cert.Proof.Ker.Grp0

open Idealize.ShloMosaic Idealize.ShloMosaic.TcCoe
open Idealize.SL Idealize.SL.RA
open Cert.KernelIdeal Cert.KernelIdeal.Gen Cert.Proof.Select Cert.Proof.Spec Cert.Proof.Reals Cert.Proof.Lanes
open scoped BigOperators

/-- The state before round `k`: the distances left, the largest value so far, the sum so far, the sum of squares so far. -/
def State (D : Fin 512 → Fin 2048 → ℝ) (z : Fin 512 → Fin 128 → ℕ → ℝ) (k : ℕ)
    (a : FVec Ideal S512x2048 .f32 × FVec Ideal S512x128 .f32 × FVec Ideal S512x128 .f32 × FVec Ideal S512x128 .f32) : Prop :=
  (∀ s n, a.1 (ix2 s n) = struck (D s) k n) ∧ (∀ s o, a.2.1 (ix2 s o) = upTo (z s o) k)
    ∧ (∀ s o, a.2.2.1 (ix2 s o) = ((∑ k ∈ Finset.range k, z s o k : ℝ) : EReal))
    ∧ ∀ s o, a.2.2.2 (ix2 s o) = ((∑ k ∈ Finset.range k, z s o k * z s o k : ℝ) : EReal)

section Rounds

variable {v22 : S2048x128.Idx → EReal} {v34 : S512x2048.Idx → BitVec 32} {v51 : S512x128.Idx → EReal} {d : S512x2048.Idx → EReal}
  {D : Fin 512 → Fin 2048 → ℝ} {A C : Fin 2048 → Fin 128 → ℝ} {t : Fin 512 → Fin 2048}

/-- A round takes the state to the next. -/
theorem round (hl : ∀ s n, v34 (ix2 s n) = word n) (hA : ∀ n o, v22 (ix2 n o) = (A n o : EReal)) (hC : ∀ s o, v51 (ix2 s o) = (C (t s) o : EReal))
    {k : ℕ} {a : FVec Ideal S512x2048 .f32 × FVec Ideal S512x128 .f32 × FVec Ideal S512x128 .f32 × FVec Ideal S512x128 .f32}
    (h : State D (fun s o k => A (near (D s) k) o + C (t s) o) k a) :
    State D (fun s o k => A (near (D s) k) o + C (t s) o) (k + 1)
      (k2_pay9 (F := Ideal) v34 a.1, k2_pay6 (F := Ideal) v22 v34 v51 a.1 a.2.1, k2_pay7 (F := Ideal) v22 v34 v51 a.1 a.2.2.1,
        k2_pay8 (F := Ideal) v22 v34 v51 a.1 a.2.2.2) := by
  have h9 := fun s n => pay9 (k := k) hl h.1 s n
  have h6 := fun s o => pay6 (k := k) hl h.1 hA hC h.2.1 s o
  have h7 := fun s o => pay7 (k := k) hl h.1 hA hC h.2.2.1 s o
  have h8 := fun s o => pay8 (k := k) hl h.1 hA hC h.2.2.2 s o
  unfold State
  dsimp only
  exact ⟨h9, h6, h7, h8⟩

/-- All the rounds. -/
theorem rounds (hl : ∀ s n, v34 (ix2 s n) = word n) (hA : ∀ n o, v22 (ix2 n o) = (A n o : EReal)) (hC : ∀ s o, v51 (ix2 s o) = (C (t s) o : EReal))
    (hd : ∀ s n, d (ix2 s n) = (D s n : EReal)) (n : ℕ) :
    State D (fun s o k => A (near (D s) k) o + C (t s) o) n
      (Scf.fold (n := n) (fun _ a => (k2_pay9 (F := Ideal) v34 a.1, k2_pay6 (F := Ideal) v22 v34 v51 a.1 a.2.1,
          k2_pay7 (F := Ideal) v22 v34 v51 a.1 a.2.2.1, k2_pay8 (F := Ideal) v22 v34 v51 a.1 a.2.2.2))
        (d, k2_pay1 (F := Ideal), k2_pay2 (F := Ideal), k2_pay3 (F := Ideal))) := by
  rw [Scf.fold_eq]
  suffices H : ∀ (l : List (Fin n)) (k : ℕ) (a : FVec Ideal S512x2048 .f32 × FVec Ideal S512x128 .f32 × FVec Ideal S512x128 .f32 × FVec Ideal S512x128 .f32),
      State D (fun s o k => A (near (D s) k) o + C (t s) o) k a →
      State D (fun s o k => A (near (D s) k) o + C (t s) o) (k + l.length)
        (l.foldl (fun a _ => (k2_pay9 (F := Ideal) v34 a.1, k2_pay6 (F := Ideal) v22 v34 v51 a.1 a.2.1,
          k2_pay7 (F := Ideal) v22 v34 v51 a.1 a.2.2.1, k2_pay8 (F := Ideal) v22 v34 v51 a.1 a.2.2.2)) a) by
    have h1 : State D (fun s o k => A (near (D s) k) o + C (t s) o) 0 (d, k2_pay1 (F := Ideal), k2_pay2 (F := Ideal), k2_pay3 (F := Ideal)) := by
      unfold State
      dsimp only
      refine ⟨hd, ?_, ?_, ?_⟩ <;> intro s o
      · exact pay1 _ s o
      · rw [Finset.range_zero, Finset.sum_empty]
        exact pay2 s o
      · rw [Finset.range_zero, Finset.sum_empty]
        exact pay3 s o
    have := H (List.finRange n) 0 _ h1
    rwa [List.length_finRange, Nat.zero_add] at this
  intro l
  induction l with
  | nil => exact fun k a h => h
  | cons b l ih =>
    intro k a h
    have := ih (k + 1) _ (round hl hA hC h)
    rw [List.foldl_cons, List.length_cons, show k + (l.length + 1) = k + 1 + l.length by omega]
    exact this

end Rounds

/-! ## One example -/

/-- The parts of one example that the body reads. -/
structure Reads (y : Fin 2048 → Fin 128 → ℝ) (m v g b : Fin 128 → ℝ) (p : Fin 2048 → Fin 3 → ℝ) (t : Fin 512 → Fin 2048) (W U : Fin 128 → Fin 128 → ℝ)
    (X0 : Vec Ideal S1x2048x128 .f32) (X1 : Vec Ideal S4x128 .f32) (X2 : Vec Ideal S1x3x2048 .f32) (X3 : Vec Ideal S1x512x1 .i32)
    (X4 X5 : Vec Ideal S128x128 .f32) : Prop where
  y : ∀ a n o, X0 (ix3 a n o) = (y n o : EReal)
  m : ∀ o, X1 (ix2 0 o) = (m o : EReal)
  r : ∀ o, X1 (ix2 1 o) = (((Real.sqrt (v o + eps))⁻¹ : ℝ) : EReal)
  g : ∀ o, X1 (ix2 2 o) = (g o : EReal)
  b : ∀ o, X1 (ix2 3 o) = (b o : EReal)
  p : ∀ a j n, X2 (ix3 a j n) = (p n j : EReal)
  t : ∀ a s b, X3 (ix3 a s b) = word (t s)
  W : ∀ c o, X4 (ix2 c o) = (W c o : EReal)
  U : ∀ c o, X5 (ix2 c o) = (U c o : EReal)

/-- The features of one example, through a linear map. -/
def through (y : Fin 2048 → Fin 128 → ℝ) (m v g b : Fin 128 → ℝ) (W : Fin 128 → Fin 128 → ℝ) (n : Fin 2048) (o : Fin 128) : ℝ :=
  ∑ c, relu (bn (m c) (v c) (g c) (b c) (y n c)) * W c o

/-- The value of the `k`-th neighbour of the `s`-th chosen point. -/
def value (y : Fin 2048 → Fin 128 → ℝ) (m v g b : Fin 128 → ℝ) (p : Fin 2048 → Fin 3 → ℝ) (t : Fin 512 → Fin 2048) (W U : Fin 128 → Fin 128 → ℝ)
    (s : Fin 512) (o : Fin 128) (k : ℕ) : ℝ :=
  through y m v g b W (near (fun n => sqdist (p (t s)) (p n)) k) o + through y m v g b U (t s) o

section Example

variable (c : Dev nD) (i : grid2.Coords) (arg1 : Memref sig .tc .vmem S1x2048x128 .f32) (harg1 : arg1.IsWhole) (arg2 : Memref sig .tc .vmem S4x128 .f32) (harg2 : arg2.IsWhole)
  (arg3 : Memref sig .tc .vmem S1x3x2048 .f32) (harg3 : arg3.IsWhole) (arg4 : Memref sig .tc .vmem S1x512x1 .i32) (harg4 : arg4.IsWhole)
  (arg5 : Memref sig .tc .vmem S128x128 .f32) (harg5 : arg5.IsWhole) (arg6 : Memref sig .tc .vmem S128x128 .f32) (harg6 : arg6.IsWhole)
  (arg7 : Memref sig .tc .vmem S1x512x128 .f32) (harg7 : arg7.IsWhole) (arg8 : Memref sig .tc .vmem S1x512x3 .f32) (harg8 : arg8.IsWhole)
  (arg9 : Memref sig .tc .vmem S1x1x128 .f32) (harg9 : arg9.IsWhole) (arg10 : Memref sig .tc .vmem S1x1x128 .f32) (harg10 : arg10.IsWhole)

variable {y : Fin 2048 → Fin 128 → ℝ} {m v g b : Fin 128 → ℝ} {p : Fin 2048 → Fin 3 → ℝ} {t : Fin 512 → Fin 2048} {W U : Fin 128 → Fin 128 → ℝ}
  {X0 : Vec Ideal S1x2048x128 .f32} {X1 : Vec Ideal S4x128 .f32} {X2 : Vec Ideal S1x3x2048 .f32} {X3 : Vec Ideal S1x512x1 .i32} {X4 X5 : Vec Ideal S128x128 .f32}
  (h : Reads y m v g b p t W U X0 X1 X2 X3 X4 X5)

include h

/-- The features through the first map, as the body computes them. -/
theorem run_r (n : Fin 2048) (o : Fin 128) : kernelRun2_A.sl.r (F := Ideal) c arg1 harg1 arg2 harg2 arg5 harg5 X0 X1 X4 (ix2 n o) = (through y m v g b W n o : EReal) := by
  unfold kernelRun2_A.sl.r
  refine pay14 (v := v) ?_ ?_ ?_ ?_ ?_ ?_ n o <;> intros <;> rw [View.readAt_eq_ld, Memref.IsWhole.read_unread] <;> pointwise
  · exact h.y _ _ _
  · exact h.m _
  · exact h.r _
  · exact h.g _
  · exact h.b _
  · exact h.W _ _

/-- Through the second map. -/
theorem run_r1 (n : Fin 2048) (o : Fin 128) : kernelRun2_A.sl.r_1 (F := Ideal) c arg1 harg1 arg2 harg2 arg6 harg6 X0 X1 X5 (ix2 n o) = (through y m v g b U n o : EReal) := by
  unfold kernelRun2_A.sl.r_1
  refine pay15 (v := v) ?_ ?_ ?_ ?_ ?_ ?_ n o <;> intros <;> rw [View.readAt_eq_ld, Memref.IsWhole.read_unread] <;> pointwise
  · exact h.y _ _ _
  · exact h.m _
  · exact h.r _
  · exact h.g _
  · exact h.b _
  · exact h.U _ _

/-- The indices as loaded. -/
theorem run_t (a : Fin 1) (s : Fin 512) (b : Fin 1) :
    View.readAt (Elt Ideal) arg4.view (Rect.unit ![0, 0, 0] S1x512x1.size inb_S1x512x1_S1x512x1_0_0_0).toLoadRect (harg4.unread X3) (ix3 a s b) = word (t s) := by
  rw [View.readAt_eq_ld, Memref.IsWhole.read_unread]
  pointwise
  exact h.t _ _ _

/-- The coordinates, row by row. -/
theorem run_p (a : Fin 1) (n : Fin 2048) : kernelRun2_A.sl.r_2 (F := Ideal) c arg3 harg3 X2 (ix2 a n) = (p n 0 : EReal)
    ∧ kernelRun2_A.sl.r_3 (F := Ideal) c arg3 harg3 X2 (ix2 a n) = (p n 1 : EReal) ∧ kernelRun2_A.sl.r_4 (F := Ideal) c arg3 harg3 X2 (ix2 a n) = (p n 2 : EReal) := by
  unfold kernelRun2_A.sl.r_2 kernelRun2_A.sl.r_3 kernelRun2_A.sl.r_4
  refine ⟨pay16 ?_ a n, pay17 ?_ a n, pay18 ?_ a n⟩ <;> intros <;> rw [View.readAt_eq_ld, Memref.IsWhole.read_unread] <;> pointwise <;> exact h.p _ _ _

/-- What the rounds leave. -/
theorem run_state : State (fun s n => sqdist (p (t s)) (p n)) (value y m v g b p t W U) 32
    (kernelRun2_A.sl.r_8 (F := Ideal) c arg1 harg1 arg2 harg2 arg3 harg3 arg4 harg4 arg5 harg5 arg6 harg6 X0 X1 X2 X3 X4 X5) := by
  unfold kernelRun2_A.sl.r_8
  refine rounds (A := through y m v g b W) (C := through y m v g b U) (t := t) (fun s n => ?_) (run_r c arg1 harg1 arg2 harg2 arg5 harg5 h) (fun s o => ?_) (fun s n => ?_) 32
  · unfold kernelRun2_A.sl.v34
    pointwise
  · unfold kernelRun2_A.sl.r_5
    exact pay23 (run_r1 c arg1 harg1 arg2 harg2 arg6 harg6 h) (run_t arg4 harg4 h) s o
  · unfold kernelRun2_A.sl.r_6
    refine pay25 (fun a n => (run_p c arg3 harg3 h a n).1) (fun a n => (run_p c arg3 harg3 h a n).2.1) (fun a n => (run_p c arg3 harg3 h a n).2.2) (run_t arg4 harg4 h) ?_ s n
    intros
    rw [View.readAt_eq_ld, Memref.IsWhole.read_unread]
    pointwise
    exact h.p _ _ _

/-- The largest value of each group. -/
theorem out_6 : out2_A_6 (F := Ideal) c i arg1 harg1 arg2 harg2 arg3 harg3 arg4 harg4 arg5 harg5 arg6 harg6 arg7 harg7 arg8 harg8 arg9 harg9 arg10 harg10 X0 X1 X2 X3 X4 X5 = fun z : S1x512x128.Idx => (upTo (value y m v g b p t W U (z 1) (z 2)) 32 : EReal) := by
  funext z
  unfold out2_A_6
  refine VO2_6.read_writes_apply_of_pieces VO2_6.junk (fun z : S1x512x128.Idx => (upTo (value y m v g b p t W U (z 1) (z 2)) 32 : EReal)) _ ?_ z
    (cover2_A_6 c i arg1 harg1 arg2 harg2 arg3 harg3 arg4 harg4 arg5 harg5 arg6 harg6 arg7 harg7 arg8 harg8 arg9 harg9 arg10 harg10 X0 X1 X2 X3 X4 X5 z)
  unfold kernelRun2_A
  dsimp only
  intro q hq
  obtain rfl := List.mem_singleton.1 hq
  intro z
  refine (congrArg _ (eq_ix3 (z : S1x512x128.Idx))).trans (((pay10 (z 0) (z 1) (z 2)).trans ((run_state c arg1 harg1 arg2 harg2 arg3 harg3 arg4 harg4 arg5 harg5 arg6 harg6 h).2.1 (z 1) (z 2))).trans ?_)
  refine congrArg (fun z : S1x512x128.Idx => (upTo (value y m v g b p t W U (z 1) (z 2)) 32 : EReal)) (Rect.emb_eq_of_coords _ _ _ fun a => ?_).symm
  fin_cases a <;> exact (Nat.zero_add _).trans (Nat.one_mul _) |>.symm

/-- The chosen points' coordinates. -/
theorem out_7 : out2_A_7 (F := Ideal) c i arg1 harg1 arg2 harg2 arg3 harg3 arg4 harg4 arg5 harg5 arg6 harg6 arg7 harg7 arg8 harg8 arg9 harg9 arg10 harg10 X0 X1 X2 X3 X4 X5 = fun z : S1x512x3.Idx => ((p (t (z 1)) (z 2) : ℝ) : EReal) := by
  funext z
  unfold out2_A_7
  refine VO2_7.read_writes_apply_of_pieces VO2_7.junk (fun z : S1x512x3.Idx => ((p (t (z 1)) (z 2) : ℝ) : EReal)) _ ?_ z
    (cover2_A_7 c i arg1 harg1 arg2 harg2 arg3 harg3 arg4 harg4 arg5 harg5 arg6 harg6 arg7 harg7 arg8 harg8 arg9 harg9 arg10 harg10 X0 X1 X2 X3 X4 X5 z)
  unfold kernelRun2_A
  dsimp only
  intro q hq
  obtain rfl := List.mem_singleton.1 hq
  intro z
  refine (congrArg _ (eq_ix3 (z : S1x512x3.Idx))).trans ((pay26 (fun a n => (run_p c arg3 harg3 h a n).1) (fun a n => (run_p c arg3 harg3 h a n).2.1) (fun a n => (run_p c arg3 harg3 h a n).2.2) (run_t arg4 harg4 h) (z 0) (z 1) (z 2)).trans ?_)
  refine congrArg (fun z : S1x512x3.Idx => ((p (t (z 1)) (z 2) : ℝ) : EReal)) (Rect.emb_eq_of_coords _ _ _ fun a => ?_).symm
  fin_cases a <;> exact (Nat.zero_add _).trans (Nat.one_mul _) |>.symm

/-- The sum of the values. -/
theorem out_8 : out2_A_8 (F := Ideal) c i arg1 harg1 arg2 harg2 arg3 harg3 arg4 harg4 arg5 harg5 arg6 harg6 arg7 harg7 arg8 harg8 arg9 harg9 arg10 harg10 X0 X1 X2 X3 X4 X5 = fun z : S1x1x128.Idx => ((∑ s, ∑ k ∈ Finset.range 32, value y m v g b p t W U s (z 2) k : ℝ) : EReal) := by
  funext z
  unfold out2_A_8
  refine VO2_8.read_writes_apply_of_pieces VO2_8.junk (fun z : S1x1x128.Idx => ((∑ s, ∑ k ∈ Finset.range 32, value y m v g b p t W U s (z 2) k : ℝ) : EReal)) _ ?_ z
    (cover2_A_8 c i arg1 harg1 arg2 harg2 arg3 harg3 arg4 harg4 arg5 harg5 arg6 harg6 arg7 harg7 arg8 harg8 arg9 harg9 arg10 harg10 X0 X1 X2 X3 X4 X5 z)
  unfold kernelRun2_A
  dsimp only
  intro q hq
  obtain rfl := List.mem_singleton.1 hq
  intro z
  refine (congrArg _ (eq_ix3 (z : S1x1x128.Idx))).trans ((pay11 (run_state c arg1 harg1 arg2 harg2 arg3 harg3 arg4 harg4 arg5 harg5 arg6 harg6 h).2.2.1 (z 0) (z 1) (z 2)).trans ?_)
  refine congrArg (fun z : S1x1x128.Idx => ((∑ s, ∑ k ∈ Finset.range 32, value y m v g b p t W U s (z 2) k : ℝ) : EReal)) (Rect.emb_eq_of_coords _ _ _ fun a => ?_).symm
  fin_cases a <;> exact (Nat.zero_add _).trans (Nat.one_mul _) |>.symm

/-- The sum of their squares. -/
theorem out_9 : out2_A_9 (F := Ideal) c i arg1 harg1 arg2 harg2 arg3 harg3 arg4 harg4 arg5 harg5 arg6 harg6 arg7 harg7 arg8 harg8 arg9 harg9 arg10 harg10 X0 X1 X2 X3 X4 X5 = fun z : S1x1x128.Idx => ((∑ s, ∑ k ∈ Finset.range 32, value y m v g b p t W U s (z 2) k * value y m v g b p t W U s (z 2) k : ℝ) : EReal) := by
  funext z
  unfold out2_A_9
  refine VO2_9.read_writes_apply_of_pieces VO2_9.junk (fun z : S1x1x128.Idx => ((∑ s, ∑ k ∈ Finset.range 32, value y m v g b p t W U s (z 2) k * value y m v g b p t W U s (z 2) k : ℝ) : EReal)) _ ?_ z
    (cover2_A_9 c i arg1 harg1 arg2 harg2 arg3 harg3 arg4 harg4 arg5 harg5 arg6 harg6 arg7 harg7 arg8 harg8 arg9 harg9 arg10 harg10 X0 X1 X2 X3 X4 X5 z)
  unfold kernelRun2_A
  dsimp only
  intro q hq
  obtain rfl := List.mem_singleton.1 hq
  intro z
  refine (congrArg _ (eq_ix3 (z : S1x1x128.Idx))).trans ((pay12 (run_state c arg1 harg1 arg2 harg2 arg3 harg3 arg4 harg4 arg5 harg5 arg6 harg6 h).2.2.2 (z 0) (z 1) (z 2)).trans ?_)
  refine congrArg (fun z : S1x1x128.Idx => ((∑ s, ∑ k ∈ Finset.range 32, value y m v g b p t W U s (z 2) k * value y m v g b p t W U s (z 2) k : ℝ) : EReal)) (Rect.emb_eq_of_coords _ _ _ fun a => ?_).symm
  fin_cases a <;> exact (Nat.zero_add _).trans (Nat.one_mul _) |>.symm

end Example

/-! ## All the examples -/

variable (V : (c : Dev nD) → (b : Ref sig .tc) → b.ty.Contents (Elt Ideal)) (c : Dev nD)

/-- What the call finds in its arrays. -/
structure Finds (Y : Fin 8 → Fin 2048 → Fin 128 → ℝ) (m v g b : Fin 128 → ℝ) (P : Fin 8 → Fin 2048 → Fin 3 → ℝ) (T : Fin 8 → Fin 512 → Fin 2048) (W U : Fin 128 → Fin 128 → ℝ) : Prop where
  y : ∀ i n o, (V c main_v1_2 : S8x2048x128.Idx → EReal) (ix3 i n o) = (Y i n o : EReal)
  m : ∀ o, (V c main_v20 : S4x128.Idx → EReal) (ix2 0 o) = (m o : EReal)
  r : ∀ o, (V c main_v20 : S4x128.Idx → EReal) (ix2 1 o) = (((Real.sqrt (v o + eps))⁻¹ : ℝ) : EReal)
  g : ∀ o, (V c main_v20 : S4x128.Idx → EReal) (ix2 2 o) = (g o : EReal)
  b : ∀ o, (V c main_v20 : S4x128.Idx → EReal) (ix2 3 o) = (b o : EReal)
  p : ∀ i j n, (V c main_v21 : S8x3x2048.Idx → EReal) (ix3 i j n) = (P i n j : EReal)
  t : ∀ i s a, (V c main_v24 : S8x512x1.Idx → BitVec 32) (ix3 i s a) = word (T i s)
  W : ∀ j o, (V c main_v26 : S128x128.Idx → EReal) (ix2 j o) = (W j o : EReal)
  U : ∀ j o, (V c main_v30 : S128x128.Idx → EReal) (ix2 j o) = (U j o : EReal)

/-- A grid point as an example's index. -/
def pt2 (t : Fin cfg2.N) : Fin 8 := ⟨t.val, t.isLt⟩

theorem idx2_0 : ∀ t : Fin cfg2.N, win2_0.index t = ![(pt2 t).val, 0, 0] := (by decide +kernel : ∀ t : Fin grid2.N, win2_0.index t = ![t.val, 0, 0])
theorem idx2_1 : ∀ t : Fin cfg2.N, win2_1.index t = ![0, 0] := (by decide +kernel : ∀ t : Fin grid2.N, win2_1.index t = ![0, 0])
theorem idx2_2 : ∀ t : Fin cfg2.N, win2_2.index t = ![(pt2 t).val, 0, 0] := (by decide +kernel : ∀ t : Fin grid2.N, win2_2.index t = ![t.val, 0, 0])
theorem idx2_3 : ∀ t : Fin cfg2.N, win2_3.index t = ![(pt2 t).val, 0, 0] := (by decide +kernel : ∀ t : Fin grid2.N, win2_3.index t = ![t.val, 0, 0])
theorem idx2_4 : ∀ t : Fin cfg2.N, win2_4.index t = ![0, 0] := (by decide +kernel : ∀ t : Fin grid2.N, win2_4.index t = ![0, 0])
theorem idx2_5 : ∀ t : Fin cfg2.N, win2_5.index t = ![0, 0] := (by decide +kernel : ∀ t : Fin grid2.N, win2_5.index t = ![0, 0])
theorem idx2_6 : ∀ t : Fin cfg2.N, win2_6.index t = ![(pt2 t).val, 0, 0] := (by decide +kernel : ∀ t : Fin grid2.N, win2_6.index t = ![t.val, 0, 0])
theorem idx2_7 : ∀ t : Fin cfg2.N, win2_7.index t = ![(pt2 t).val, 0, 0] := (by decide +kernel : ∀ t : Fin grid2.N, win2_7.index t = ![t.val, 0, 0])
theorem idx2_8 : ∀ t : Fin cfg2.N, win2_8.index t = ![(pt2 t).val, 0, 0] := (by decide +kernel : ∀ t : Fin grid2.N, win2_8.index t = ![t.val, 0, 0])
theorem idx2_9 : ∀ t : Fin cfg2.N, win2_9.index t = ![(pt2 t).val, 0, 0] := (by decide +kernel : ∀ t : Fin grid2.N, win2_9.index t = ![t.val, 0, 0])

theorem blk2_0 (t : Fin cfg2.N) (a : Fin 1) (n : Fin 2048) (j : Fin 128) :
    (iblk2 V c 0 t : S1x2048x128.Idx → EReal) (ix3 a n j) = (V c main_v1_2 : S8x2048x128.Idx → EReal) (ix3 (pt2 t) n j) := by
  blk_simp [iblk2]
  refine congrArg (V c main_v1_2 : S8x2048x128.Idx → EReal) ?_
  blk_ext [idx2_0 t]
theorem blk2_1 (t : Fin cfg2.N) (j : Fin 4) (o : Fin 128) :
    (iblk2 V c 1 t : S4x128.Idx → EReal) (ix2 j o) = (V c main_v20 : S4x128.Idx → EReal) (ix2 j o) := by
  blk_simp [iblk2]
  refine congrArg (V c main_v20 : S4x128.Idx → EReal) ?_
  blk_ext [idx2_1 t]
theorem blk2_2 (t : Fin cfg2.N) (a : Fin 1) (j : Fin 3) (n : Fin 2048) :
    (iblk2 V c 2 t : S1x3x2048.Idx → EReal) (ix3 a j n) = (V c main_v21 : S8x3x2048.Idx → EReal) (ix3 (pt2 t) j n) := by
  blk_simp [iblk2]
  refine congrArg (V c main_v21 : S8x3x2048.Idx → EReal) ?_
  blk_ext [idx2_2 t]
theorem blk2_3 (t : Fin cfg2.N) (a : Fin 1) (s : Fin 512) (b : Fin 1) :
    (iblk2 V c 3 t : S1x512x1.Idx → BitVec 32) (ix3 a s b) = (V c main_v24 : S8x512x1.Idx → BitVec 32) (ix3 (pt2 t) s b) := by
  blk_simp [iblk2]
  refine congrArg (V c main_v24 : S8x512x1.Idx → BitVec 32) ?_
  blk_ext [idx2_3 t]
theorem blk2_4 (t : Fin cfg2.N) (j : Fin 128) (o : Fin 128) :
    (iblk2 V c 4 t : S128x128.Idx → EReal) (ix2 j o) = (V c main_v26 : S128x128.Idx → EReal) (ix2 j o) := by
  blk_simp [iblk2]
  refine congrArg (V c main_v26 : S128x128.Idx → EReal) ?_
  blk_ext [idx2_4 t]
theorem blk2_5 (t : Fin cfg2.N) (j : Fin 128) (o : Fin 128) :
    (iblk2 V c 5 t : S128x128.Idx → EReal) (ix2 j o) = (V c main_v30 : S128x128.Idx → EReal) (ix2 j o) := by
  blk_simp [iblk2]
  refine congrArg (V c main_v30 : S128x128.Idx → EReal) ?_
  blk_ext [idx2_5 t]

variable {V c}
variable {Y : Fin 8 → Fin 2048 → Fin 128 → ℝ} {m v g b : Fin 128 → ℝ} {P : Fin 8 → Fin 2048 → Fin 3 → ℝ} {T : Fin 8 → Fin 512 → Fin 2048} {W U : Fin 128 → Fin 128 → ℝ}

/-- At each point the body reads its example's parts. -/
theorem Finds.reads (h : Finds V c Y m v g b P T W U) (t : Fin cfg2.N) :
    Reads (Y (pt2 t)) m v g b (P (pt2 t)) (T (pt2 t)) W U (iblk2 V c 0 t) (iblk2 V c 1 t) (iblk2 V c 2 t) (iblk2 V c 3 t) (iblk2 V c 4 t) (iblk2 V c 5 t) where
  y a n o := (blk2_0 V c t a n o).trans (h.y _ _ _)
  m o := (blk2_1 V c t 0 o).trans (h.m _)
  r o := (blk2_1 V c t 1 o).trans (h.r _)
  g o := (blk2_1 V c t 2 o).trans (h.g _)
  b o := (blk2_1 V c t 3 o).trans (h.b _)
  p a j n := (blk2_2 V c t a j n).trans (h.p _ _ _)
  t a s b := (blk2_3 V c t a s b).trans (h.t _ _ _)
  W j o := (blk2_4 V c t j o).trans (h.W _ _)
  U j o := (blk2_5 V c t j o).trans (h.U _ _)

/-! What each point leaves in its buffers. -/

theorem left_6 (h : Finds V c Y m v g b P T W U) (t : Fin cfg2.N) : (outsAt2 V c t).1 = fun z : S1x512x128.Idx => (upTo (value (Y (pt2 t)) m v g b (P (pt2 t)) (T (pt2 t)) W U (z 1) (z 2)) 32 : EReal) := by
  have r := h.reads t
  unfold outsAt2
  dsimp only
  exact out_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) r

theorem left_7 (h : Finds V c Y m v g b P T W U) (t : Fin cfg2.N) : (outsAt2 V c t).2.1 = fun z : S1x512x3.Idx => ((P (pt2 t) (T (pt2 t) (z 1)) (z 2) : ℝ) : EReal) := by
  have r := h.reads t
  unfold outsAt2
  dsimp only
  exact out_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) r

theorem left_8 (h : Finds V c Y m v g b P T W U) (t : Fin cfg2.N) : (outsAt2 V c t).2.2.1 = fun z : S1x1x128.Idx => ((∑ s, ∑ k ∈ Finset.range 32, value (Y (pt2 t)) m v g b (P (pt2 t)) (T (pt2 t)) W U s (z 2) k : ℝ) : EReal) := by
  have r := h.reads t
  unfold outsAt2
  dsimp only
  exact out_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) r

theorem left_9 (h : Finds V c Y m v g b P T W U) (t : Fin cfg2.N) : (outsAt2 V c t).2.2.2 = fun z : S1x1x128.Idx => ((∑ s, ∑ k ∈ Finset.range 32, value (Y (pt2 t)) m v g b (P (pt2 t)) (T (pt2 t)) W U s (z 2) k * value (Y (pt2 t)) m v g b (P (pt2 t)) (T (pt2 t)) W U s (z 2) k : ℝ) : EReal) := by
  have r := h.reads t
  unfold outsAt2
  dsimp only
  exact out_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) r

set_option maxHeartbeats 2000000 in
/-- The largest value of each group. -/
theorem reg2_6 (h : Finds V c Y m v g b P T W U) (i : Fin 8) (s : Fin 512) (o : Fin 128) :
    ((dat2 V c).arrAt 6 cfg2.N : S8x512x128.Idx → EReal) (ix3 i s o) = upTo (value (Y i) m v g b (P i) (T i) W U s o) 32 := by
  have e : ((dat2 V c).arrAt 6 cfg2.N : S8x512x128.Idx → EReal) = fun i => upTo (value (Y (i 0)) m v g b (P (i 0)) (T (i 0)) W U (i 1) (i 2)) 32 := by
    refine (dat2 V c).arrAt_eq_of_covers 6 _ (by decide +kernel) fun t hf y => ?_
    blk_simp
    rw [after2_6, left_6 h t]
    have e : ((View.whole main_v31_0).slice (win2_6.rect t)).emb y = (ix3 (pt2 t) (y 1) (y 2) : S8x512x128.Idx) := by blk_ext [idx2_6 t]
    rw [e]
    rfl
  exact congrFun e (ix3 i s o)

set_option maxHeartbeats 2000000 in
/-- The chosen points' coordinates. -/
theorem reg2_7 (h : Finds V c Y m v g b P T W U) (i : Fin 8) (s : Fin 512) (j : Fin 3) :
    ((dat2 V c).arrAt 7 cfg2.N : S8x512x3.Idx → EReal) (ix3 i s j) = (P i (T i s) j : EReal) := by
  have e : ((dat2 V c).arrAt 7 cfg2.N : S8x512x3.Idx → EReal) = fun i => (P (i 0) (T (i 0) (i 1)) (i 2) : EReal) := by
    refine (dat2 V c).arrAt_eq_of_covers 7 _ (by decide +kernel) fun t hf y => ?_
    blk_simp
    rw [after2_7, left_7 h t]
    have e : ((View.whole main_v31_1).slice (win2_7.rect t)).emb y = (ix3 (pt2 t) (y 1) (y 2) : S8x512x3.Idx) := by blk_ext [idx2_7 t]
    rw [e]
    rfl
  exact congrFun e (ix3 i s j)

set_option maxHeartbeats 2000000 in
/-- The sum of an example's values. -/
theorem reg2_8 (h : Finds V c Y m v g b P T W U) (i : Fin 8) (a : Fin 1) (o : Fin 128) :
    ((dat2 V c).arrAt 8 cfg2.N : S8x1x128.Idx → EReal) (ix3 i a o)
      = ((∑ s, ∑ k ∈ Finset.range 32, value (Y i) m v g b (P i) (T i) W U s o k : ℝ) : EReal) := by
  have e : ((dat2 V c).arrAt 8 cfg2.N : S8x1x128.Idx → EReal)
      = fun i => ((∑ s, ∑ k ∈ Finset.range 32, value (Y (i 0)) m v g b (P (i 0)) (T (i 0)) W U s (i 2) k : ℝ) : EReal) := by
    refine (dat2 V c).arrAt_eq_of_covers 8 _ (by decide +kernel) fun t hf y => ?_
    blk_simp
    rw [after2_8, left_8 h t]
    have e : ((View.whole main_v31_2).slice (win2_8.rect t)).emb y = (ix3 (pt2 t) (y 1) (y 2) : S8x1x128.Idx) := by blk_ext [idx2_8 t]
    rw [e]
    rfl
  exact congrFun e (ix3 i a o)

set_option maxHeartbeats 2000000 in
/-- The sum of their squares. -/
theorem reg2_9 (h : Finds V c Y m v g b P T W U) (i : Fin 8) (a : Fin 1) (o : Fin 128) :
    ((dat2 V c).arrAt 9 cfg2.N : S8x1x128.Idx → EReal) (ix3 i a o)
      = ((∑ s, ∑ k ∈ Finset.range 32, value (Y i) m v g b (P i) (T i) W U s o k * value (Y i) m v g b (P i) (T i) W U s o k : ℝ) : EReal) := by
  have e : ((dat2 V c).arrAt 9 cfg2.N : S8x1x128.Idx → EReal)
      = fun i => ((∑ s, ∑ k ∈ Finset.range 32,
          value (Y (i 0)) m v g b (P (i 0)) (T (i 0)) W U s (i 2) k * value (Y (i 0)) m v g b (P (i 0)) (T (i 0)) W U s (i 2) k : ℝ) : EReal) := by
    refine (dat2 V c).arrAt_eq_of_covers 9 _ (by decide +kernel) fun t hf y => ?_
    blk_simp
    rw [after2_9, left_9 h t]
    have e : ((View.whole main_v31_3).slice (win2_9.rect t)).emb y = (ix3 (pt2 t) (y 1) (y 2) : S8x1x128.Idx) := by blk_ext [idx2_9 t]
    rw [e]
    rfl
  exact congrFun e (ix3 i a o)

end Cert.Proof.Ker.Grp0

end
-- ==== Proof.Region3.lean ====
/-
  The fourth call's array: the indices that farthest-point sampling chooses among 512 points, from the coordinates.
-/
module

public import proofs.«01_k».proof.Proof.Gen.KernelIdeal.Frame
public import proofs.«01_k».proof.Proof.KerFps
public import Idealize.ShloMosaic.Lib.Pipeline.ValueKit

@[expose] public section

set_option maxRecDepth 16384

noncomputable section

namespace Cert.Proof.Ker.Fps1

open Idealize.ShloMosaic Idealize.ShloMosaic.TcCoe
open Idealize.SL Idealize.SL.RA
open Cert.KernelIdeal Cert.KernelIdeal.Gen Cert.Proof.Spec Cert.Proof.Reals Cert.Proof.Lanes

section Trips

variable (𝒱 : Variants) (c : Dev nD) (bd : Option 𝒱.V) (arg0 : Memref sig .tc .vmem S8x3x512 .f32) (harg0 : arg0.IsWhole)
  (arg1 : Memref sig .tc .vmem S128x8 .i32) (harg1 : arg1.IsWhole) (v0 v2 v4 : Vec Ideal S8x1x512 .f32)

/-- What a trip yields. -/
theorem tripR_eq (k : Fin k3_t1_loop.trips) (acc : FVec Ideal S8x512 .f32 × IVec S8x1 32) :
    tripR_k3_t1 (F := Ideal) 𝒱 c bd arg0 harg0 arg1 harg1 v0 v2 v4 k acc
      = (k3_pay4 (F := Ideal) v0 v2 v4 acc.1 acc.2, k3_pay5 (F := Ideal) v0 v2 v4 acc.1 acc.2) := by
  unfold tripR_k3_t1 trip_k3_t1
  rfl

/-- What a trip stores: one row. -/
theorem tripL_eq (k : Fin k3_t1_loop.trips) (acc : FVec Ideal S8x512 .f32 × IVec S8x1 32) :
    tripL_k3_t1 (F := Ideal) 𝒱 c bd arg0 harg0 arg1 harg1 v0 v2 v4 k acc
      = [⟨Rect.unit (s := S128x8) (k3_off1 k) S1x8.size (k3_off1_inb k), k3_pay3 (F := Ideal) acc.2⟩] := by
  unfold tripL_k3_t1 trip_k3_t1
  rfl

/-- The row a trip stores at. -/
theorem off_eq (k : Fin k3_t1_loop.trips) : k3_off1 k 0 = k.val ∧ k3_off1 k 1 = 0 := by
  have r : k.val < 128 := Nat.lt_of_lt_of_le k.isLt k3_t1_abs.2.1
  have h0 : Affine.IsInt 0#32 (0) := Affine.ofNat _ (by omega)
  have h1 : Affine.IsInt 1#32 (1) := Affine.ofNat _ (by omega)
  have h : Affine.IsInt _ ((k.val : Int)) := Affine.indexCast (Affine.iv h0 h1 k.val (by omega))
  exact ⟨by exact_mod_cast Affine.toNat_of h (by omega), rfl⟩

/-- The index chosen at each step, as the array holds it. -/
def rows (x : Fin 8 → Fin 512 → Fin 3 → ℝ) : S128x8.Idx → BitVec 32 := fun y => word (far (x (y 1)) (y 0).val)

variable {v0 v2 v4} {x : Fin 8 → Fin 512 → Fin 3 → ℝ}

/-- Before every trip the carried distances and index are the sampling's, and every stored row holds the index of its step. -/
theorem state (h0 : ∀ i a n, v0 (ix3 i a n) = (x i n 0 : EReal)) (h2 : ∀ i a n, v2 (ix3 i a n) = (x i n 1 : EReal))
    (h4 : ∀ i a n, v4 (ix3 i a n) = (x i n 2 : EReal)) : ∀ k : ℕ, k ≤ k3_t1_loop.trips →
    (∀ i n, (st_k3_t1 (F := Ideal) 𝒱 c bd arg0 harg0 arg1 harg1 v0 v2 v4 (k3_pay1, k3_pay2) k).1.1 (ix2 i n) = ((fps (x i) k).1 n : EReal))
      ∧ (∀ i a, (st_k3_t1 (F := Ideal) 𝒱 c bd arg0 harg0 arg1 harg1 v0 v2 v4 (k3_pay1, k3_pay2) k).1.2 (ix2 i a) = word (far (x i) k))
      ∧ ∀ p ∈ (st_k3_t1 (F := Ideal) 𝒱 c bd arg0 harg0 arg1 harg1 v0 v2 v4 (k3_pay1, k3_pay2) k).2,
          ∀ y : p.1.shape.Idx, p.2 y = rows x (p.1.emb y)
  | 0, _ => by
    have e : st_k3_t1 (F := Ideal) 𝒱 c bd arg0 harg0 arg1 harg1 v0 v2 v4 (k3_pay1, k3_pay2) 0 = ((k3_pay1, k3_pay2), []) := by rw [st_k3_t1.eq_1]
    rw [e]
    refine ⟨fun i n => pay1 i n, fun i a => pay2 i a, fun p hp => ?_⟩
    exact absurd hp List.not_mem_nil
  | k + 1, hk => by
    obtain ⟨hd, hf, hp⟩ := state h0 h2 h4 k (Nat.le_of_succ_le hk)
    have e := st_k3_t1_succ (F := Ideal) 𝒱 c bd arg0 harg0 arg1 harg1 v0 v2 v4 (k3_pay1, k3_pay2) ⟨k, hk⟩
    rw [tripR_eq, tripL_eq] at e
    rw [e]
    have h5 := fun i a => pay5 (k := k) h0 h2 h4 hd hf i a
    refine ⟨fun i n => pay4 h0 h2 h4 hd hf i n, ?_, fun p hq => ?_⟩
    · intro i a
      dsimp only
      exact h5 i a
    rcases List.mem_append.1 hq with hq | hq
    · obtain rfl := List.mem_singleton.1 hq
      intro y
      obtain ⟨o0, o1⟩ := off_eq ⟨k, hk⟩
      have e0 : (((Rect.unit (s := S128x8) (k3_off1 ⟨k, hk⟩) S1x8.size (k3_off1_inb ⟨k, hk⟩)).emb y) 0).val = k := by
        have e : (y 0).val = 0 := Nat.lt_one_iff.1 (y 0).isLt
        exact congrArg₂ (fun a b => a + 1 * b) o0 e
      have e1 : ((Rect.unit (s := S128x8) (k3_off1 ⟨k, hk⟩) S1x8.size (k3_off1_inb ⟨k, hk⟩)).emb y) 1 = (y 1 : Fin 8) := by
        apply Fin.ext
        exact (congrArg (fun a => a + 1 * (y 1).val) o1).trans ((Nat.zero_add _).trans (Nat.one_mul _))
      unfold rows
      rw [e0, e1]
      exact (congrArg _ (eq_ix2 (y : S1x8.Idx))).trans (pay3 hf (y 0) (y 1))
    · exact hp p hq

end Trips

variable (V : (c : Dev nD) → (b : Ref sig .tc) → b.ty.Contents (Elt Ideal)) (c : Dev nD)
variable {x : Fin 8 → Fin 512 → Fin 3 → ℝ}

/-- The one point of the call's grid. -/
def pt3 : Fin cfg3.N := ⟨0, by decide⟩

theorem idx3_0 : ∀ t : Fin cfg3.N, win3_0.index t = ![0, 0, 0] := by decide +kernel

theorem blk3_0 (t : Fin cfg3.N) (i : Fin 8) (j : Fin 3) (n : Fin 512) :
    (iblk3 V c 0 t : S8x3x512.Idx → EReal) (ix3 i j n) = (V c main_v50 : S8x3x512.Idx → EReal) (ix3 i j n) := by
  blk_simp [iblk3]
  refine congrArg (V c main_v50 : S8x3x512.Idx → EReal) ?_
  blk_ext [idx3_0 t]

/-- What the body leaves in its buffer. -/
theorem out_eq (arg0 : Memref sig .tc .vmem S8x3x512 .f32) (harg0 : arg0.IsWhole)
    (arg1 : Memref sig .tc .vmem S128x8 .i32) (harg1 : arg1.IsWhole) {X : Vec Ideal S8x3x512 .f32}
    (hX : ∀ i j n, X (ix3 i j n) = (x i n j : EReal)) :
    out3_A_1 (F := Ideal) c arg0 harg0 arg1 harg1 X = rows x := by
  funext y
  unfold out3_A_1
  refine VO3_1.read_writes_apply_of_pieces VO3_1.junk (rows x) _ ?_ y (cover3_A_1 c arg0 harg0 arg1 harg1 X y)
  unfold kernelRun3_A
  refine (state Variants.none c none arg0 harg0 arg1 harg1 ?_ ?_ ?_ _ le_rfl).2.2 <;> intro i a n <;>
    rw [View.readAt_eq_ld, Memref.IsWhole.read_unread] <;> pointwise <;> rw [hX]

/-- The indices chosen. -/
theorem reg3_1 (hx : ∀ i j n, (V c main_v50 : S8x3x512.Idx → EReal) (ix3 i j n) = (x i n j : EReal)) (s : Fin 128) (i : Fin 8) :
    ((dat3 V c).arrAt 1 cfg3.N : S128x8.Idx → BitVec 32) (ix2 s i) = word (far (x i) s.val) := by
  have h : ((dat3 V c).arrAt 1 cfg3.N : S128x8.Idx → BitVec 32) = rows x := by
    refine (dat3 V c).arrAt_eq_of_after_last 1 pt3 (by decide +kernel) (rows x) fun y => ?_
    blk_simp
    rw [after3_1]
    unfold outsAt3
    rw [out_eq c _ _ _ _ (x := x) fun i j n => (blk3_0 V c pt3 i j n).trans (hx i j n)]
  exact congrFun h (ix2 s i)

end Cert.Proof.Ker.Fps1

end
-- ==== Proof.Region4.lean ====
/-
  The fifth call's arrays: around each of the 128 chosen points the 16 nearest of 512, and of the map of their features the largest
  value, the sum and the sum of squares.
-/
module

public import proofs.«01_k».proof.Proof.Gen.KernelIdeal.Frame
public import proofs.«01_k».proof.Proof.KerGroup
public import Idealize.ShloMosaic.Lib.Pipeline.ValueKit

@[expose] public section

set_option maxRecDepth 16384

noncomputable section

namespace Cert.Proof.Ker.Grp1

open Idealize.ShloMosaic Idealize.ShloMosaic.TcCoe
open Idealize.SL Idealize.SL.RA
open Cert.KernelIdeal Cert.KernelIdeal.Gen Cert.Proof.Select Cert.Proof.Spec Cert.Proof.Reals Cert.Proof.Lanes
open scoped BigOperators

/-- The state before round `k`: the distances left, the largest value so far, the sum so far, the sum of squares so far. -/
def State (D : Fin 128 → Fin 512 → ℝ) (z : Fin 128 → Fin 128 → ℕ → ℝ) (k : ℕ)
    (a : FVec Ideal S128x512 .f32 × FVec Ideal S128x128 .f32 × FVec Ideal S128x128 .f32 × FVec Ideal S128x128 .f32) : Prop :=
  (∀ s n, a.1 (ix2 s n) = struck (D s) k n) ∧ (∀ s o, a.2.1 (ix2 s o) = upTo (z s o) k)
    ∧ (∀ s o, a.2.2.1 (ix2 s o) = ((∑ k ∈ Finset.range k, z s o k : ℝ) : EReal))
    ∧ ∀ s o, a.2.2.2 (ix2 s o) = ((∑ k ∈ Finset.range k, z s o k * z s o k : ℝ) : EReal)

section Rounds

variable {v22 : S512x128.Idx → EReal} {v34 : S128x512.Idx → BitVec 32} {v51 : S128x128.Idx → EReal} {d : S128x512.Idx → EReal}
  {D : Fin 128 → Fin 512 → ℝ} {A C : Fin 512 → Fin 128 → ℝ} {t : Fin 128 → Fin 512}

/-- A round takes the state to the next. -/
theorem round (hl : ∀ s n, v34 (ix2 s n) = word n) (hA : ∀ n o, v22 (ix2 n o) = (A n o : EReal)) (hC : ∀ s o, v51 (ix2 s o) = (C (t s) o : EReal))
    {k : ℕ} {a : FVec Ideal S128x512 .f32 × FVec Ideal S128x128 .f32 × FVec Ideal S128x128 .f32 × FVec Ideal S128x128 .f32}
    (h : State D (fun s o k => A (near (D s) k) o + C (t s) o) k a) :
    State D (fun s o k => A (near (D s) k) o + C (t s) o) (k + 1)
      (k4_pay9 (F := Ideal) v34 a.1, k4_pay6 (F := Ideal) v22 v34 v51 a.1 a.2.1, k4_pay7 (F := Ideal) v22 v34 v51 a.1 a.2.2.1,
        k4_pay8 (F := Ideal) v22 v34 v51 a.1 a.2.2.2) := by
  have h9 := fun s n => pay9 (k := k) hl h.1 s n
  have h6 := fun s o => pay6 (k := k) hl h.1 hA hC h.2.1 s o
  have h7 := fun s o => pay7 (k := k) hl h.1 hA hC h.2.2.1 s o
  have h8 := fun s o => pay8 (k := k) hl h.1 hA hC h.2.2.2 s o
  unfold State
  dsimp only
  exact ⟨h9, h6, h7, h8⟩

/-- All the rounds. -/
theorem rounds (hl : ∀ s n, v34 (ix2 s n) = word n) (hA : ∀ n o, v22 (ix2 n o) = (A n o : EReal)) (hC : ∀ s o, v51 (ix2 s o) = (C (t s) o : EReal))
    (hd : ∀ s n, d (ix2 s n) = (D s n : EReal)) (n : ℕ) :
    State D (fun s o k => A (near (D s) k) o + C (t s) o) n
      (Scf.fold (n := n) (fun _ a => (k4_pay9 (F := Ideal) v34 a.1, k4_pay6 (F := Ideal) v22 v34 v51 a.1 a.2.1,
          k4_pay7 (F := Ideal) v22 v34 v51 a.1 a.2.2.1, k4_pay8 (F := Ideal) v22 v34 v51 a.1 a.2.2.2))
        (d, k4_pay1 (F := Ideal), k4_pay2 (F := Ideal), k4_pay3 (F := Ideal))) := by
  rw [Scf.fold_eq]
  suffices H : ∀ (l : List (Fin n)) (k : ℕ) (a : FVec Ideal S128x512 .f32 × FVec Ideal S128x128 .f32 × FVec Ideal S128x128 .f32 × FVec Ideal S128x128 .f32),
      State D (fun s o k => A (near (D s) k) o + C (t s) o) k a →
      State D (fun s o k => A (near (D s) k) o + C (t s) o) (k + l.length)
        (l.foldl (fun a _ => (k4_pay9 (F := Ideal) v34 a.1, k4_pay6 (F := Ideal) v22 v34 v51 a.1 a.2.1,
          k4_pay7 (F := Ideal) v22 v34 v51 a.1 a.2.2.1, k4_pay8 (F := Ideal) v22 v34 v51 a.1 a.2.2.2)) a) by
    have h1 : State D (fun s o k => A (near (D s) k) o + C (t s) o) 0 (d, k4_pay1 (F := Ideal), k4_pay2 (F := Ideal), k4_pay3 (F := Ideal)) := by
      unfold State
      dsimp only
      refine ⟨hd, ?_, ?_, ?_⟩ <;> intro s o
      · exact pay1 _ s o
      · rw [Finset.range_zero, Finset.sum_empty]
        exact pay2 s o
      · rw [Finset.range_zero, Finset.sum_empty]
        exact pay3 s o
    have := H (List.finRange n) 0 _ h1
    rwa [List.length_finRange, Nat.zero_add] at this
  intro l
  induction l with
  | nil => exact fun k a h => h
  | cons b l ih =>
    intro k a h
    have := ih (k + 1) _ (round hl hA hC h)
    rw [List.foldl_cons, List.length_cons, show k + (l.length + 1) = k + 1 + l.length by omega]
    exact this

end Rounds

/-! ## One example -/

/-- The parts of one example that the body reads. -/
structure Reads (y : Fin 512 → Fin 128 → ℝ) (m v g b : Fin 128 → ℝ) (p : Fin 512 → Fin 3 → ℝ) (t : Fin 128 → Fin 512) (W U : Fin 128 → Fin 128 → ℝ)
    (X0 : Vec Ideal S1x512x128 .f32) (X1 : Vec Ideal S4x128 .f32) (X2 : Vec Ideal S1x3x512 .f32) (X3 : Vec Ideal S1x128x1 .i32)
    (X4 X5 : Vec Ideal S128x128 .f32) : Prop where
  y : ∀ a n o, X0 (ix3 a n o) = (y n o : EReal)
  m : ∀ o, X1 (ix2 0 o) = (m o : EReal)
  r : ∀ o, X1 (ix2 1 o) = (((Real.sqrt (v o + eps))⁻¹ : ℝ) : EReal)
  g : ∀ o, X1 (ix2 2 o) = (g o : EReal)
  b : ∀ o, X1 (ix2 3 o) = (b o : EReal)
  p : ∀ a j n, X2 (ix3 a j n) = (p n j : EReal)
  t : ∀ a s b, X3 (ix3 a s b) = word (t s)
  W : ∀ c o, X4 (ix2 c o) = (W c o : EReal)
  U : ∀ c o, X5 (ix2 c o) = (U c o : EReal)

/-- The features of one example, through a linear map. -/
def through (y : Fin 512 → Fin 128 → ℝ) (m v g b : Fin 128 → ℝ) (W : Fin 128 → Fin 128 → ℝ) (n : Fin 512) (o : Fin 128) : ℝ :=
  ∑ c, relu (bn (m c) (v c) (g c) (b c) (y n c)) * W c o

/-- The value of the `k`-th neighbour of the `s`-th chosen point. -/
def value (y : Fin 512 → Fin 128 → ℝ) (m v g b : Fin 128 → ℝ) (p : Fin 512 → Fin 3 → ℝ) (t : Fin 128 → Fin 512) (W U : Fin 128 → Fin 128 → ℝ)
    (s : Fin 128) (o : Fin 128) (k : ℕ) : ℝ :=
  through y m v g b W (near (fun n => sqdist (p (t s)) (p n)) k) o + through y m v g b U (t s) o

section Example

variable (c : Dev nD) (i : grid4.Coords) (arg1 : Memref sig .tc .vmem S1x512x128 .f32) (harg1 : arg1.IsWhole) (arg2 : Memref sig .tc .vmem S4x128 .f32) (harg2 : arg2.IsWhole)
  (arg3 : Memref sig .tc .vmem S1x3x512 .f32) (harg3 : arg3.IsWhole) (arg4 : Memref sig .tc .vmem S1x128x1 .i32) (harg4 : arg4.IsWhole)
  (arg5 : Memref sig .tc .vmem S128x128 .f32) (harg5 : arg5.IsWhole) (arg6 : Memref sig .tc .vmem S128x128 .f32) (harg6 : arg6.IsWhole)
  (arg7 : Memref sig .tc .vmem S1x128x128 .f32) (harg7 : arg7.IsWhole) (arg8 : Memref sig .tc .vmem S1x128x3 .f32) (harg8 : arg8.IsWhole)
  (arg9 : Memref sig .tc .vmem S1x1x128 .f32) (harg9 : arg9.IsWhole) (arg10 : Memref sig .tc .vmem S1x1x128 .f32) (harg10 : arg10.IsWhole)

variable {y : Fin 512 → Fin 128 → ℝ} {m v g b : Fin 128 → ℝ} {p : Fin 512 → Fin 3 → ℝ} {t : Fin 128 → Fin 512} {W U : Fin 128 → Fin 128 → ℝ}
  {X0 : Vec Ideal S1x512x128 .f32} {X1 : Vec Ideal S4x128 .f32} {X2 : Vec Ideal S1x3x512 .f32} {X3 : Vec Ideal S1x128x1 .i32} {X4 X5 : Vec Ideal S128x128 .f32}
  (h : Reads y m v g b p t W U X0 X1 X2 X3 X4 X5)

include h

/-- The features through the first map, as the body computes them. -/
theorem run_r (n : Fin 512) (o : Fin 128) : kernelRun4_A.sl.r (F := Ideal) c arg1 harg1 arg2 harg2 arg5 harg5 X0 X1 X4 (ix2 n o) = (through y m v g b W n o : EReal) := by
  unfold kernelRun4_A.sl.r
  refine pay14 (v := v) ?_ ?_ ?_ ?_ ?_ ?_ n o <;> intros <;> rw [View.readAt_eq_ld, Memref.IsWhole.read_unread] <;> pointwise
  · exact h.y _ _ _
  · exact h.m _
  · exact h.r _
  · exact h.g _
  · exact h.b _
  · exact h.W _ _

/-- Through the second map. -/
theorem run_r1 (n : Fin 512) (o : Fin 128) : kernelRun4_A.sl.r_1 (F := Ideal) c arg1 harg1 arg2 harg2 arg6 harg6 X0 X1 X5 (ix2 n o) = (through y m v g b U n o : EReal) := by
  unfold kernelRun4_A.sl.r_1
  refine pay15 (v := v) ?_ ?_ ?_ ?_ ?_ ?_ n o <;> intros <;> rw [View.readAt_eq_ld, Memref.IsWhole.read_unread] <;> pointwise
  · exact h.y _ _ _
  · exact h.m _
  · exact h.r _
  · exact h.g _
  · exact h.b _
  · exact h.U _ _

/-- The indices as loaded. -/
theorem run_t (a : Fin 1) (s : Fin 128) (b : Fin 1) :
    View.readAt (Elt Ideal) arg4.view (Rect.unit ![0, 0, 0] S1x128x1.size inb_S1x128x1_S1x128x1_0_0_0).toLoadRect (harg4.unread X3) (ix3 a s b) = word (t s) := by
  rw [View.readAt_eq_ld, Memref.IsWhole.read_unread]
  pointwise
  exact h.t _ _ _

/-- The coordinates, row by row. -/
theorem run_p (a : Fin 1) (n : Fin 512) : kernelRun4_A.sl.r_2 (F := Ideal) c arg3 harg3 X2 (ix2 a n) = (p n 0 : EReal)
    ∧ kernelRun4_A.sl.r_3 (F := Ideal) c arg3 harg3 X2 (ix2 a n) = (p n 1 : EReal) ∧ kernelRun4_A.sl.r_4 (F := Ideal) c arg3 harg3 X2 (ix2 a n) = (p n 2 : EReal) := by
  unfold kernelRun4_A.sl.r_2 kernelRun4_A.sl.r_3 kernelRun4_A.sl.r_4
  refine ⟨pay16 ?_ a n, pay17 ?_ a n, pay18 ?_ a n⟩ <;> intros <;> rw [View.readAt_eq_ld, Memref.IsWhole.read_unread] <;> pointwise <;> exact h.p _ _ _

/-- What the rounds leave. -/
theorem run_state : State (fun s n => sqdist (p (t s)) (p n)) (value y m v g b p t W U) 16
    (kernelRun4_A.sl.r_8 (F := Ideal) c arg1 harg1 arg2 harg2 arg3 harg3 arg4 harg4 arg5 harg5 arg6 harg6 X0 X1 X2 X3 X4 X5) := by
  unfold kernelRun4_A.sl.r_8
  refine rounds (A := through y m v g b W) (C := through y m v g b U) (t := t) (fun s n => ?_) (run_r c arg1 harg1 arg2 harg2 arg5 harg5 h) (fun s o => ?_) (fun s n => ?_) 16
  · unfold kernelRun4_A.sl.v34
    pointwise
  · unfold kernelRun4_A.sl.r_5
    exact pay23 (run_r1 c arg1 harg1 arg2 harg2 arg6 harg6 h) (run_t arg4 harg4 h) s o
  · unfold kernelRun4_A.sl.r_6
    refine pay25 (fun a n => (run_p c arg3 harg3 h a n).1) (fun a n => (run_p c arg3 harg3 h a n).2.1) (fun a n => (run_p c arg3 harg3 h a n).2.2) (run_t arg4 harg4 h) ?_ s n
    intros
    rw [View.readAt_eq_ld, Memref.IsWhole.read_unread]
    pointwise
    exact h.p _ _ _

/-- The largest value of each group. -/
theorem out_6 : out4_A_6 (F := Ideal) c i arg1 harg1 arg2 harg2 arg3 harg3 arg4 harg4 arg5 harg5 arg6 harg6 arg7 harg7 arg8 harg8 arg9 harg9 arg10 harg10 X0 X1 X2 X3 X4 X5 = fun z : S1x128x128.Idx => (upTo (value y m v g b p t W U (z 1) (z 2)) 16 : EReal) := by
  funext z
  unfold out4_A_6
  refine VO4_6.read_writes_apply_of_pieces VO4_6.junk (fun z : S1x128x128.Idx => (upTo (value y m v g b p t W U (z 1) (z 2)) 16 : EReal)) _ ?_ z
    (cover4_A_6 c i arg1 harg1 arg2 harg2 arg3 harg3 arg4 harg4 arg5 harg5 arg6 harg6 arg7 harg7 arg8 harg8 arg9 harg9 arg10 harg10 X0 X1 X2 X3 X4 X5 z)
  unfold kernelRun4_A
  dsimp only
  intro q hq
  obtain rfl := List.mem_singleton.1 hq
  intro z
  refine (congrArg _ (eq_ix3 (z : S1x128x128.Idx))).trans (((pay10 (z 0) (z 1) (z 2)).trans ((run_state c arg1 harg1 arg2 harg2 arg3 harg3 arg4 harg4 arg5 harg5 arg6 harg6 h).2.1 (z 1) (z 2))).trans ?_)
  refine congrArg (fun z : S1x128x128.Idx => (upTo (value y m v g b p t W U (z 1) (z 2)) 16 : EReal)) (Rect.emb_eq_of_coords _ _ _ fun a => ?_).symm
  fin_cases a <;> exact (Nat.zero_add _).trans (Nat.one_mul _) |>.symm

/-- The chosen points' coordinates. -/
theorem out_7 : out4_A_7 (F := Ideal) c i arg1 harg1 arg2 harg2 arg3 harg3 arg4 harg4 arg5 harg5 arg6 harg6 arg7 harg7 arg8 harg8 arg9 harg9 arg10 harg10 X0 X1 X2 X3 X4 X5 = fun z : S1x128x3.Idx => ((p (t (z 1)) (z 2) : ℝ) : EReal) := by
  funext z
  unfold out4_A_7
  refine VO4_7.read_writes_apply_of_pieces VO4_7.junk (fun z : S1x128x3.Idx => ((p (t (z 1)) (z 2) : ℝ) : EReal)) _ ?_ z
    (cover4_A_7 c i arg1 harg1 arg2 harg2 arg3 harg3 arg4 harg4 arg5 harg5 arg6 harg6 arg7 harg7 arg8 harg8 arg9 harg9 arg10 harg10 X0 X1 X2 X3 X4 X5 z)
  unfold kernelRun4_A
  dsimp only
  intro q hq
  obtain rfl := List.mem_singleton.1 hq
  intro z
  refine (congrArg _ (eq_ix3 (z : S1x128x3.Idx))).trans ((pay26 (fun a n => (run_p c arg3 harg3 h a n).1) (fun a n => (run_p c arg3 harg3 h a n).2.1) (fun a n => (run_p c arg3 harg3 h a n).2.2) (run_t arg4 harg4 h) (z 0) (z 1) (z 2)).trans ?_)
  refine congrArg (fun z : S1x128x3.Idx => ((p (t (z 1)) (z 2) : ℝ) : EReal)) (Rect.emb_eq_of_coords _ _ _ fun a => ?_).symm
  fin_cases a <;> exact (Nat.zero_add _).trans (Nat.one_mul _) |>.symm

/-- The sum of the values. -/
theorem out_8 : out4_A_8 (F := Ideal) c i arg1 harg1 arg2 harg2 arg3 harg3 arg4 harg4 arg5 harg5 arg6 harg6 arg7 harg7 arg8 harg8 arg9 harg9 arg10 harg10 X0 X1 X2 X3 X4 X5 = fun z : S1x1x128.Idx => ((∑ s, ∑ k ∈ Finset.range 16, value y m v g b p t W U s (z 2) k : ℝ) : EReal) := by
  funext z
  unfold out4_A_8
  refine VO4_8.read_writes_apply_of_pieces VO4_8.junk (fun z : S1x1x128.Idx => ((∑ s, ∑ k ∈ Finset.range 16, value y m v g b p t W U s (z 2) k : ℝ) : EReal)) _ ?_ z
    (cover4_A_8 c i arg1 harg1 arg2 harg2 arg3 harg3 arg4 harg4 arg5 harg5 arg6 harg6 arg7 harg7 arg8 harg8 arg9 harg9 arg10 harg10 X0 X1 X2 X3 X4 X5 z)
  unfold kernelRun4_A
  dsimp only
  intro q hq
  obtain rfl := List.mem_singleton.1 hq
  intro z
  refine (congrArg _ (eq_ix3 (z : S1x1x128.Idx))).trans ((pay11 (run_state c arg1 harg1 arg2 harg2 arg3 harg3 arg4 harg4 arg5 harg5 arg6 harg6 h).2.2.1 (z 0) (z 1) (z 2)).trans ?_)
  refine congrArg (fun z : S1x1x128.Idx => ((∑ s, ∑ k ∈ Finset.range 16, value y m v g b p t W U s (z 2) k : ℝ) : EReal)) (Rect.emb_eq_of_coords _ _ _ fun a => ?_).symm
  fin_cases a <;> exact (Nat.zero_add _).trans (Nat.one_mul _) |>.symm

/-- The sum of their squares. -/
theorem out_9 : out4_A_9 (F := Ideal) c i arg1 harg1 arg2 harg2 arg3 harg3 arg4 harg4 arg5 harg5 arg6 harg6 arg7 harg7 arg8 harg8 arg9 harg9 arg10 harg10 X0 X1 X2 X3 X4 X5 = fun z : S1x1x128.Idx => ((∑ s, ∑ k ∈ Finset.range 16, value y m v g b p t W U s (z 2) k * value y m v g b p t W U s (z 2) k : ℝ) : EReal) := by
  funext z
  unfold out4_A_9
  refine VO4_9.read_writes_apply_of_pieces VO4_9.junk (fun z : S1x1x128.Idx => ((∑ s, ∑ k ∈ Finset.range 16, value y m v g b p t W U s (z 2) k * value y m v g b p t W U s (z 2) k : ℝ) : EReal)) _ ?_ z
    (cover4_A_9 c i arg1 harg1 arg2 harg2 arg3 harg3 arg4 harg4 arg5 harg5 arg6 harg6 arg7 harg7 arg8 harg8 arg9 harg9 arg10 harg10 X0 X1 X2 X3 X4 X5 z)
  unfold kernelRun4_A
  dsimp only
  intro q hq
  obtain rfl := List.mem_singleton.1 hq
  intro z
  refine (congrArg _ (eq_ix3 (z : S1x1x128.Idx))).trans ((pay12 (run_state c arg1 harg1 arg2 harg2 arg3 harg3 arg4 harg4 arg5 harg5 arg6 harg6 h).2.2.2 (z 0) (z 1) (z 2)).trans ?_)
  refine congrArg (fun z : S1x1x128.Idx => ((∑ s, ∑ k ∈ Finset.range 16, value y m v g b p t W U s (z 2) k * value y m v g b p t W U s (z 2) k : ℝ) : EReal)) (Rect.emb_eq_of_coords _ _ _ fun a => ?_).symm
  fin_cases a <;> exact (Nat.zero_add _).trans (Nat.one_mul _) |>.symm

end Example

/-! ## All the examples -/

variable (V : (c : Dev nD) → (b : Ref sig .tc) → b.ty.Contents (Elt Ideal)) (c : Dev nD)

/-- What the call finds in its arrays. -/
structure Finds (Y : Fin 8 → Fin 512 → Fin 128 → ℝ) (m v g b : Fin 128 → ℝ) (P : Fin 8 → Fin 512 → Fin 3 → ℝ) (T : Fin 8 → Fin 128 → Fin 512) (W U : Fin 128 → Fin 128 → ℝ) : Prop where
  y : ∀ i n o, (V c main_v31_0 : S8x512x128.Idx → EReal) (ix3 i n o) = (Y i n o : EReal)
  m : ∀ o, (V c main_v49 : S4x128.Idx → EReal) (ix2 0 o) = (m o : EReal)
  r : ∀ o, (V c main_v49 : S4x128.Idx → EReal) (ix2 1 o) = (((Real.sqrt (v o + eps))⁻¹ : ℝ) : EReal)
  g : ∀ o, (V c main_v49 : S4x128.Idx → EReal) (ix2 2 o) = (g o : EReal)
  b : ∀ o, (V c main_v49 : S4x128.Idx → EReal) (ix2 3 o) = (b o : EReal)
  p : ∀ i j n, (V c main_v50 : S8x3x512.Idx → EReal) (ix3 i j n) = (P i n j : EReal)
  t : ∀ i s a, (V c main_v53 : S8x128x1.Idx → BitVec 32) (ix3 i s a) = word (T i s)
  W : ∀ j o, (V c main_v55 : S128x128.Idx → EReal) (ix2 j o) = (W j o : EReal)
  U : ∀ j o, (V c main_v59 : S128x128.Idx → EReal) (ix2 j o) = (U j o : EReal)

/-- A grid point as an example's index. -/
def pt4 (t : Fin cfg4.N) : Fin 8 := ⟨t.val, t.isLt⟩

theorem idx4_0 : ∀ t : Fin cfg4.N, win4_0.index t = ![(pt4 t).val, 0, 0] := (by decide +kernel : ∀ t : Fin grid4.N, win4_0.index t = ![t.val, 0, 0])
theorem idx4_1 : ∀ t : Fin cfg4.N, win4_1.index t = ![0, 0] := (by decide +kernel : ∀ t : Fin grid4.N, win4_1.index t = ![0, 0])
theorem idx4_2 : ∀ t : Fin cfg4.N, win4_2.index t = ![(pt4 t).val, 0, 0] := (by decide +kernel : ∀ t : Fin grid4.N, win4_2.index t = ![t.val, 0, 0])
theorem idx4_3 : ∀ t : Fin cfg4.N, win4_3.index t = ![(pt4 t).val, 0, 0] := (by decide +kernel : ∀ t : Fin grid4.N, win4_3.index t = ![t.val, 0, 0])
theorem idx4_4 : ∀ t : Fin cfg4.N, win4_4.index t = ![0, 0] := (by decide +kernel : ∀ t : Fin grid4.N, win4_4.index t = ![0, 0])
theorem idx4_5 : ∀ t : Fin cfg4.N, win4_5.index t = ![0, 0] := (by decide +kernel : ∀ t : Fin grid4.N, win4_5.index t = ![0, 0])
theorem idx4_6 : ∀ t : Fin cfg4.N, win4_6.index t = ![(pt4 t).val, 0, 0] := (by decide +kernel : ∀ t : Fin grid4.N, win4_6.index t = ![t.val, 0, 0])
theorem idx4_7 : ∀ t : Fin cfg4.N, win4_7.index t = ![(pt4 t).val, 0, 0] := (by decide +kernel : ∀ t : Fin grid4.N, win4_7.index t = ![t.val, 0, 0])
theorem idx4_8 : ∀ t : Fin cfg4.N, win4_8.index t = ![(pt4 t).val, 0, 0] := (by decide +kernel : ∀ t : Fin grid4.N, win4_8.index t = ![t.val, 0, 0])
theorem idx4_9 : ∀ t : Fin cfg4.N, win4_9.index t = ![(pt4 t).val, 0, 0] := (by decide +kernel : ∀ t : Fin grid4.N, win4_9.index t = ![t.val, 0, 0])

theorem blk4_0 (t : Fin cfg4.N) (a : Fin 1) (n : Fin 512) (j : Fin 128) :
    (iblk4 V c 0 t : S1x512x128.Idx → EReal) (ix3 a n j) = (V c main_v31_0 : S8x512x128.Idx → EReal) (ix3 (pt4 t) n j) := by
  blk_simp [iblk4]
  refine congrArg (V c main_v31_0 : S8x512x128.Idx → EReal) ?_
  blk_ext [idx4_0 t]
theorem blk4_1 (t : Fin cfg4.N) (j : Fin 4) (o : Fin 128) :
    (iblk4 V c 1 t : S4x128.Idx → EReal) (ix2 j o) = (V c main_v49 : S4x128.Idx → EReal) (ix2 j o) := by
  blk_simp [iblk4]
  refine congrArg (V c main_v49 : S4x128.Idx → EReal) ?_
  blk_ext [idx4_1 t]
theorem blk4_2 (t : Fin cfg4.N) (a : Fin 1) (j : Fin 3) (n : Fin 512) :
    (iblk4 V c 2 t : S1x3x512.Idx → EReal) (ix3 a j n) = (V c main_v50 : S8x3x512.Idx → EReal) (ix3 (pt4 t) j n) := by
  blk_simp [iblk4]
  refine congrArg (V c main_v50 : S8x3x512.Idx → EReal) ?_
  blk_ext [idx4_2 t]
theorem blk4_3 (t : Fin cfg4.N) (a : Fin 1) (s : Fin 128) (b : Fin 1) :
    (iblk4 V c 3 t : S1x128x1.Idx → BitVec 32) (ix3 a s b) = (V c main_v53 : S8x128x1.Idx → BitVec 32) (ix3 (pt4 t) s b) := by
  blk_simp [iblk4]
  refine congrArg (V c main_v53 : S8x128x1.Idx → BitVec 32) ?_
  blk_ext [idx4_3 t]
theorem blk4_4 (t : Fin cfg4.N) (j : Fin 128) (o : Fin 128) :
    (iblk4 V c 4 t : S128x128.Idx → EReal) (ix2 j o) = (V c main_v55 : S128x128.Idx → EReal) (ix2 j o) := by
  blk_simp [iblk4]
  refine congrArg (V c main_v55 : S128x128.Idx → EReal) ?_
  blk_ext [idx4_4 t]
theorem blk4_5 (t : Fin cfg4.N) (j : Fin 128) (o : Fin 128) :
    (iblk4 V c 5 t : S128x128.Idx → EReal) (ix2 j o) = (V c main_v59 : S128x128.Idx → EReal) (ix2 j o) := by
  blk_simp [iblk4]
  refine congrArg (V c main_v59 : S128x128.Idx → EReal) ?_
  blk_ext [idx4_5 t]

variable {V c}
variable {Y : Fin 8 → Fin 512 → Fin 128 → ℝ} {m v g b : Fin 128 → ℝ} {P : Fin 8 → Fin 512 → Fin 3 → ℝ} {T : Fin 8 → Fin 128 → Fin 512} {W U : Fin 128 → Fin 128 → ℝ}

/-- At each point the body reads its example's parts. -/
theorem Finds.reads (h : Finds V c Y m v g b P T W U) (t : Fin cfg4.N) :
    Reads (Y (pt4 t)) m v g b (P (pt4 t)) (T (pt4 t)) W U (iblk4 V c 0 t) (iblk4 V c 1 t) (iblk4 V c 2 t) (iblk4 V c 3 t) (iblk4 V c 4 t) (iblk4 V c 5 t) where
  y a n o := (blk4_0 V c t a n o).trans (h.y _ _ _)
  m o := (blk4_1 V c t 0 o).trans (h.m _)
  r o := (blk4_1 V c t 1 o).trans (h.r _)
  g o := (blk4_1 V c t 2 o).trans (h.g _)
  b o := (blk4_1 V c t 3 o).trans (h.b _)
  p a j n := (blk4_2 V c t a j n).trans (h.p _ _ _)
  t a s b := (blk4_3 V c t a s b).trans (h.t _ _ _)
  W j o := (blk4_4 V c t j o).trans (h.W _ _)
  U j o := (blk4_5 V c t j o).trans (h.U _ _)

/-! What each point leaves in its buffers. -/

theorem left_6 (h : Finds V c Y m v g b P T W U) (t : Fin cfg4.N) : (outsAt4 V c t).1 = fun z : S1x128x128.Idx => (upTo (value (Y (pt4 t)) m v g b (P (pt4 t)) (T (pt4 t)) W U (z 1) (z 2)) 16 : EReal) := by
  have r := h.reads t
  unfold outsAt4
  dsimp only
  exact out_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) r

theorem left_7 (h : Finds V c Y m v g b P T W U) (t : Fin cfg4.N) : (outsAt4 V c t).2.1 = fun z : S1x128x3.Idx => ((P (pt4 t) (T (pt4 t) (z 1)) (z 2) : ℝ) : EReal) := by
  have r := h.reads t
  unfold outsAt4
  dsimp only
  exact out_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) r

theorem left_8 (h : Finds V c Y m v g b P T W U) (t : Fin cfg4.N) : (outsAt4 V c t).2.2.1 = fun z : S1x1x128.Idx => ((∑ s, ∑ k ∈ Finset.range 16, value (Y (pt4 t)) m v g b (P (pt4 t)) (T (pt4 t)) W U s (z 2) k : ℝ) : EReal) := by
  have r := h.reads t
  unfold outsAt4
  dsimp only
  exact out_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) r

theorem left_9 (h : Finds V c Y m v g b P T W U) (t : Fin cfg4.N) : (outsAt4 V c t).2.2.2 = fun z : S1x1x128.Idx => ((∑ s, ∑ k ∈ Finset.range 16, value (Y (pt4 t)) m v g b (P (pt4 t)) (T (pt4 t)) W U s (z 2) k * value (Y (pt4 t)) m v g b (P (pt4 t)) (T (pt4 t)) W U s (z 2) k : ℝ) : EReal) := by
  have r := h.reads t
  unfold outsAt4
  dsimp only
  exact out_9 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) r

set_option maxHeartbeats 2000000 in
/-- The largest value of each group. -/
theorem reg4_6 (h : Finds V c Y m v g b P T W U) (i : Fin 8) (s : Fin 128) (o : Fin 128) :
    ((dat4 V c).arrAt 6 cfg4.N : S8x128x128.Idx → EReal) (ix3 i s o) = upTo (value (Y i) m v g b (P i) (T i) W U s o) 16 := by
  have e : ((dat4 V c).arrAt 6 cfg4.N : S8x128x128.Idx → EReal) = fun i => upTo (value (Y (i 0)) m v g b (P (i 0)) (T (i 0)) W U (i 1) (i 2)) 16 := by
    refine (dat4 V c).arrAt_eq_of_covers 6 _ (by decide +kernel) fun t hf y => ?_
    blk_simp
    rw [after4_6, left_6 h t]
    have e : ((View.whole main_v60_0).slice (win4_6.rect t)).emb y = (ix3 (pt4 t) (y 1) (y 2) : S8x128x128.Idx) := by blk_ext [idx4_6 t]
    rw [e]
    rfl
  exact congrFun e (ix3 i s o)

set_option maxHeartbeats 2000000 in
/-- The chosen points' coordinates. -/
theorem reg4_7 (h : Finds V c Y m v g b P T W U) (i : Fin 8) (s : Fin 128) (j : Fin 3) :
    ((dat4 V c).arrAt 7 cfg4.N : S8x128x3.Idx → EReal) (ix3 i s j) = (P i (T i s) j : EReal) := by
  have e : ((dat4 V c).arrAt 7 cfg4.N : S8x128x3.Idx → EReal) = fun i => (P (i 0) (T (i 0) (i 1)) (i 2) : EReal) := by
    refine (dat4 V c).arrAt_eq_of_covers 7 _ (by decide +kernel) fun t hf y => ?_
    blk_simp
    rw [after4_7, left_7 h t]
    have e : ((View.whole main_v60_1).slice (win4_7.rect t)).emb y = (ix3 (pt4 t) (y 1) (y 2) : S8x128x3.Idx) := by blk_ext [idx4_7 t]
    rw [e]
    rfl
  exact congrFun e (ix3 i s j)

set_option maxHeartbeats 2000000 in
/-- The sum of an example's values. -/
theorem reg4_8 (h : Finds V c Y m v g b P T W U) (i : Fin 8) (a : Fin 1) (o : Fin 128) :
    ((dat4 V c).arrAt 8 cfg4.N : S8x1x128.Idx → EReal) (ix3 i a o)
      = ((∑ s, ∑ k ∈ Finset.range 16, value (Y i) m v g b (P i) (T i) W U s o k : ℝ) : EReal) := by
  have e : ((dat4 V c).arrAt 8 cfg4.N : S8x1x128.Idx → EReal)
      = fun i => ((∑ s, ∑ k ∈ Finset.range 16, value (Y (i 0)) m v g b (P (i 0)) (T (i 0)) W U s (i 2) k : ℝ) : EReal) := by
    refine (dat4 V c).arrAt_eq_of_covers 8 _ (by decide +kernel) fun t hf y => ?_
    blk_simp
    rw [after4_8, left_8 h t]
    have e : ((View.whole main_v60_2).slice (win4_8.rect t)).emb y = (ix3 (pt4 t) (y 1) (y 2) : S8x1x128.Idx) := by blk_ext [idx4_8 t]
    rw [e]
    rfl
  exact congrFun e (ix3 i a o)

set_option maxHeartbeats 2000000 in
/-- The sum of their squares. -/
theorem reg4_9 (h : Finds V c Y m v g b P T W U) (i : Fin 8) (a : Fin 1) (o : Fin 128) :
    ((dat4 V c).arrAt 9 cfg4.N : S8x1x128.Idx → EReal) (ix3 i a o)
      = ((∑ s, ∑ k ∈ Finset.range 16, value (Y i) m v g b (P i) (T i) W U s o k * value (Y i) m v g b (P i) (T i) W U s o k : ℝ) : EReal) := by
  have e : ((dat4 V c).arrAt 9 cfg4.N : S8x1x128.Idx → EReal)
      = fun i => ((∑ s, ∑ k ∈ Finset.range 16,
          value (Y (i 0)) m v g b (P (i 0)) (T (i 0)) W U s (i 2) k * value (Y (i 0)) m v g b (P (i 0)) (T (i 0)) W U s (i 2) k : ℝ) : EReal) := by
    refine (dat4 V c).arrAt_eq_of_covers 9 _ (by decide +kernel) fun t hf y => ?_
    blk_simp
    rw [after4_9, left_9 h t]
    have e : ((View.whole main_v60_3).slice (win4_9.rect t)).emb y = (ix3 (pt4 t) (y 1) (y 2) : S8x1x128.Idx) := by blk_ext [idx4_9 t]
    rw [e]
    rfl
  exact congrFun e (ix3 i a o)

end Cert.Proof.Ker.Grp1

end
-- ==== Proof.Region5.lean ====
/-
  The last call's array: the largest values, normalised, scaled, shifted, relu.
-/
module

public import proofs.«01_k».proof.Proof.Gen.KernelIdeal.Frame
public import proofs.«01_k».proof.Proof.KerGroup
public import Idealize.ShloMosaic.Lib.Pipeline.ValueKit

@[expose] public section

set_option maxRecDepth 16384

noncomputable section

namespace Cert.Proof.Ker.Fin

open Idealize.ShloMosaic Idealize.ShloMosaic.TcCoe
open Idealize.SL Idealize.SL.RA
open Cert.KernelIdeal Cert.KernelIdeal.Gen Cert.Proof.Spec Cert.Proof.Reals
open scoped BigOperators

/-- The body's one value. -/
theorem pay1 {v0 v2 v4 v6 : S1x128.Idx → EReal} {v8 : S1x128x128.Idx → EReal} {q : Fin 128 → Fin 128 → ℝ} {m v : Fin 128 → ℝ} {g b : Fin 128 → EReal}
    (hm : ∀ a o, v0 (ix2 a o) = (m o : EReal)) (hr : ∀ a o, v2 (ix2 a o) = (((Real.sqrt (v o + eps))⁻¹ : ℝ) : EReal))
    (hg : ∀ a o, v4 (ix2 a o) = g o) (hb : ∀ a o, v6 (ix2 a o) = b o) (h8 : ∀ a s o, v8 (ix3 a s o) = (q s o : EReal))
    (a : Fin 1) (s o : Fin 128) : k5_pay1 (F := Ideal) v0 v2 v4 v6 v8 (ix3 a s o) = max (ebn (m o) (v o) (g o) (b o) (q s o)) 0 := by
  unfold k5_pay1
  pointwise
  rw [h8, hm, hr, hg, hb]
  exact relu_ebn_coe _ _ _ _ _

variable (V : (c : Dev nD) → (b : Ref sig .tc) → b.ty.Contents (Elt Ideal)) (c : Dev nD)

/-- A grid point as an example's index. -/
def pt5 (t : Fin cfg5.N) : Fin 8 := ⟨t.val, t.isLt⟩

theorem idx5_0 : ∀ t : Fin cfg5.N, win5_0.index t = ![(pt5 t).val, 0, 0] := (by decide +kernel : ∀ t : Fin grid5.N, win5_0.index t = ![t.val, 0, 0])
theorem idx5_1 : ∀ t : Fin cfg5.N, win5_1.index t = ![0, 0] := (by decide +kernel : ∀ t : Fin grid5.N, win5_1.index t = ![0, 0])
theorem idx5_2 : ∀ t : Fin cfg5.N, win5_2.index t = ![(pt5 t).val, 0, 0] := (by decide +kernel : ∀ t : Fin grid5.N, win5_2.index t = ![t.val, 0, 0])

theorem blk5_0 (t : Fin cfg5.N) (a : Fin 1) (s : Fin 128) (o : Fin 128) :
    (iblk5 V c 0 t : S1x128x128.Idx → EReal) (ix3 a s o) = (V c main_v60_0 : S8x128x128.Idx → EReal) (ix3 (pt5 t) s o) := by
  blk_simp [iblk5]
  refine congrArg (V c main_v60_0 : S8x128x128.Idx → EReal) ?_
  blk_ext [idx5_0 t]
theorem blk5_1 (t : Fin cfg5.N) (j : Fin 4) (o : Fin 128) :
    (iblk5 V c 1 t : S4x128.Idx → EReal) (ix2 j o) = (V c main_v78 : S4x128.Idx → EReal) (ix2 j o) := by
  blk_simp [iblk5]
  refine congrArg (V c main_v78 : S4x128.Idx → EReal) ?_
  blk_ext [idx5_1 t]

variable {V c}
variable {q : Fin 8 → Fin 128 → Fin 128 → ℝ} {m v : Fin 128 → ℝ} {g b : Fin 128 → EReal}

set_option maxHeartbeats 1000000 in
/-- The second result. -/
theorem reg5_2 (hq : ∀ i s o, (V c main_v60_0 : S8x128x128.Idx → EReal) (ix3 i s o) = (q i s o : EReal))
    (hm : ∀ o, (V c main_v78 : S4x128.Idx → EReal) (ix2 0 o) = (m o : EReal))
    (hr : ∀ o, (V c main_v78 : S4x128.Idx → EReal) (ix2 1 o) = (((Real.sqrt (v o + eps))⁻¹ : ℝ) : EReal))
    (hg : ∀ o, (V c main_v78 : S4x128.Idx → EReal) (ix2 2 o) = g o)
    (hb : ∀ o, (V c main_v78 : S4x128.Idx → EReal) (ix2 3 o) = b o) (i : Fin 8) (s o : Fin 128) :
    ((dat5 V c).arrAt 2 cfg5.N : S8x128x128.Idx → EReal) (ix3 i s o) = max (ebn (m o) (v o) (g o) (b o) (q i s o)) 0 := by
  have h : ((dat5 V c).arrAt 2 cfg5.N : S8x128x128.Idx → EReal) = fun i => max (ebn (m (i 2)) (v (i 2)) (g (i 2)) (b (i 2)) (q (i 0) (i 1) (i 2))) 0 := by
    refine (dat5 V c).arrAt_eq_of_covers 2 _ (by decide +kernel) fun t hf y => ?_
    blk_simp
    rw [after5_2]
    frame_out
    have e : ((View.whole main_v79).slice (win5_2.rect t)).emb y = (ix3 (pt5 t) (y 1) (y 2) : S8x128x128.Idx) := by blk_ext [idx5_2 t]
    rw [e, show y = ix3 (y 0) (y 1) (y 2) from eq_ix3 y]
    refine pay1 (q := q (pt5 t)) ?_ ?_ ?_ ?_ ?_ _ _ _
    · intro a o; rw [View.ld_apply]; pointwise; exact (blk5_1 V c t 0 o).trans (hm o)
    · intro a o; rw [View.ld_apply]; pointwise; exact (blk5_1 V c t 1 o).trans (hr o)
    · intro a o; rw [View.ld_apply]; pointwise; exact (blk5_1 V c t 2 o).trans (hg o)
    · intro a o; rw [View.ld_apply]; pointwise; exact (blk5_1 V c t 3 o).trans (hb o)
    · intro a s o
      exact (blk5_0 V c t a s o).trans (hq _ _ _)
  exact congrFun h (ix3 i s o)

end Cert.Proof.Ker.Fin

end
-- ==== Proof.KerVal.lean ====
/-
  The kernel's two results as real functions of its arguments: its calls and the host operations between them, one after another.
-/
module

public import proofs.«01_k».proof.Proof.KerHost
public import proofs.«01_k».proof.Proof.RefVal
public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Region5

@[expose] public section

set_option maxRecDepth 16384

noncomputable section

namespace Cert.Proof.Ker

open Idealize.ShloMosaic
open Cert.KernelIdeal Cert.KernelIdeal.Gen Cert.Proof.Select Cert.Proof.Spec Cert.Proof.Reals Cert.Proof.Lanes
open TcCoe StableHlo
open scoped BigOperators

/-! ## The sums a normalisation is given -/

/-- From the sums over each example: the mean, the variance. -/
theorem sums {B S K : ℕ} (f : Fin B → Fin S → Fin K → ℝ) {n : ℝ} (hn : cnt B S K = n) (h0 : 0 < n) :
    (∑ i, ∑ s, ∑ k, f i s k) / n = mean3 f (cnt B S K)
      ∧ (∑ i, ∑ s, ∑ k, f i s k * f i s k) / n - mean3 f (cnt B S K) * mean3 f (cnt B S K) = var3 f (cnt B S K)
      ∧ 0 ≤ var3 f (cnt B S K) := by
  have e : cnt B S K = (B : ℝ) * S * K := rfl
  rw [var3_eq f e (by rw [hn]; exact h0.ne'), ← var3_eq f e (by rw [hn]; exact h0.ne'), ← hn]
  exact ⟨rfl, (var3_eq f e (by rw [hn]; exact h0.ne')).symm, var3_nonneg f (by rw [hn]; exact h0.le)⟩

/-! ## A level's values -/

variable (A : Args)

/-- The halves of a level's map: of a neighbour's features, and of the centre's. -/
def near2 (w : Fin 128 → Fin 256 → ℝ) (c o : Fin 128) : ℝ := w o ⟨c.val, by omega⟩
def here2 (w : Fin 128 → Fin 256 → ℝ) (c o : Fin 128) : ℝ := w o ⟨128 + c.val, by omega⟩ - w o ⟨c.val, by omega⟩

/-- The first level's values before the normalisation, and its largest of each group. -/
def val0 (i : Fin 8) (s : Fin 512) (k : Fin 32) (o : Fin 128) : ℝ := val 512 32 A.pts0 A.feat0 A.w0 i s k o
def top0 (i : Fin 8) (s : Fin 512) (o : Fin 128) : ℝ := most fun k => val0 A i s k o
/-- The second's. -/
def val1 (i : Fin 8) (s : Fin 128) (k : Fin 16) (o : Fin 128) : ℝ := val 128 16 A.pts1 A.feat1 A.w1 i s k o
def top1 (i : Fin 8) (s : Fin 128) (o : Fin 128) : ℝ := most fun k => val1 A i s k o

def mean0 : Fin 128 → ℝ := mean 512 32 A.pts0 A.feat0 A.w0
def var0 : Fin 128 → ℝ := var 512 32 A.pts0 A.feat0 A.w0
def mean1 : Fin 128 → ℝ := mean 128 16 A.pts1 A.feat1 A.w1
def var1 : Fin 128 → ℝ := var 128 16 A.pts1 A.feat1 A.w1

/-- The third call's values are the first level's. -/
theorem value0 (i : Fin 8) (s : Fin 512) (k : Fin 32) (o : Fin 128) :
    Grp0.value (lin A.x A.f A.w i) (lmean A.x A.f A.w) (lvar A.x A.f A.w) A.g A.b (A.pts0 i) (fun s => far (A.pts0 i) s.val) (near2 A.w0) (here2 A.w0) s o k.val
      = val0 A i s k o := by
  unfold val0
  rw [val_eq]
  rfl

/-- The fifth call's values are the second level's. -/
theorem value1 (h0 : ∀ o, 0 ≤ A.g0 o) (i : Fin 8) (s : Fin 128) (k : Fin 16) (o : Fin 128) :
    Grp1.value (top0 A i) (mean0 A) (var0 A) A.g0 A.b0 (A.pts1 i) (fun s => far (A.pts1 i) s.val) (near2 A.w1) (here2 A.w1) s o k.val
      = val1 A i s k o := by
  have e : A.feat1 = fun i n c => relu (bn (mean0 A c) (var0 A c) (A.g0 c) (A.b0 c) (top0 A i n c)) := by
    funext i n c
    exact feat_eq 512 32 A.pts0 A.feat0 A.w0 A.g0 A.b0 h0 i n c
  unfold val1
  rw [val_eq]
  unfold half halfDiff
  rw [e]
  rfl

/-! ## The chain -/

/-- The arguments' contents. -/
structure Holds (m : (ℓ : Loc nD τ sig) → Buf (Elt Ideal) ℓ) (c : Dev nD) : Prop where
  x : Is3 (m ((c : Thread nD τ).loc main_arg0) : S8x2048x3.Idx → EReal) A.x
  f : Is3 (m ((c : Thread nD τ).loc main_arg1) : S8x2048x3.Idx → EReal) A.f
  w : Is2 (m ((c : Thread nD τ).loc main_arg2) : S128x6.Idx → EReal) A.w
  g : Is1 (m ((c : Thread nD τ).loc main_arg3) : S128.Idx → EReal) A.g
  b : Is1 (m ((c : Thread nD τ).loc main_arg4) : S128.Idx → EReal) A.b
  w0 : Is2 (m ((c : Thread nD τ).loc main_arg5) : S128x256.Idx → EReal) A.w0
  g0 : Is1 (m ((c : Thread nD τ).loc main_arg6) : S128.Idx → EReal) A.g0
  b0 : Is1 (m ((c : Thread nD τ).loc main_arg7) : S128.Idx → EReal) A.b0
  w1 : Is2 (m ((c : Thread nD τ).loc main_arg8) : S128x256.Idx → EReal) A.w1
  g1 : Ex1 (m ((c : Thread nD τ).loc main_arg9) : S128.Idx → EReal) A.g1
  b1 : Ex1 (m ((c : Thread nD τ).loc main_arg10) : S128.Idx → EReal) A.b1

variable {A} {m : (ℓ : Loc nD τ sig) → Buf (Elt Ideal) ℓ} (ρ : Dev nD → PrngReg) {c : Dev nD} (h : Holds A m c)
include h

/-! ### The first call -/

theorem at1_x : Is3 (V1 m ρ c main_arg0 : S8x2048x3.Idx → EReal) A.x := h.x.of_eq (W1_args m ρ c _ (by decide))
theorem at1_f : Is3 (V1 m ρ c main_arg1 : S8x2048x3.Idx → EReal) A.f := h.f.of_eq (W1_args m ρ c _ (by decide))
theorem at1_w (j : Fin 6) (o : Fin 128) : (V1 m ρ c main_v0 : S6x128.Idx → EReal) (ix2 j o) = (A.w o j : EReal) :=
  host0_v0 _ (h.w.of_eq (W0_args m ρ c _ (by decide))) j o

theorem at2_center : Is3 (W2 m ρ c (Proc.devRef .tc main_v1_0) : S8x1x3.Idx → EReal) (fun i _ j => center A.x i j) :=
  (reg0_3 (V1 m ρ) c (at1_x ρ h)).of_eq (W2_arr m ρ c 3)
theorem at2_pts : Is3 (W2 m ρ c (Proc.devRef .tc main_v1_1) : S8x2048x3.Idx → EReal) A.pts0 :=
  (reg0_4 (V1 m ρ) c (at1_x ρ h)).of_eq (W2_arr m ρ c 4)
theorem at2_lin : Is3 (W2 m ρ c (Proc.devRef .tc main_v1_2) : S8x2048x128.Idx → EReal) (lin A.x A.f A.w) :=
  (reg0_5 (V1 m ρ) c (at1_x ρ h) (at1_f ρ h) (at1_w ρ h)).of_eq (W2_arr m ρ c 5)
theorem at2_sum : Is3 (W2 m ρ c (Proc.devRef .tc main_v1_3) : S8x1x128.Idx → EReal) (fun i _ o => ∑ n, lin A.x A.f A.w i n o) :=
  (reg0_6 (V1 m ρ) c (at1_x ρ h) (at1_f ρ h) (at1_w ρ h)).of_eq (W2_arr m ρ c 6)
theorem at2_sqs : Is3 (W2 m ρ c (Proc.devRef .tc main_v1_4) : S8x1x128.Idx → EReal) (fun i _ o => ∑ n, lin A.x A.f A.w i n o * lin A.x A.f A.w i n o) :=
  (reg0_7 (V1 m ρ) c (at1_x ρ h) (at1_f ρ h) (at1_w ρ h)).of_eq (W2_arr m ρ c 7)

theorem at3_center : Is2 (W3 m ρ c (Proc.devRef .tc main_v2) : S8x3.Idx → EReal) (center A.x) := host1_v2 _ (at2_center ρ h)
theorem at3_rows : Rows (W3 m ρ c (Proc.devRef .tc main_v20) : S4x128.Idx → EReal) (lmean A.x A.f A.w) (lvar A.x A.f A.w) (fun o => (A.g o : EReal)) (fun o => (A.b o : EReal)) := by
  have e := fun o => sums (fun i n (_ : Fin 1) => lin A.x A.f A.w i n o) (n := 16384) (by norm_num [cnt]) (by norm_num)
  simp only [Finset.univ_unique, Finset.sum_singleton] at e
  exact host1_v20 _ (at2_sum ρ h) (at2_sqs ρ h) (h.g.of_eq (W2_args m ρ c _ (by decide))) (h.b.of_eq (W2_args m ρ c _ (by decide)))
    (fun o => (e o).1) (fun o => (e o).2.1) (fun o => (e o).2.2)
theorem at3_pts (i : Fin 8) (j : Fin 3) (n : Fin 2048) : (V3 m ρ c main_v21 : S8x3x2048.Idx → EReal) (ix3 i j n) = (A.pts0 i n j : EReal) :=
  host1_v21 _ (at2_pts ρ h) i j n

/-! ### The second and the third -/

theorem at4_far (s : Fin 512) (i : Fin 8) : (W4 m ρ c (Proc.devRef .tc main_v22) : S512x8.Idx → BitVec 32) (ix2 s i) = word (far (A.pts0 i) s.val) :=
  (congrFun (W4_arr m ρ c 1) (ix2 s i)).trans (Fps0.reg1_1 (V3 m ρ) c (at3_pts ρ h) s i)

theorem finds0 : Grp0.Finds (V5 m ρ) c (lin A.x A.f A.w) (lmean A.x A.f A.w) (lvar A.x A.f A.w) A.g A.b A.pts0 (fun i s => far (A.pts0 i) s.val)
    (near2 A.w0) (here2 A.w0) := by
  have k20 : W5 m ρ c (Proc.devRef .tc main_v20) = W3 m ρ c (Proc.devRef .tc main_v20) :=
    (W5_of m ρ c main_v20 (by decide)).trans (W4_of m ρ c main_v20 (by decide))
  have k21 : W5 m ρ c (Proc.devRef .tc main_v21) = W3 m ρ c (Proc.devRef .tc main_v21) :=
    (W5_of m ρ c main_v21 (by decide)).trans (W4_of m ρ c main_v21 (by decide))
  have k1 : W5 m ρ c (Proc.devRef .tc main_v1_2) = W2 m ρ c (Proc.devRef .tc main_v1_2) :=
    (W5_of m ρ c main_v1_2 (by decide)).trans ((W4_of m ρ c main_v1_2 (by decide)).trans (W3_of m ρ c main_v1_2 (by decide)))
  have r := at3_rows ρ h
  rw [← k20] at r
  exact {
    y := (at2_lin ρ h).of_eq k1
    m := fun o => (r o).1
    r := fun o => (r o).2.1
    g := fun o => (r o).2.2.1
    b := fun o => (r o).2.2.2
    p := fun i j n => (congrFun k21 (ix3 i j n)).trans (at3_pts ρ h i j n)
    t := host2_v24 _ (at4_far ρ h)
    W := host2_v26 _ (h.w0.of_eq (W4_args m ρ c _ (by decide)))
    U := host2_v30 _ (h.w0.of_eq (W4_args m ρ c _ (by decide))) }

theorem at6_top : Is3 (W6 m ρ c (Proc.devRef .tc main_v31_0) : S8x512x128.Idx → EReal) (top0 A) := by
  intro i s o
  refine (congrFun (W6_arr m ρ c 6) (ix3 i s o)).trans ((Grp0.reg2_6 (finds0 ρ h) i s o).trans ?_)
  rw [upTo_eq]
  exact congrArg (fun f => ((most f : ℝ) : EReal)) (funext fun k => value0 A i s k o)
theorem at6_pts : Is3 (W6 m ρ c (Proc.devRef .tc main_v31_1) : S8x512x3.Idx → EReal) A.pts1 := fun i s j =>
  (congrFun (W6_arr m ρ c 7) (ix3 i s j)).trans (Grp0.reg2_7 (finds0 ρ h) i s j)
theorem at6_sum : Is3 (W6 m ρ c (Proc.devRef .tc main_v31_2) : S8x1x128.Idx → EReal) (fun i _ o => ∑ s, ∑ k, val0 A i s k o) := by
  intro i a o
  refine (congrFun (W6_arr m ρ c 8) (ix3 i a o)).trans ((Grp0.reg2_8 (finds0 ρ h) i a o).trans ?_)
  simp only [Finset.sum_range, value0]
theorem at6_sqs : Is3 (W6 m ρ c (Proc.devRef .tc main_v31_3) : S8x1x128.Idx → EReal) (fun i _ o => ∑ s, ∑ k, val0 A i s k o * val0 A i s k o) := by
  intro i a o
  refine (congrFun (W6_arr m ρ c 9) (ix3 i a o)).trans ((Grp0.reg2_9 (finds0 ρ h) i a o).trans ?_)
  simp only [Finset.sum_range, value0]

theorem at7_rows : Rows (W7 m ρ c (Proc.devRef .tc main_v49) : S4x128.Idx → EReal) (mean0 A) (var0 A) (fun o => (A.g0 o : EReal)) (fun o => (A.b0 o : EReal)) := by
  have e := fun o => sums (fun i s k => val0 A i s k o) (n := 131072) (by norm_num [cnt]) (by norm_num)
  exact host3_v49 _ (at6_sum ρ h) (at6_sqs ρ h) (h.g0.of_eq (W6_args m ρ c _ (by decide))) (h.b0.of_eq (W6_args m ρ c _ (by decide)))
    (fun o => (e o).1) (fun o => (e o).2.1) (fun o => (e o).2.2)
theorem at7_pts (i : Fin 8) (j : Fin 3) (n : Fin 512) : (V7 m ρ c main_v50 : S8x3x512.Idx → EReal) (ix3 i j n) = (A.pts1 i n j : EReal) :=
  host3_v50 _ (at6_pts ρ h) i j n

/-! ### The fourth and the fifth -/

theorem at8_far (s : Fin 128) (i : Fin 8) : (W8 m ρ c (Proc.devRef .tc main_v51) : S128x8.Idx → BitVec 32) (ix2 s i) = word (far (A.pts1 i) s.val) :=
  (congrFun (W8_arr m ρ c 1) (ix2 s i)).trans (Fps1.reg3_1 (V7 m ρ) c (at7_pts ρ h) s i)

theorem finds1 : Grp1.Finds (V9 m ρ) c (top0 A) (mean0 A) (var0 A) A.g0 A.b0 A.pts1 (fun i s => far (A.pts1 i) s.val) (near2 A.w1) (here2 A.w1) := by
  have k49 : W9 m ρ c (Proc.devRef .tc main_v49) = W7 m ρ c (Proc.devRef .tc main_v49) :=
    (W9_of m ρ c main_v49 (by decide)).trans (W8_of m ρ c main_v49 (by decide))
  have k50 : W9 m ρ c (Proc.devRef .tc main_v50) = W7 m ρ c (Proc.devRef .tc main_v50) :=
    (W9_of m ρ c main_v50 (by decide)).trans (W8_of m ρ c main_v50 (by decide))
  have k31 : W9 m ρ c (Proc.devRef .tc main_v31_0) = W6 m ρ c (Proc.devRef .tc main_v31_0) :=
    (W9_of m ρ c main_v31_0 (by decide)).trans ((W8_of m ρ c main_v31_0 (by decide)).trans (W7_of m ρ c main_v31_0 (by decide)))
  have r := at7_rows ρ h
  rw [← k49] at r
  exact {
    y := (at6_top ρ h).of_eq k31
    m := fun o => (r o).1
    r := fun o => (r o).2.1
    g := fun o => (r o).2.2.1
    b := fun o => (r o).2.2.2
    p := fun i j n => (congrFun k50 (ix3 i j n)).trans (at7_pts ρ h i j n)
    t := host4_v53 _ (at8_far ρ h)
    W := host4_v55 _ (h.w1.of_eq (W8_args m ρ c _ (by decide)))
    U := host4_v59 _ (h.w1.of_eq (W8_args m ρ c _ (by decide))) }

variable (p0 : ∀ o, 0 ≤ A.g0 o)
include p0

theorem at10_top : Is3 (W10 m ρ c (Proc.devRef .tc main_v60_0) : S8x128x128.Idx → EReal) (top1 A) := by
  intro i s o
  refine (congrFun (W10_arr m ρ c 6) (ix3 i s o)).trans ((Grp1.reg4_6 (finds1 ρ h) i s o).trans ?_)
  rw [upTo_eq]
  exact congrArg (fun f => ((most f : ℝ) : EReal)) (funext fun k => value1 A p0 i s k o)
theorem at10_sum : Is3 (W10 m ρ c (Proc.devRef .tc main_v60_2) : S8x1x128.Idx → EReal) (fun i _ o => ∑ s, ∑ k, val1 A i s k o) := by
  intro i a o
  refine (congrFun (W10_arr m ρ c 8) (ix3 i a o)).trans ((Grp1.reg4_8 (finds1 ρ h) i a o).trans ?_)
  simp only [Finset.sum_range, value1 A p0]
theorem at10_sqs : Is3 (W10 m ρ c (Proc.devRef .tc main_v60_3) : S8x1x128.Idx → EReal) (fun i _ o => ∑ s, ∑ k, val1 A i s k o * val1 A i s k o) := by
  intro i a o
  refine (congrFun (W10_arr m ρ c 9) (ix3 i a o)).trans ((Grp1.reg4_9 (finds1 ρ h) i a o).trans ?_)
  simp only [Finset.sum_range, value1 A p0]

theorem at11_rows : Rows (W11 m ρ c (Proc.devRef .tc main_v78) : S4x128.Idx → EReal) (mean1 A) (var1 A) A.g1 A.b1 := by
  have e := fun o => sums (fun i s k => val1 A i s k o) (n := 16384) (by norm_num [cnt]) (by norm_num)
  exact host5_v78 _ (at10_sum ρ h p0) (at10_sqs ρ h p0) (h.g1.of_eq (W10_args m ρ c _ (by decide))) (h.b1.of_eq (W10_args m ρ c _ (by decide)))
    (fun o => (e o).1) (fun o => (e o).2.1) (fun o => (e o).2.2)

/-! ### The results -/

omit p0 in
/-- The first result: the centres. -/
theorem out_center : Is2 (W12 m ρ c (Proc.devRef .tc main_v2) : S8x3.Idx → EReal) (center A.x) :=
  (at3_center ρ h).of_eq ((W12_of m ρ c main_v2 (by decide)).trans ((W11_of m ρ c main_v2 (by decide)).trans ((W10_of m ρ c main_v2 (by decide)).trans
    ((W9_of m ρ c main_v2 (by decide)).trans ((W8_of m ρ c main_v2 (by decide)).trans ((W7_of m ρ c main_v2 (by decide)).trans
      ((W6_of m ρ c main_v2 (by decide)).trans ((W5_of m ρ c main_v2 (by decide)).trans (W4_of m ρ c main_v2 (by decide))))))))))

/-- The second: the second level's features. -/
theorem out_feat (p1 : ∀ o, 0 ≤ A.g1 o) : Ex3 (W12 m ρ c (Proc.devRef .tc main_v79) : S8x128x128.Idx → EReal) A.feat2 := by
  intro i s o
  have r := at11_rows ρ h p0
  have k : W11 m ρ c (Proc.devRef .tc main_v60_0) = W10 m ρ c (Proc.devRef .tc main_v60_0) := W11_of m ρ c main_v60_0 (by decide)
  refine (congrFun (W12_arr m ρ c 2) (ix3 i s o)).trans ((Fin.reg5_2 (V := V11 m ρ) (c := c) (q := top1 A) ((at10_top ρ h p0).of_eq k)
    (fun o => (r o).1) (fun o => (r o).2.1) (fun o => (r o).2.2.1) (fun o => (r o).2.2.2) i s o).trans ?_)
  exact (efeat_eq 128 16 A.pts1 A.feat1 A.w1 p1 i s o).symm

end Cert.Proof.Ker

end
-- ==== Proof.Algebraic.lean ====
/-
  Over the reals the kernel's results are the reference's.
-/
module

public import proofs.«01_k».proof.Defs
public import proofs.«01_k».proof.Proof.KerRun
public import proofs.«01_k».proof.Proof.KerVal
public import proofs.«01_k».proof.Proof.Frames
public import proofs.«01_k».proof.Proof.Pre

@[expose] public section

set_option maxRecDepth 16384

noncomputable section

namespace Cert.Proof

open Idealize.ShloMosaic Idealize.SL.Sem

/-- Two arrays that hold the same reals are equal. -/
theorem Is2.unique {a b : ℕ} {v v' : (⟨2, ![a, b]⟩ : Shape).Idx → EReal} {f : Fin a → Fin b → ℝ} (h : Is2 v f) (h' : Is2 v' f) : v = v' := by
  funext i
  rw [eq_ix2 i]
  exact (h _ _).trans (h' _ _).symm
theorem Is3.unique {a b c : ℕ} {v v' : (⟨3, ![a, b, c]⟩ : Shape).Idx → EReal} {f : Fin a → Fin b → Fin c → ℝ} (h : Is3 v f) (h' : Is3 v' f) : v = v' := by
  funext i
  rw [eq_ix3 i]
  exact (h _ _ _).trans (h' _ _ _).symm

theorem Ex3.unique {a b c : ℕ} {v v' : (⟨3, ![a, b, c]⟩ : Shape).Idx → EReal} {f : Fin a → Fin b → Fin c → EReal} (h : Ex3 v f) (h' : Ex3 v' f) : v = v' := by
  funext i
  rw [eq_ix3 i]
  exact (h _ _ _).trans (h' _ _ _).symm

namespace Ker

open Cert.KernelIdeal Cert.KernelIdeal.Gen

/-- A buffer outside the kernels is among those the run speaks of. -/
theorem mem_uc (b : Ref sig .tc) (h : (Proc.devRef .tc b : DevRef τ sig).isScoped = false) : (Proc.devRef .tc b : DevRef τ sig) ∈ Pipeline.ucRefs τ sig :=
  Finset.mem_filter.mpr ⟨StableHlo.devRef_mem_tcRefs _, fun e => Bool.false_ne_true (h.symm.trans e)⟩

/-- Every TensorCore buffer outside the kernels ends at its value in the last valuation of the chain. -/
theorem ends (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ (c : Dev nD) (b : Ref sig .tc), (Proc.devRef .tc b : DevRef τ sig).isScoped = false →
        r.2.mem ((c.tc : Thread nD τ).loc b) = W12 m ρ c (Proc.devRef .tc b)) :=
  θ_run_mono (run m ρ) fun _ h c b hb => h.1 c _ (mem_uc b hb)

end Ker

/-- What the precondition says of a device's arguments, for the kernel … -/
theorem kernel_holds {m : (ℓ : Loc Cert.KernelIdeal.nD Cert.KernelIdeal.τ Cert.KernelIdeal.sig) → Buf (Elt Ideal) ℓ} {c : Dev Cert.KernelIdeal.nD}
    [Cert.Pre_finite_inputs.Facts] (h : Cert.Pre_KernelIdeal_finite_inputs m) :
    ∃ A : Args, Ker.Holds A m c ∧ (∀ o, 0 ≤ A.g0 o) ∧ ∀ o, 0 ≤ A.g1 o := by
  obtain ⟨A, r⟩ := Pre.decode _ _ _ _ _ _ _ _ _ _ _ (congrFun (h c) ix0)
  exact ⟨A, ⟨r.x, r.f, r.w, r.g, r.b, r.w0, r.g0, r.b0, r.w1, r.g1, r.b1⟩, r.p0, r.p1⟩

theorem algebraic [Cert.Pre_finite_inputs.Facts] :
    Cert.algebraic_KernelIdeal_ReferenceIdeal_pre_finite_inputs (hKernelIdeal := Cert.KernelIdeal.Gen.facts) (hReferenceIdeal := Cert.ReferenceIdeal.Gen.facts) := by
  intro m g m' g' hp he
  refine ⟨fun c => Cert.KernelIdeal.Gen.W12 m g c (Proc.devRef .tc Cert.KernelIdeal.main_v2), fun c => Cert.KernelIdeal.Gen.W12 m g c (Proc.devRef .tc Cert.KernelIdeal.main_v79),
    θ_run_mono (Ker.ends m g) fun r h c => ?_, θ_run_mono (Ref.run m' g') fun r h c => ?_⟩
  · have k := fun (a : Ref Cert.KernelIdeal.sig .tc) (ha : a ∈ Cert.KernelIdeal.Gen.argRefs) (hs : (Proc.devRef .tc a : DevRef Cert.KernelIdeal.τ Cert.KernelIdeal.sig).isScoped = false) =>
      (h c a hs).trans (Cert.KernelIdeal.Gen.W12_args m g c a ha)
    exact ⟨h c _ (by decide), h c _ (by decide), k _ (by decide) (by decide), k _ (by decide) (by decide), k _ (by decide) (by decide), k _ (by decide) (by decide), k _ (by decide) (by decide),
      k _ (by decide) (by decide), k _ (by decide) (by decide), k _ (by decide) (by decide), k _ (by decide) (by decide), k _ (by decide) (by decide), k _ (by decide) (by decide)⟩
  · have k := fun (a : Ref Cert.ReferenceIdeal.sig .tc) (ha : a ∈ Ref.argRefs) (hs : (Proc.devRef .tc a : DevRef Cert.ReferenceIdeal.τ Cert.ReferenceIdeal.sig).isScoped = false) =>
      (h.1 c a hs).trans (Ref.fin_args m' c a ha)
    obtain ⟨A, a, p0, p1⟩ := kernel_holds (c := c) hp
    obtain ⟨e0, e1, e2, e3, e4, e5, e6, e7, e8, e9, e10⟩ := he c
    have a' : Ref.Holds (StableHlo.launchContents m' c) A := ⟨a.x.of_eq e0, a.f.of_eq e1, a.w.of_eq e2, a.g.of_eq e3, a.b.of_eq e4, a.w0.of_eq e5, a.g0.of_eq e6, a.b0.of_eq e7,
      a.w1.of_eq e8, a.g1.of_eq e9, a.b1.of_eq e10⟩
    exact ⟨(h.1 c _ (by decide)).trans ((Ref.fin_v2 m' c a').unique (Ker.out_center g a)), (h.1 c _ (by decide)).trans ((Ref.fin_v186 m' c a').unique (Ker.out_feat g a p0 p1)),
      k _ (by decide) (by decide), k _ (by decide) (by decide), k _ (by decide) (by decide), k _ (by decide) (by decide), k _ (by decide) (by decide),
      k _ (by decide) (by decide), k _ (by decide) (by decide), k _ (by decide) (by decide), k _ (by decide) (by decide), k _ (by decide) (by decide), k _ (by decide) (by decide)⟩

end Cert.Proof

end
-- ==== Proof.lean ====
/-
  The claims of `Defs.lean`, assembled: the frames of the three programs, the named constants' statements, and the
  equality of the kernel's results with the reference's over the reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Pre
public import proofs.«01_k».proof.Proof.Algebraic
public import Idealize.ShloMosaic.Adequacy
public import Idealize.ShloMosaic.Init

@[expose] public section

noncomputable section

namespace Cert.Proof

open Idealize.ShloMosaic Idealize.SL.Sem

/-- The reference's arguments end unchanged and its counters at zero. -/
theorem quiescent_reference [Cert.ReferenceIdeal.Facts] : Cert.quiescent_ReferenceIdeal :=
  fun m ρ _ => θ_run_mono (Ref.frame m ρ) fun _ h => ⟨fun c => ⟨h.1 c _ (by decide), h.1 c _ (by decide), h.1 c _ (by decide),
    h.1 c _ (by decide), h.1 c _ (by decide), h.1 c _ (by decide), h.1 c _ (by decide), h.1 c _ (by decide), h.1 c _ (by decide),
    h.1 c _ (by decide), h.1 c _ (by decide)⟩, h.2⟩

/-- The kernel's two named constants stand for minus and plus infinity. -/
theorem preserves : Cert.preserves_Kernel_KernelIdeal :=
  ⟨IdealRules.named_const.statement Cert.KernelIdeal.κ "low" .f32 0xFF61B1E6#32 ⊥ rfl,
    IdealRules.named_const.statement Cert.KernelIdeal.κ "far" .f32 0x7F61B1E6#32 ⊤ rfl⟩

theorem claim : Cert.Claim :=
  haveI := preFacts
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    quiescent_reference, fun m ρ _ => quiescent_reference m ρ trivial, preserves, algebraic⟩

end Cert.Proof

end
